-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_real_entries [hPre_real_entries : Cert.Pre_real_entries.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_real_entries.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_real_entries [hPre_real_entries : Cert.Pre_real_entries.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_real_entries.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_real_rows [hPre_real_rows : Cert.Pre_real_rows.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_real_rows.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_real_rows [hPre_real_rows : Cert.Pre_real_rows.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_real_rows.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Kernel7Ideal_pre_real_entries [hKernel7Ideal : Cert.Kernel7Ideal.Facts] [hPre_real_entries : Cert.Pre_real_entries.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_real_entries m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Reference7Ideal_pre_real_entries [hReference7Ideal : Cert.Reference7Ideal.Facts] [hPre_real_entries : Cert.Pre_real_entries.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_real_entries m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Kernel8Ideal_pre_real_rows [hKernel8Ideal : Cert.Kernel8Ideal.Facts] [hPre_real_rows : Cert.Pre_real_rows.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_real_rows m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Reference8Ideal_pre_real_rows [hReference8Ideal : Cert.Reference8Ideal.Facts] [hPre_real_rows : Cert.Pre_real_rows.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_real_rows m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v51_0)) (v1 : (c : Dev Cert.KernelIdeal.nD) → Buf (Elt Ideal) ((c.tc : Thread Cert.KernelIdeal.nD Cert.KernelIdeal.τ).loc Cert.KernelIdeal.main_v51_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51_0) = v0 c
          ∧ r.2.mem ((c.tc : Thread Cert.KernelIdeal.nD Cert.KernelIdeal.τ).loc Cert.KernelIdeal.main_v51_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v25_5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v51) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v51) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal_pre_real_entries [hKernel7Ideal : Cert.Kernel7Ideal.Facts] [hReference7Ideal : Cert.Reference7Ideal.Facts] [hPre_real_entries : Cert.Pre_real_entries.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_real_entries m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v39_0)) (v1 : (c : Dev Cert.Kernel7Ideal.nD) → Buf (Elt Ideal) ((c.tc : Thread Cert.Kernel7Ideal.nD Cert.Kernel7Ideal.τ).loc Cert.Kernel7Ideal.main_v39_1)) (v2 : (c : Dev Cert.Kernel7Ideal.nD) → Buf (Elt Ideal) ((c.tc : Thread Cert.Kernel7Ideal.nD Cert.Kernel7Ideal.τ).loc Cert.Kernel7Ideal.main_v39_2)) (v3 : (c : Dev Cert.Kernel7Ideal.nD) → Buf (Elt Ideal) ((c.tc : Thread Cert.Kernel7Ideal.nD Cert.Kernel7Ideal.τ).loc Cert.Kernel7Ideal.main_v39_3)) (v4 : (c : Dev Cert.Kernel7Ideal.nD) → Buf (Elt Ideal) ((c.tc : Thread Cert.Kernel7Ideal.nD Cert.Kernel7Ideal.τ).loc Cert.Kernel7Ideal.main_v39_4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v39_0) = v0 c
          ∧ r.2.mem ((c.tc : Thread Cert.Kernel7Ideal.nD Cert.Kernel7Ideal.τ).loc Cert.Kernel7Ideal.main_v39_1) = v1 c
          ∧ r.2.mem ((c.tc : Thread Cert.Kernel7Ideal.nD Cert.Kernel7Ideal.τ).loc Cert.Kernel7Ideal.main_v39_2) = v2 c
          ∧ r.2.mem ((c.tc : Thread Cert.Kernel7Ideal.nD Cert.Kernel7Ideal.τ).loc Cert.Kernel7Ideal.main_v39_3) = v3 c
          ∧ r.2.mem ((c.tc : Thread Cert.Kernel7Ideal.nD Cert.Kernel7Ideal.τ).loc Cert.Kernel7Ideal.main_v39_4) = v4 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v60) = v0 c
          ∧ r.2.mem ((c.tc : Thread Cert.Reference7Ideal.nD Cert.Reference7Ideal.τ).loc Cert.Reference7Ideal.main_v72) = v1 c
          ∧ r.2.mem ((c.tc : Thread Cert.Reference7Ideal.nD Cert.Reference7Ideal.τ).loc Cert.Reference7Ideal.main_v104) = v2 c
          ∧ r.2.mem ((c.tc : Thread Cert.Reference7Ideal.nD Cert.Reference7Ideal.τ).loc Cert.Reference7Ideal.main_v106) = v3 c
          ∧ r.2.mem ((c.tc : Thread Cert.Reference7Ideal.nD Cert.Reference7Ideal.τ).loc Cert.Reference7Ideal.main_v108) = v4 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal_pre_real_rows [hKernel8Ideal : Cert.Kernel8Ideal.Facts] [hReference8Ideal : Cert.Reference8Ideal.Facts] [hPre_real_rows : Cert.Pre_real_rows.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_real_rows m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v43_0)) (v1 : (c : Dev Cert.Kernel8Ideal.nD) → Buf (Elt Ideal) ((c.tc : Thread Cert.Kernel8Ideal.nD Cert.Kernel8Ideal.τ).loc Cert.Kernel8Ideal.main_v43_1)) (v2 : (c : Dev Cert.Kernel8Ideal.nD) → Buf (Elt Ideal) ((c.tc : Thread Cert.Kernel8Ideal.nD Cert.Kernel8Ideal.τ).loc Cert.Kernel8Ideal.main_v43_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v43_0) = v0 c
          ∧ r.2.mem ((c.tc : Thread Cert.Kernel8Ideal.nD Cert.Kernel8Ideal.τ).loc Cert.Kernel8Ideal.main_v43_1) = v1 c
          ∧ r.2.mem ((c.tc : Thread Cert.Kernel8Ideal.nD Cert.Kernel8Ideal.τ).loc Cert.Kernel8Ideal.main_v43_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v62) = v0 c
          ∧ r.2.mem ((c.tc : Thread Cert.Reference8Ideal.nD Cert.Reference8Ideal.τ).loc Cert.Reference8Ideal.main_v74) = v1 c
          ∧ r.2.mem ((c.tc : Thread Cert.Reference8Ideal.nD Cert.Reference8Ideal.τ).loc Cert.Reference8Ideal.main_v106) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def Claim : Prop :=
  ∃ (hKernel : Cert.Kernel.Facts) (hKernelIdeal : Cert.KernelIdeal.Facts) (hReferenceIdeal : Cert.ReferenceIdeal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_real_entries : Cert.Pre_real_entries.Facts) (hPre_real_rows : Cert.Pre_real_rows.Facts),
    quiescent_Kernel (hKernel := hKernel)
    ∧ quiescent_KernelIdeal (hKernelIdeal := hKernelIdeal)
    ∧ quiescent_ReferenceIdeal (hReferenceIdeal := hReferenceIdeal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_real_entries (hKernel7Ideal := hKernel7Ideal) (hPre_real_entries := hPre_real_entries)
    ∧ quiescent_Reference7Ideal (hReference7Ideal := hReference7Ideal)
    ∧ quiescent_Reference7Ideal_pre_real_entries (hReference7Ideal := hReference7Ideal) (hPre_real_entries := hPre_real_entries)
    ∧ quiescent_Kernel8 (hKernel8 := hKernel8)
    ∧ quiescent_Kernel8Ideal (hKernel8Ideal := hKernel8Ideal)
    ∧ quiescent_Kernel8Ideal_pre_real_rows (hKernel8Ideal := hKernel8Ideal) (hPre_real_rows := hPre_real_rows)
    ∧ quiescent_Reference8Ideal (hReference8Ideal := hReference8Ideal)
    ∧ quiescent_Reference8Ideal_pre_real_rows (hReference8Ideal := hReference8Ideal) (hPre_real_rows := hPre_real_rows)
    ∧ preserves_Kernel_KernelIdeal
    ∧ algebraic_KernelIdeal_ReferenceIdeal (hKernelIdeal := hKernelIdeal) (hReferenceIdeal := hReferenceIdeal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_real_entries (hKernel7Ideal := hKernel7Ideal) (hReference7Ideal := hReference7Ideal) (hPre_real_entries := hPre_real_entries)
    ∧ preserves_Kernel8_Kernel8Ideal
    ∧ algebraic_Kernel8Ideal_Reference8Ideal_pre_real_rows (hKernel8Ideal := hKernel8Ideal) (hReference8Ideal := hReference8Ideal) (hPre_real_rows := hPre_real_rows)
-- ==== Pre_real_entries.lean ====
abbrev S16384x1024 : Shape := ⟨2, ![16384, 1024]⟩
abbrev S1024x10240 : Shape := ⟨2, ![1024, 10240]⟩
abbrev S1x384 : Shape := ⟨2, ![1, 384]⟩
abbrev S384x1536 : Shape := ⟨2, ![384, 1536]⟩
abbrev S1x256 : Shape := ⟨2, ![1, 256]⟩
abbrev S256x2048 : Shape := ⟨2, ![256, 2048]⟩
abbrev S_ : Shape := ⟨0, ![]⟩

class Facts : Prop where
  bitsLt_bf16_f32 : FTy.bits .bf16 < FTy.bits .f32
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x10240 : S_.BroadcastsInDim S1024x10240 (![] : Fin 0 → Fin S1024x10240.rank)
  reducesTo_S1024x10240_S_d0_1 : S1024x10240.ReducesTo [0, 1] S_
  bcast_S_S1x384 : S_.BroadcastsInDim S1x384 (![] : Fin 0 → Fin S1x384.rank)
  reducesTo_S1x384_S_d0_1 : S1x384.ReducesTo [0, 1] S_
  bcast_S_S384x1536 : S_.BroadcastsInDim S384x1536 (![] : Fin 0 → Fin S384x1536.rank)
  reducesTo_S384x1536_S_d0_1 : S384x1536.ReducesTo [0, 1] S_

variable [Facts]

def fn_part1 {F : FTy → Type} [FloatOps F] (main_v15 : IVec S_ 1) (main_v16 : FVec F S384x1536 .f32) (main_cst_4 : FVec F S_ .f32) : IVec S_ 1 :=
  let main_v17 : FVec F S384x1536 .f32 := broadcastInDim S384x1536 ![] bcast_S_S384x1536 main_cst_4
  let main_v18 : IVec S384x1536 1 := cmpf .olt main_v16 main_v17
  let main_c_5 : IVec S_ 1 := constantI S_ 1 1#1
  let main_v19 : IVec S_ 1 := (fun x v => Host.reduce IntOp.andi x v reducesTo_S384x1536_S_d0_1 h_S_) main_v18 main_c_5
  let main_v20 : IVec S_ 1 := andi main_v15 main_v19
  main_v20

def fn {F : FTy → Type} [FloatOps F] (main_arg0 : FVec F S16384x1024 .bf16) (main_arg1 : FVec F S1024x10240 .bf16) (main_arg2 : FVec F S1x384 .f32) (main_arg3 : FVec F S384x1536 .f32) (main_arg4 : FVec F S1x256 .f32) (main_arg5 : FVec F S256x2048 .f32) : IVec S_ 1 :=
  let main_v0 : FVec F S16384x1024 .f32 := (extf .f32 · bitsLt_bf16_f32) main_arg0
  let main_v1 : FVec F S16384x1024 .f32 := Host.absf main_v0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_c : IVec S_ 1 := constantI S_ 1 1#1
  let main_v4 : IVec S_ 1 := (fun x v => Host.reduce IntOp.andi x v reducesTo_S16384x1024_S_d0_1 h_S_) main_v3 main_c
  let main_v5 : FVec F S1024x10240 .f32 := (extf .f32 · bitsLt_bf16_f32) main_arg1
  let main_v6 : FVec F S1024x10240 .f32 := Host.absf main_v5
  let main_cst_0 : FVec F S_ .f32 := constant S_ .f32 0x7F800000#32
  let main_v7 : FVec F S1024x10240 .f32 := broadcastInDim S1024x10240 ![] bcast_S_S1024x10240 main_cst_0
  let main_v8 : IVec S1024x10240 1 := cmpf .olt main_v6 main_v7
  let main_c_1 : IVec S_ 1 := constantI S_ 1 1#1
  let main_v9 : IVec S_ 1 := (fun x v => Host.reduce IntOp.andi x v reducesTo_S1024x10240_S_d0_1 h_S_) main_v8 main_c_1
  let main_v10 : IVec S_ 1 := andi main_v4 main_v9
  let main_v11 : FVec F S1x384 .f32 := Host.absf main_arg2
  let main_cst_2 : FVec F S_ .f32 := constant S_ .f32 0x7F800000#32
  let main_v12 : FVec F S1x384 .f32 := broadcastInDim S1x384 ![] bcast_S_S1x384 main_cst_2
  let main_v13 : IVec S1x384 1 := cmpf .olt main_v11 main_v12
  let main_c_3 : IVec S_ 1 := constantI S_ 1 1#1
  let main_v14 : IVec S_ 1 := (fun x v => Host.reduce IntOp.andi x v reducesTo_S1x384_S_d0_1 h_S_) main_v13 main_c_3
  let main_v15 : IVec S_ 1 := andi main_v10 main_v14
  let main_v16 : FVec F S384x1536 .f32 := Host.absf main_arg3
  let main_cst_4 : FVec F S_ .f32 := constant S_ .f32 0x7F800000#32
  fn_part1 (F := F) main_v15 main_v16 main_cst_4
-- ==== Pre_real_rows.lean ====
abbrev S512x1024 : Shape := ⟨2, ![512, 1024]⟩
abbrev S1024x10240 : Shape := ⟨2, ![1024, 10240]⟩
abbrev S1x384 : Shape := ⟨2, ![1, 384]⟩
abbrev S384x1536 : Shape := ⟨2, ![384, 1536]⟩
abbrev S1x256 : Shape := ⟨2, ![1, 256]⟩
abbrev S_ : Shape := ⟨0, ![]⟩

class Facts : Prop where
  bitsLt_bf16_f32 : FTy.bits .bf16 < FTy.bits .f32
  bcast_S_S512x1024 : S_.BroadcastsInDim S512x1024 (![] : Fin 0 → Fin S512x1024.rank)
  reducesTo_S512x1024_S_d0_1 : S512x1024.ReducesTo [0, 1] S_
  h_S_ : 0 < S_.numel
  bcast_S_S1024x10240 : S_.BroadcastsInDim S1024x10240 (![] : Fin 0 → Fin S1024x10240.rank)
  reducesTo_S1024x10240_S_d0_1 : S1024x10240.ReducesTo [0, 1] S_
  bcast_S_S1x384 : S_.BroadcastsInDim S1x384 (![] : Fin 0 → Fin S1x384.rank)
  reducesTo_S1x384_S_d0_1 : S1x384.ReducesTo [0, 1] S_
  bcast_S_S384x1536 : S_.BroadcastsInDim S384x1536 (![] : Fin 0 → Fin S384x1536.rank)
  reducesTo_S384x1536_S_d0_1 : S384x1536.ReducesTo [0, 1] S_

variable [Facts]

def fn_part1 {F : FTy → Type} [FloatOps F] (main_v15 : IVec S_ 1) (main_v16 : FVec F S384x1536 .f32) (main_cst_4 : FVec F S_ .f32) : IVec S_ 1 :=
  let main_v17 : FVec F S384x1536 .f32 := broadcastInDim S384x1536 ![] bcast_S_S384x1536 main_cst_4
  let main_v18 : IVec S384x1536 1 := cmpf .olt main_v16 main_v17
  let main_c_5 : IVec S_ 1 := constantI S_ 1 1#1
  let main_v19 : IVec S_ 1 := (fun x v => Host.reduce IntOp.andi x v reducesTo_S384x1536_S_d0_1 h_S_) main_v18 main_c_5
  let main_v20 : IVec S_ 1 := andi main_v15 main_v19
  main_v20

def fn {F : FTy → Type} [FloatOps F] (main_arg0 : FVec F S512x1024 .bf16) (main_arg1 : FVec F S1024x10240 .bf16) (main_arg2 : FVec F S1x384 .f32) (main_arg3 : FVec F S384x1536 .f32) (main_arg4 : FVec F S1x256 .f32) : IVec S_ 1 :=
  let main_v0 : FVec F S512x1024 .f32 := (extf .f32 · bitsLt_bf16_f32) main_arg0
  let main_v1 : FVec F S512x1024 .f32 := Host.absf main_v0
  let main_cst : FVec F S_ .f32 := constant S_ .f32 0x7F800000#32
  let main_v2 : FVec F S512x1024 .f32 := broadcastInDim S512x1024 ![] bcast_S_S512x1024 main_cst
  let main_v3 : IVec S512x1024 1 := cmpf .olt main_v1 main_v2
  let main_c : IVec S_ 1 := constantI S_ 1 1#1
  let main_v4 : IVec S_ 1 := (fun x v => Host.reduce IntOp.andi x v reducesTo_S512x1024_S_d0_1 h_S_) main_v3 main_c
  let main_v5 : FVec F S1024x10240 .f32 := (extf .f32 · bitsLt_bf16_f32) main_arg1
  let main_v6 : FVec F S1024x10240 .f32 := Host.absf main_v5
  let main_cst_0 : FVec F S_ .f32 := constant S_ .f32 0x7F800000#32
  let main_v7 : FVec F S1024x10240 .f32 := broadcastInDim S1024x10240 ![] bcast_S_S1024x10240 main_cst_0
  let main_v8 : IVec S1024x10240 1 := cmpf .olt main_v6 main_v7
  let main_c_1 : IVec S_ 1 := constantI S_ 1 1#1
  let main_v9 : IVec S_ 1 := (fun x v => Host.reduce IntOp.andi x v reducesTo_S1024x10240_S_d0_1 h_S_) main_v8 main_c_1
  let main_v10 : IVec S_ 1 := andi main_v4 main_v9
  let main_v11 : FVec F S1x384 .f32 := Host.absf main_arg2
  let main_cst_2 : FVec F S_ .f32 := constant S_ .f32 0x7F800000#32
  let main_v12 : FVec F S1x384 .f32 := broadcastInDim S1x384 ![] bcast_S_S1x384 main_cst_2
  let main_v13 : IVec S1x384 1 := cmpf .olt main_v11 main_v12
  let main_c_3 : IVec S_ 1 := constantI S_ 1 1#1
  let main_v14 : IVec S_ 1 := (fun x v => Host.reduce IntOp.andi x v reducesTo_S1x384_S_d0_1 h_S_) main_v13 main_c_3
  let main_v15 : IVec S_ 1 := andi main_v10 main_v14
  let main_v16 : FVec F S384x1536 .f32 := Host.absf main_arg3
  let main_cst_4 : FVec F S_ .f32 := constant S_ .f32 0x7F800000#32
  fn_part1 (F := F) main_v15 main_v16 main_cst_4
-- ==== Kernel.lean ====
abbrev S16384x2048 : Shape := ⟨2, ![16384, 2048]⟩
abbrev S16384x7168 : Shape := ⟨2, ![16384, 7168]⟩
abbrev S1x2048 : Shape := ⟨2, ![1, 2048]⟩
abbrev S4 : Shape := ⟨1, ![4]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S4x1 : Shape := ⟨2, ![4, 1]⟩
abbrev S4x128 : Shape := ⟨2, ![4, 128]⟩
abbrev S4x128x1 : Shape := ⟨3, ![4, 128, 1]⟩
abbrev S4x128x512 : Shape := ⟨3, ![4, 128, 512]⟩
abbrev S4x128x256 : Shape := ⟨3, ![4, 128, 256]⟩
abbrev S4x1x512 : Shape := ⟨3, ![4, 1, 512]⟩
abbrev S8x4x256x512 : Shape := ⟨4, ![8, 4, 256, 512]⟩
abbrev S2048x512 : Shape := ⟨2, ![2048, 512]⟩
abbrev S2048x1024 : Shape := ⟨2, ![2048, 1024]⟩
abbrev S1x1024 : Shape := ⟨2, ![1, 1024]⟩
abbrev S2x128x128 : Shape := ⟨3, ![2, 128, 128]⟩
abbrev S2x128x512 : Shape := ⟨3, ![2, 128, 512]⟩
abbrev S2x128x256 : Shape := ⟨3, ![2, 128, 256]⟩
abbrev S2x1x512 : Shape := ⟨3, ![2, 1, 512]⟩
abbrev S1x2x256x512 : Shape := ⟨4, ![1, 2, 256, 512]⟩
abbrev S2x256x512 : Shape := ⟨3, ![2, 256, 512]⟩
abbrev S128x256 : Shape := ⟨2, ![128, 256]⟩
abbrev S128x512 : Shape := ⟨2, ![128, 512]⟩
abbrev S1x256x512 : Shape := ⟨3, ![1, 256, 512]⟩
abbrev S256x512 : Shape := ⟨2, ![256, 512]⟩
abbrev S1x128x512 : Shape := ⟨3, ![1, 128, 512]⟩
abbrev S1x128x256 : Shape := ⟨3, ![1, 128, 256]⟩
abbrev S1x1x512 : Shape := ⟨3, ![1, 1, 512]⟩
abbrev S1x512 : Shape := ⟨2, ![1, 512]⟩

abbrev nBuf : Space → Nat
  | .hbm => 67
  | .vmem => 23
  | .smem => 0
  | _ => 0

abbrev bufTy : (tb : Table) → Fin (tcTables nBuf tb) → BufTy
  | .hbm, ⟨0, _⟩ => ⟨S16384x2048, .bf16⟩
  | .hbm, ⟨1, _⟩ => ⟨S16384x7168, .bf16⟩
  | .hbm, ⟨2, _⟩ => ⟨S1x2048, .f32⟩
  | .hbm, ⟨3, _⟩ => ⟨S4, .f32⟩
  | .hbm, ⟨4, _⟩ => ⟨S_, .f32⟩
  | .hbm, ⟨5, _⟩ => ⟨S4, .f32⟩
  | .hbm, ⟨6, _⟩ => ⟨S4, .f32⟩
  | .hbm, ⟨7, _⟩ => ⟨S_, .f32⟩
  | .hbm, ⟨8, _⟩ => ⟨S4, .f32⟩
  | .hbm, ⟨9, _⟩ => ⟨S4, .f32⟩
  | .hbm, ⟨10, _⟩ => ⟨S4, .f32⟩
  | .hbm, ⟨11, _⟩ => ⟨S4, .f32⟩
  | .hbm, ⟨12, _⟩ => ⟨S4, .f32⟩
  | .hbm, ⟨13, _⟩ => ⟨S128, .f32⟩
  | .hbm, ⟨14, _⟩ => ⟨S128x1, .f32⟩
  | .hbm, ⟨15, _⟩ => ⟨S1x128, .f32⟩
  | .hbm, ⟨16, _⟩ => ⟨S128x128, .f32⟩
  | .hbm, ⟨17, _⟩ => ⟨S128x128, .f32⟩
  | .hbm, ⟨18, _⟩ => ⟨S128x128, .f32⟩
  | .hbm, ⟨19, _⟩ => ⟨S_, .f32⟩
  | .hbm, ⟨20, _⟩ => ⟨S128x128, .f32⟩
  | .hbm, ⟨21, _⟩ => ⟨S128x128, .i1⟩
  | .hbm, ⟨22, _⟩ => ⟨S1x128x128, .i1⟩
  | .hbm, ⟨23, _⟩ => ⟨S_, .f32⟩
  | .hbm, ⟨24, _⟩ => ⟨S128x128, .f32⟩
  | .hbm, ⟨25, _⟩ => ⟨S128x128, .f32⟩
  | .hbm, ⟨26, _⟩ => ⟨S1x128x128, .f32⟩
  | .hbm, ⟨27, _⟩ => ⟨S4x1x1, .f32⟩
  | .hbm, ⟨28, _⟩ => ⟨S4x128x128, .f32⟩
  | .hbm, ⟨29, _⟩ => ⟨S4x128x128, .f32⟩
  | .hbm, ⟨30, _⟩ => ⟨S4x128x128, .f32⟩
  | .hbm, ⟨31, _⟩ => ⟨S4x128x128, .f32⟩
  | .hbm, ⟨32, _⟩ => ⟨S_, .f32⟩
  | .hbm, ⟨33, _⟩ => ⟨S_, .f32⟩
  | .hbm, ⟨34, _⟩ => ⟨S4x128x128, .i1⟩
  | .hbm, ⟨35, _⟩ => ⟨S4x128x128, .f32⟩
  | .hbm, ⟨36, _⟩ => ⟨S4x128x128, .f32⟩
  | .hbm, ⟨37, _⟩ => ⟨S1x128, .f32⟩
  | .hbm, ⟨38, _⟩ => ⟨S_, .f32⟩
  | .hbm, ⟨39, _⟩ => ⟨S1x128, .f32⟩
  | .hbm, ⟨40, _⟩ => ⟨S1x128, .f32⟩
  | .hbm, ⟨41, _⟩ => ⟨S4x1, .f32⟩
  | .hbm, ⟨42, _⟩ => ⟨S4x128, .f32⟩
  | .hbm, ⟨43, _⟩ => ⟨S4x128, .f32⟩
  | .hbm, ⟨44, _⟩ => ⟨S4x128, .f32⟩
  | .hbm, ⟨45, _⟩ => ⟨S4x128, .f32⟩
  | .hbm, ⟨46, _⟩ => ⟨S4x128x1, .f32⟩
  | .hbm, ⟨47, _⟩ => ⟨S_, .f32⟩
  | .hbm, ⟨48, _⟩ => ⟨S128, .f32⟩
  | .hbm, ⟨49, _⟩ => ⟨S128, .f32⟩
  | .hbm, ⟨50, _⟩ => ⟨S1x128, .f32⟩
  | .hbm, ⟨51, _⟩ => ⟨S4x1, .f32⟩
  | .hbm, ⟨52, _⟩ => ⟨S4x128, .f32⟩
  | .hbm, ⟨53, _⟩ => ⟨S4x128, .f32⟩
  | .hbm, ⟨54, _⟩ => ⟨S4x128, .f32⟩
  | .hbm, ⟨55, _⟩ => ⟨S4x128, .f32⟩
  | .hbm, ⟨56, _⟩ => ⟨S4x128x1, .f32⟩
  | .hbm, ⟨57, _⟩ => ⟨S4x128x512, .f32⟩
  | .hbm, ⟨58, _⟩ => ⟨S4x128x256, .f32⟩
  | .hbm, ⟨59, _⟩ => ⟨S_, .f32⟩
  | .hbm, ⟨60, _⟩ => ⟨S4, .f32⟩
  | .hbm, ⟨61, _⟩ => ⟨S4, .f32⟩
  | .hbm, ⟨62, _⟩ => ⟨S4, .f32⟩
  | .hbm, ⟨63, _⟩ => ⟨S4x1x1, .f32⟩
  | .hbm, ⟨64, _⟩ => ⟨S4x1x512, .f32⟩
  | .hbm, ⟨65, _⟩ => ⟨S16384x2048, .bf16⟩
  | .hbm, ⟨66, _⟩ => ⟨S8x4x256x512, .f32⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S1x1024, .f32⟩
  | .local _ .vmem, ⟨9, _⟩ => ⟨S1x1024, .f32⟩
  | .local _ .vmem, ⟨10, _⟩ => ⟨S2x128x128, .f32⟩
  | .local _ .vmem, ⟨11, _⟩ => ⟨S2x128x128, .f32⟩
  | .local _ .vmem, ⟨12, _⟩ => ⟨S2x128x512, .f32⟩
  | .local _ .vmem, ⟨13, _⟩ => ⟨S2x128x512, .f32⟩
  | .local _ .vmem, ⟨14, _⟩ => ⟨S2x128x256, .f32⟩
  | .local _ .vmem, ⟨15, _⟩ => ⟨S2x128x256, .f32⟩
  | .local _ .vmem, ⟨16, _⟩ => ⟨S2x1x512, .f32⟩
  | .local _ .vmem, ⟨17, _⟩ => ⟨S2x1x512, .f32⟩
  | .local _ .vmem, ⟨18, _⟩ => ⟨S2048x1024, .bf16⟩
  | .local _ .vmem, ⟨19, _⟩ => ⟨S2048x1024, .bf16⟩
  | .local _ .vmem, ⟨20, _⟩ => ⟨S1x2x256x512, .f32⟩
  | .local _ .vmem, ⟨21, _⟩ => ⟨S1x2x256x512, .f32⟩
  | .local _ .vmem, ⟨22, _⟩ => ⟨S2x256x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_6 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51_0 : Ref sig .tc := ⟨.hbm, 65, rfl⟩
abbrev main_v51_1 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 2], ![false, false]⟩

@[reducible] def k0_t1_loop : Scf.Loop 32 :=
  let c0_i32 : BitVec 32 := 0#32
  let c16_i32 : BitVec 32 := 16#32
  let v4 : BitVec 32 := Scalar.addi c0_i32 c16_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg14 : BitVec 32 := Scf.iv c0_i32 c1_i32 k0_t1
  let c128_i32 : BitVec 32 := 128#32
  let v9 : BitVec 32 := Scalar.muli arg14 c128_i32
  v9
def k0_off1 (k0_t1 : Fin k0_t1_loop.trips) : Fin 2 → Nat :=
  let c0_i32 : BitVec 32 := 0#32
  let c1_i32 : BitVec 32 := 1#32
  let arg14 : BitVec 32 := Scf.iv c0_i32 c1_i32 k0_t1
  let c128_i32 : BitVec 32 := 128#32
  let v9 : BitVec 32 := Scalar.muli arg14 c128_i32
  let v10 : BitVec 32 := v9
  let v11 : Index := Scalar.indexCast v10
  let c0_10 : Index := 0#32
  ![v11.toNat, 0]
def k0_off2 (k0_t1 : Fin k0_t1_loop.trips) : Fin 2 → Nat :=
  let c0_i32 : BitVec 32 := 0#32
  let c1_i32 : BitVec 32 := 1#32
  let arg14 : BitVec 32 := Scf.iv c0_i32 c1_i32 k0_t1
  let c128_i32 : BitVec 32 := 128#32
  let v9 : BitVec 32 := Scalar.muli arg14 c128_i32
  let v10 : BitVec 32 := v9
  let v15 : Index := Scalar.indexCast v10
  let c0_12 : Index := 0#32
  ![v15.toNat, 0]
def k0_off3 (k0_t1 : Fin k0_t1_loop.trips) : Fin 2 → Nat :=
  let c0_i32 : BitVec 32 := 0#32
  let c1_i32 : BitVec 32 := 1#32
  let arg14 : BitVec 32 := Scf.iv c0_i32 c1_i32 k0_t1
  let c128_i32 : BitVec 32 := 128#32
  let v9 : BitVec 32 := Scalar.muli arg14 c128_i32
  let v10 : BitVec 32 := v9
  let v73 : Index := Scalar.indexCast v10
  let c256 : Index := 256#32
  ![v73.toNat, 256]
def k0_off4 (k0_t1 : Fin k0_t1_loop.trips) : Fin 2 → Nat :=
  let c0_i32 : BitVec 32 := 0#32
  let c1_i32 : BitVec 32 := 1#32
  let arg14 : BitVec 32 := Scf.iv c0_i32 c1_i32 k0_t1
  let c128_i32 : BitVec 32 := 128#32
  let v9 : BitVec 32 := Scalar.muli arg14 c128_i32
  let v10 : BitVec 32 := v9
  let v77 : Index := Scalar.indexCast v10
  let c512 : Index := 512#32
  ![v77.toNat, 512]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S2x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S2048x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S16384x2048 : Shape := ⟨2, ![16384, 2048]⟩
abbrev S16384x7168 : Shape := ⟨2, ![16384, 7168]⟩
abbrev S1x2048 : Shape := ⟨2, ![1, 2048]⟩
abbrev S16384x1024 : Shape := ⟨2, ![16384, 1024]⟩
abbrev S8x2048x4x256 : Shape := ⟨4, ![8, 2048, 4, 256]⟩
abbrev S8x2048x4x512 : Shape := ⟨4, ![8, 2048, 4, 512]⟩
abbrev S4 : Shape := ⟨1, ![4]⟩
abbrev S_ : Shape := ⟨0, ![]⟩
abbrev S8x4x256x512 : Shape := ⟨4, ![8, 4, 256, 512]⟩
abbrev S8x16x128x4x256 : Shape := ⟨5, ![8, 16, 128, 4, 256]⟩
abbrev S16x8x128x4x256 : Shape := ⟨5, ![16, 8, 128, 4, 256]⟩
abbrev S8x16x128x4x512 : Shape := ⟨5, ![8, 16, 128, 4, 512]⟩
abbrev S16x8x128x4x512 : Shape := ⟨5, ![16, 8, 128, 4, 512]⟩
abbrev S1x8x128x4x256 : Shape := ⟨5, ![1, 8, 128, 4, 256]⟩
abbrev S8x128x4x256 : Shape := ⟨4, ![8, 128, 4, 256]⟩
abbrev S1x8x128x4x512 : Shape := ⟨5, ![1, 8, 128, 4, 512]⟩
abbrev S8x128x4x512 : Shape := ⟨4, ![8, 128, 4, 512]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S8x4x128x128 : Shape := ⟨4, ![8, 4, 128, 128]⟩
abbrev S1x4x128x128 : Shape := ⟨4, ![1, 4, 128, 128]⟩
abbrev S8x4x512x128 : Shape := ⟨4, ![8, 4, 512, 128]⟩
abbrev S1x4 : Shape := ⟨2, ![1, 4]⟩
abbrev S128x4 : Shape := ⟨2, ![128, 4]⟩
abbrev S1x128x4x1 : Shape := ⟨4, ![1, 128, 4, 1]⟩
abbrev S1x4x1x1 : Shape := ⟨4, ![1, 4, 1, 1]⟩
abbrev S8x2048x4 : Shape := ⟨3, ![8, 2048, 4]⟩
abbrev S8x2048x4x1 : Shape := ⟨4, ![8, 2048, 4, 1]⟩
abbrev S8x2048x2048 : Shape := ⟨3, ![8, 2048, 2048]⟩
abbrev S1x1x2048 : Shape := ⟨3, ![1, 1, 2048]⟩

abbrev nBuf : Space → Nat
  | .hbm => 179
  | .vmem => 0
  | .smem => 0
  | _ => 0

abbrev hbmTy0_0 (i : Nat) : BufTy := match i % 128 with
  | 0 => ⟨S16384x2048, .bf16⟩
  | 1 => ⟨S16384x7168, .bf16⟩
  | 2 => ⟨S1x2048, .f32⟩
  | 3 => ⟨S16384x1024, .bf16⟩
  | 4 => ⟨S8x2048x4x256, .bf16⟩
  | 5 => ⟨S8x2048x4x256, .f32⟩
  | 6 => ⟨S16384x1024, .bf16⟩
  | 7 => ⟨S8x2048x4x256, .bf16⟩
  | 8 => ⟨S8x2048x4x256, .f32⟩
  | 9 => ⟨S16384x2048, .bf16⟩
  | 10 => ⟨S8x2048x4x512, .bf16⟩
  | 11 => ⟨S8x2048x4x512, .f32⟩
  | 12 => ⟨S4, .f32⟩
  | 13 => ⟨S_, .f32⟩
  | 14 => ⟨S4, .f32⟩
  | 15 => ⟨S4, .f32⟩
  | 16 => ⟨S_, .f32⟩
  | 17 => ⟨S4, .f32⟩
  | 18 => ⟨S4, .f32⟩
  | 19 => ⟨S4, .f32⟩
  | 20 => ⟨S4, .f32⟩
  | 21 => ⟨S4, .f32⟩
  | 22 => ⟨S_, .f32⟩
  | 23 => ⟨S8x4x256x512, .f32⟩
  | 24 => ⟨S8x16x128x4x256, .f32⟩
  | 25 => ⟨S16x8x128x4x256, .f32⟩
  | 26 => ⟨S8x16x128x4x256, .f32⟩
  | 27 => ⟨S16x8x128x4x256, .f32⟩
  | 28 => ⟨S8x16x128x4x512, .f32⟩
  | 29 => ⟨S16x8x128x4x512, .f32⟩
  | 30 => ⟨S_, .f32⟩
  | 31 => ⟨S16x8x128x4x512, .f32⟩
  | 32 => ⟨S_, .i32⟩
  | 33 => ⟨S16x8x128x4x256, .f32⟩
  | 34 => ⟨S16x8x128x4x256, .f32⟩
  | 35 => ⟨S16x8x128x4x512, .f32⟩
  | 36 => ⟨S4, .f32⟩
  | 37 => ⟨S_, .i32⟩
  | 38 => ⟨S8x4x256x512, .f32⟩
  | 39 => ⟨S16x8x128x4x512, .f32⟩
  | 40 => ⟨S_, .i32⟩
  | 41 => ⟨S_, .i1⟩
  | 42 => ⟨S_, .i32⟩
  | 43 => ⟨S_, .i32⟩
  | 44 => ⟨S_, .i32⟩
  | 45 => ⟨S_, .i32⟩
  | 46 => ⟨S1x8x128x4x256, .f32⟩
  | 47 => ⟨S8x128x4x256, .f32⟩
  | 48 => ⟨S_, .i32⟩
  | 49 => ⟨S_, .i32⟩
  | 50 => ⟨S_, .i32⟩
  | 51 => ⟨S_, .i32⟩
  | 52 => ⟨S1x8x128x4x256, .f32⟩
  | 53 => ⟨S8x128x4x256, .f32⟩
  | 54 => ⟨S_, .i32⟩
  | 55 => ⟨S_, .i32⟩
  | 56 => ⟨S_, .i32⟩
  | 57 => ⟨S_, .i32⟩
  | 58 => ⟨S1x8x128x4x512, .f32⟩
  | 59 => ⟨S8x128x4x512, .f32⟩
  | 60 => ⟨S128, .f32⟩
  | 61 => ⟨S128x1, .f32⟩
  | 62 => ⟨S1x128, .f32⟩
  | 63 => ⟨S128x128, .f32⟩
  | 64 => ⟨S128x128, .f32⟩
  | 65 => ⟨S128x128, .f32⟩
  | 66 => ⟨S_, .f32⟩
  | 67 => ⟨S128x128, .f32⟩
  | 68 => ⟨S128x128, .i1⟩
  | 69 => ⟨S1x128x128, .i1⟩
  | 70 => ⟨S1x128x128, .f32⟩
  | 71 => ⟨S_, .f32⟩
  | 72 => ⟨S_, .f32⟩
  | 73 => ⟨S1x128x128, .f32⟩
  | 74 => ⟨S1x128x128, .f32⟩
  | 75 => ⟨S4x1x1, .f32⟩
  | 76 => ⟨S4x128x128, .f32⟩
  | 77 => ⟨S4x128x128, .f32⟩
  | 78 => ⟨S4x128x128, .f32⟩
  | 79 => ⟨S4x128x128, .f32⟩
  | 80 => ⟨S_, .f32⟩
  | 81 => ⟨S_, .f32⟩
  | 82 => ⟨S4x128x128, .i1⟩
  | 83 => ⟨S4x128x128, .f32⟩
  | 84 => ⟨S4x128x128, .f32⟩
  | 85 => ⟨S8x4x128x128, .f32⟩
  | 86 => ⟨S1x4x128x128, .f32⟩
  | 87 => ⟨S8x4x128x128, .f32⟩
  | 88 => ⟨S8x4x128x128, .f32⟩
  | 89 => ⟨S8x4x512x128, .f32⟩
  | 90 => ⟨S8x128x4x512, .f32⟩
  | 91 => ⟨S128x1, .f32⟩
  | 92 => ⟨S_, .f32⟩
  | 93 => ⟨S128x1, .f32⟩
  | 94 => ⟨S128x1, .f32⟩
  | 95 => ⟨S1x4, .f32⟩
  | 96 => ⟨S128x4, .f32⟩
  | 97 => ⟨S128x4, .f32⟩
  | 98 => ⟨S128x4, .f32⟩
  | 99 => ⟨S128x4, .f32⟩
  | 100 => ⟨S8x4x512x128, .f32⟩
  | 101 => ⟨S8x128x4x512, .f32⟩
  | 102 => ⟨S1x128x4x1, .f32⟩
  | 103 => ⟨S8x128x4x512, .f32⟩
  | 104 => ⟨S8x128x4x512, .f32⟩
  | 105 => ⟨S_, .f32⟩
  | 106 => ⟨S128, .f32⟩
  | 107 => ⟨S128, .f32⟩
  | 108 => ⟨S128x1, .f32⟩
  | 109 => ⟨S1x4, .f32⟩
  | 110 => ⟨S128x4, .f32⟩
  | 111 => ⟨S128x4, .f32⟩
  | 112 => ⟨S128x4, .f32⟩
  | 113 => ⟨S128x4, .f32⟩
  | 114 => ⟨S_, .f32⟩
  | 115 => ⟨S4, .f32⟩
  | 116 => ⟨S4, .f32⟩
  | 117 => ⟨S4, .f32⟩
  | 118 => ⟨S1x4x1x1, .f32⟩
  | 119 => ⟨S8x4x256x512, .f32⟩
  | 120 => ⟨S8x4x256x512, .f32⟩
  | 121 => ⟨S1x128x4x1, .f32⟩
  | 122 => ⟨S8x128x4x256, .f32⟩
  | 123 => ⟨S8x128x4x256, .f32⟩
  | 124 => ⟨S8x4x256x512, .f32⟩
  | 125 => ⟨S8x4x256x512, .f32⟩
  | 126 => ⟨S8x128x4x512, .f32⟩
  | 127 => ⟨S1x8x128x4x512, .f32⟩
  | _ => ⟨S16384x2048, .bf16⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S16x8x128x4x512, .f32⟩
  | 5 => ⟨S_, .i32⟩
  | 6 => ⟨S_, .i32⟩
  | 7 => ⟨S8x16x128x4x512, .f32⟩
  | 8 => ⟨S8x2048x4x512, .f32⟩
  | 9 => ⟨S_, .f32⟩
  | 10 => ⟨S8x2048x4, .f32⟩
  | 11 => ⟨S8x2048x4x1, .f32⟩
  | 12 => ⟨S_, .f32⟩
  | 13 => ⟨S8x2048x4x1, .f32⟩
  | 14 => ⟨S8x2048x4x1, .f32⟩
  | 15 => ⟨S8x2048x4x512, .f32⟩
  | 16 => ⟨S8x2048x4x512, .f32⟩
  | 17 => ⟨S8x2048x4x512, .f32⟩
  | 18 => ⟨S_, .f32⟩
  | 19 => ⟨S8x2048x4, .f32⟩
  | 20 => ⟨S8x2048x4x1, .f32⟩
  | 21 => ⟨S_, .f32⟩
  | 22 => ⟨S8x2048x4x1, .f32⟩
  | 23 => ⟨S8x2048x4x1, .f32⟩
  | 24 => ⟨S8x2048x4x512, .f32⟩
  | 25 => ⟨S8x2048x4x512, .f32⟩
  | 26 => ⟨S_, .f32⟩
  | 27 => ⟨S8x2048x4x1, .f32⟩
  | 28 => ⟨S8x2048x4x1, .f32⟩
  | 29 => ⟨S8x2048x4x1, .f32⟩
  | 30 => ⟨S8x2048x4x512, .f32⟩
  | 31 => ⟨S8x2048x4x512, .f32⟩
  | 32 => ⟨S8x2048x2048, .f32⟩
  | 33 => ⟨S16384x2048, .bf16⟩
  | 34 => ⟨S8x2048x2048, .bf16⟩
  | 35 => ⟨S8x2048x2048, .f32⟩
  | 36 => ⟨S1x1x2048, .f32⟩
  | 37 => ⟨S8x2048x2048, .f32⟩
  | 38 => ⟨S8x2048x2048, .f32⟩
  | 39 => ⟨S8x2048x2048, .f32⟩
  | 40 => ⟨S8x2048x2048, .f32⟩
  | 41 => ⟨S_, .f32⟩
  | 42 => ⟨S8x2048x2048, .f32⟩
  | 43 => ⟨S8x2048x2048, .f32⟩
  | 44 => ⟨S_, .f32⟩
  | 45 => ⟨S8x2048x2048, .f32⟩
  | 46 => ⟨S8x2048x2048, .f32⟩
  | 47 => ⟨S8x2048x2048, .f32⟩
  | 48 => ⟨S8x2048x2048, .f32⟩
  | 49 => ⟨S16384x2048, .f32⟩
  | 50 => ⟨S16384x2048, .bf16⟩
  | _ => ⟨S16384x2048, .bf16⟩

abbrev hbmTy (i : Nat) : BufTy := match i / 128 with
  | 0 => hbmTy0_0 i
  | 1 => hbmTy0_1 i
  | _ => ⟨S16384x2048, .bf16⟩

abbrev bufTy : (tb : Table) → Fin (tcTables nBuf tb) → BufTy
  | .hbm, ⟨i, _⟩ => hbmTy i
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_c : Ref sig .tc := ⟨.hbm, 32, rfl⟩
abbrev main_v25_0 : Ref sig .tc := ⟨.hbm, 33, rfl⟩
abbrev main_v25_1 : Ref sig .tc := ⟨.hbm, 34, rfl⟩
abbrev main_v25_2 : Ref sig .tc := ⟨.hbm, 35, rfl⟩
abbrev main_v25_3 : Ref sig .tc := ⟨.hbm, 36, rfl⟩
abbrev main_v25_4 : Ref sig .tc := ⟨.hbm, 37, rfl⟩
abbrev main_v25_5 : Ref sig .tc := ⟨.hbm, 38, rfl⟩
abbrev main_v25_6 : Ref sig .tc := ⟨.hbm, 39, rfl⟩
abbrev main_while0c_c_14 : Ref sig .tc := ⟨.hbm, 40, rfl⟩
abbrev main_while0c_v57 : Ref sig .tc := ⟨.hbm, 41, rfl⟩
abbrev main_while0b_call0_c : Ref sig .tc := ⟨.hbm, 42, rfl⟩
abbrev main_while0b_call0_c_0 : Ref sig .tc := ⟨.hbm, 43, rfl⟩
abbrev main_while0b_call0_c_1 : Ref sig .tc := ⟨.hbm, 44, rfl⟩
abbrev main_while0b_call0_c_2 : Ref sig .tc := ⟨.hbm, 45, rfl⟩
abbrev main_while0b_call0_v0 : Ref sig .tc := ⟨.hbm, 46, rfl⟩
abbrev main_while0b_v57 : Ref sig .tc := ⟨.hbm, 47, rfl⟩
abbrev main_while0b_call1_c : Ref sig .tc := ⟨.hbm, 48, rfl⟩
abbrev main_while0b_call1_c_0 : Ref sig .tc := ⟨.hbm, 49, rfl⟩
abbrev main_while0b_call1_c_1 : Ref sig .tc := ⟨.hbm, 50, rfl⟩
abbrev main_while0b_call1_c_2 : Ref sig .tc := ⟨.hbm, 51, rfl⟩
abbrev main_while0b_call1_v0 : Ref sig .tc := ⟨.hbm, 52, rfl⟩
abbrev main_while0b_v58 : Ref sig .tc := ⟨.hbm, 53, rfl⟩
abbrev main_while0b_call2_c : Ref sig .tc := ⟨.hbm, 54, rfl⟩
abbrev main_while0b_call2_c_0 : Ref sig .tc := ⟨.hbm, 55, rfl⟩
abbrev main_while0b_call2_c_1 : Ref sig .tc := ⟨.hbm, 56, rfl⟩
abbrev main_while0b_call2_c_2 : Ref sig .tc := ⟨.hbm, 57, rfl⟩
abbrev main_while0b_call2_v0 : Ref sig .tc := ⟨.hbm, 58, rfl⟩
abbrev main_while0b_v59 : Ref sig .tc := ⟨.hbm, 59, rfl⟩
abbrev main_while0b_v60 : Ref sig .tc := ⟨.hbm, 60, rfl⟩
abbrev main_while0b_v61 : Ref sig .tc := ⟨.hbm, 61, rfl⟩
abbrev main_while0b_v62 : Ref sig .tc := ⟨.hbm, 62, rfl⟩
abbrev main_while0b_v63 : Ref sig .tc := ⟨.hbm, 63, rfl⟩
abbrev main_while0b_v64 : Ref sig .tc := ⟨.hbm, 64, rfl⟩
abbrev main_while0b_v65 : Ref sig .tc := ⟨.hbm, 65, rfl⟩
abbrev main_while0b_cst_14 : Ref sig .tc := ⟨.hbm, 66, rfl⟩
abbrev main_while0b_v66 : Ref sig .tc := ⟨.hbm, 67, rfl⟩
abbrev main_while0b_v67 : Ref sig .tc := ⟨.hbm, 68, rfl⟩
abbrev main_while0b_v68 : Ref sig .tc := ⟨.hbm, 69, rfl⟩
abbrev main_while0b_v69 : Ref sig .tc := ⟨.hbm, 70, rfl⟩
abbrev main_while0b_cst_15 : Ref sig .tc := ⟨.hbm, 71, rfl⟩
abbrev main_while0b_call3_v0 : Ref sig .tc := ⟨.hbm, 72, rfl⟩
abbrev main_while0b_call3_v1 : Ref sig .tc := ⟨.hbm, 73, rfl⟩
abbrev main_while0b_v70 : Ref sig .tc := ⟨.hbm, 74, rfl⟩
abbrev main_while0b_v71 : Ref sig .tc := ⟨.hbm, 75, rfl⟩
abbrev main_while0b_v72 : Ref sig .tc := ⟨.hbm, 76, rfl⟩
abbrev main_while0b_v73 : Ref sig .tc := ⟨.hbm, 77, rfl⟩
abbrev main_while0b_v74 : Ref sig .tc := ⟨.hbm, 78, rfl⟩
abbrev main_while0b_v75 : Ref sig .tc := ⟨.hbm, 79, rfl⟩
abbrev main_while0b_cst_16 : Ref sig .tc := ⟨.hbm, 80, rfl⟩
abbrev main_while0b_call4_v0 : Ref sig .tc := ⟨.hbm, 81, rfl⟩
abbrev main_while0b_call4_v1 : Ref sig .tc := ⟨.hbm, 82, rfl⟩
abbrev main_while0b_call4_v2 : Ref sig .tc := ⟨.hbm, 83, rfl⟩
abbrev main_while0b_v76 : Ref sig .tc := ⟨.hbm, 84, rfl⟩
abbrev main_while0b_v77 : Ref sig .tc := ⟨.hbm, 85, rfl⟩
abbrev main_while0b_v78 : Ref sig .tc := ⟨.hbm, 86, rfl⟩
abbrev main_while0b_v79 : Ref sig .tc := ⟨.hbm, 87, rfl⟩
abbrev main_while0b_v80 : Ref sig .tc := ⟨.hbm, 88, rfl⟩
abbrev main_while0b_v81 : Ref sig .tc := ⟨.hbm, 89, rfl⟩
abbrev main_while0b_v82 : Ref sig .tc := ⟨.hbm, 90, rfl⟩
abbrev main_while0b_v83 : Ref sig .tc := ⟨.hbm, 91, rfl⟩
abbrev main_while0b_cst_17 : Ref sig .tc := ⟨.hbm, 92, rfl⟩
abbrev main_while0b_v84 : Ref sig .tc := ⟨.hbm, 93, rfl⟩
abbrev main_while0b_v85 : Ref sig .tc := ⟨.hbm, 94, rfl⟩
abbrev main_while0b_v86 : Ref sig .tc := ⟨.hbm, 95, rfl⟩
abbrev main_while0b_v87 : Ref sig .tc := ⟨.hbm, 96, rfl⟩
abbrev main_while0b_v88 : Ref sig .tc := ⟨.hbm, 97, rfl⟩
abbrev main_while0b_v89 : Ref sig .tc := ⟨.hbm, 98, rfl⟩
abbrev main_while0b_v90 : Ref sig .tc := ⟨.hbm, 99, rfl⟩
abbrev main_while0b_v91 : Ref sig .tc := ⟨.hbm, 100, rfl⟩
abbrev main_while0b_v92 : Ref sig .tc := ⟨.hbm, 101, rfl⟩
abbrev main_while0b_v93 : Ref sig .tc := ⟨.hbm, 102, rfl⟩
abbrev main_while0b_v94 : Ref sig .tc := ⟨.hbm, 103, rfl⟩
abbrev main_while0b_v95 : Ref sig .tc := ⟨.hbm, 104, rfl⟩
abbrev main_while0b_cst_18 : Ref sig .tc := ⟨.hbm, 105, rfl⟩
abbrev main_while0b_v96 : Ref sig .tc := ⟨.hbm, 106, rfl⟩
abbrev main_while0b_v97 : Ref sig .tc := ⟨.hbm, 107, rfl⟩
abbrev main_while0b_v98 : Ref sig .tc := ⟨.hbm, 108, rfl⟩
abbrev main_while0b_v99 : Ref sig .tc := ⟨.hbm, 109, rfl⟩
abbrev main_while0b_v100 : Ref sig .tc := ⟨.hbm, 110, rfl⟩
abbrev main_while0b_v101 : Ref sig .tc := ⟨.hbm, 111, rfl⟩
abbrev main_while0b_v102 : Ref sig .tc := ⟨.hbm, 112, rfl⟩
abbrev main_while0b_v103 : Ref sig .tc := ⟨.hbm, 113, rfl⟩
abbrev main_while0b_cst_19 : Ref sig .tc := ⟨.hbm, 114, rfl⟩
abbrev main_while0b_v104 : Ref sig .tc := ⟨.hbm, 115, rfl⟩
abbrev main_while0b_v105 : Ref sig .tc := ⟨.hbm, 116, rfl⟩
abbrev main_while0b_v106 : Ref sig .tc := ⟨.hbm, 117, rfl⟩
abbrev main_while0b_v107 : Ref sig .tc := ⟨.hbm, 118, rfl⟩
abbrev main_while0b_v108 : Ref sig .tc := ⟨.hbm, 119, rfl⟩
abbrev main_while0b_v109 : Ref sig .tc := ⟨.hbm, 120, rfl⟩
abbrev main_while0b_v110 : Ref sig .tc := ⟨.hbm, 121, rfl⟩
abbrev main_while0b_v111 : Ref sig .tc := ⟨.hbm, 122, rfl⟩
abbrev main_while0b_v112 : Ref sig .tc := ⟨.hbm, 123, rfl⟩
abbrev main_while0b_v113 : Ref sig .tc := ⟨.hbm, 124, rfl⟩
abbrev main_while0b_v114 : Ref sig .tc := ⟨.hbm, 125, rfl⟩
abbrev main_while0b_v115 : Ref sig .tc := ⟨.hbm, 126, rfl⟩
abbrev main_while0b_call5_v0 : Ref sig .tc := ⟨.hbm, 127, rfl⟩
abbrev main_while0b_call5_c : Ref sig .tc := ⟨.hbm, 128, rfl⟩
abbrev main_while0b_call5_c_0 : Ref sig .tc := ⟨.hbm, 129, rfl⟩
abbrev main_while0b_call5_c_1 : Ref sig .tc := ⟨.hbm, 130, rfl⟩
abbrev main_while0b_call5_c_2 : Ref sig .tc := ⟨.hbm, 131, rfl⟩
abbrev main_while0b_v116 : Ref sig .tc := ⟨.hbm, 132, rfl⟩
abbrev main_while0b_c_20 : Ref sig .tc := ⟨.hbm, 133, rfl⟩
abbrev main_while0b_v117 : Ref sig .tc := ⟨.hbm, 134, rfl⟩
abbrev main_v26 : Ref sig .tc := ⟨.hbm, 135, rfl⟩
abbrev main_v27 : Ref sig .tc := ⟨.hbm, 136, rfl⟩
abbrev main_cst_3 : Ref sig .tc := ⟨.hbm, 137, rfl⟩
abbrev main_v28 : Ref sig .tc := ⟨.hbm, 138, rfl⟩
abbrev main_v29 : Ref sig .tc := ⟨.hbm, 139, rfl⟩
abbrev main_cst_4 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_cst_5 : Ref sig .tc := ⟨.hbm, 146, rfl⟩
abbrev main_v35 : Ref sig .tc := ⟨.hbm, 147, rfl⟩
abbrev main_v36 : Ref sig .tc := ⟨.hbm, 148, rfl⟩
abbrev main_cst_6 : Ref sig .tc := ⟨.hbm, 149, rfl⟩
abbrev main_v37 : Ref sig .tc := ⟨.hbm, 150, rfl⟩
abbrev main_v38 : Ref sig .tc := ⟨.hbm, 151, rfl⟩
abbrev main_v39 : Ref sig .tc := ⟨.hbm, 152, rfl⟩
abbrev main_v40 : Ref sig .tc := ⟨.hbm, 153, rfl⟩
abbrev main_cst_7 : Ref sig .tc := ⟨.hbm, 154, rfl⟩
abbrev main_v41 : Ref sig .tc := ⟨.hbm, 155, rfl⟩
abbrev main_v42 : Ref sig .tc := ⟨.hbm, 156, rfl⟩
abbrev main_v43 : Ref sig .tc := ⟨.hbm, 157, rfl⟩
abbrev main_v44 : Ref sig .tc := ⟨.hbm, 158, rfl⟩
abbrev main_v45 : Ref sig .tc := ⟨.hbm, 159, rfl⟩
abbrev main_v46 : Ref sig .tc := ⟨.hbm, 160, rfl⟩
abbrev main_v47 : Ref sig .tc := ⟨.hbm, 161, rfl⟩
abbrev main_v48 : Ref sig .tc := ⟨.hbm, 162, rfl⟩
abbrev main_v49 : Ref sig .tc := ⟨.hbm, 163, rfl⟩
abbrev main_v50 : Ref sig .tc := ⟨.hbm, 164, rfl⟩
abbrev main_v51 : Ref sig .tc := ⟨.hbm, 165, rfl⟩
abbrev main_v52 : Ref sig .tc := ⟨.hbm, 166, rfl⟩
abbrev main_call6_v0 : Ref sig .tc := ⟨.hbm, 167, rfl⟩
abbrev main_call6_v1 : Ref sig .tc := ⟨.hbm, 168, rfl⟩
abbrev main_call6_cst : Ref sig .tc := ⟨.hbm, 169, rfl⟩
abbrev main_call6_v2 : Ref sig .tc := ⟨.hbm, 170, rfl⟩
abbrev main_call6_v3 : Ref sig .tc := ⟨.hbm, 171, rfl⟩
abbrev main_call6_cst_0 : Ref sig .tc := ⟨.hbm, 172, rfl⟩
abbrev main_call6_v4 : Ref sig .tc := ⟨.hbm, 173, rfl⟩
abbrev main_call6_v5 : Ref sig .tc := ⟨.hbm, 174, rfl⟩
abbrev main_v53 : Ref sig .tc := ⟨.hbm, 175, rfl⟩
abbrev main_v54 : Ref sig .tc := ⟨.hbm, 176, rfl⟩
abbrev main_v55 : Ref sig .tc := ⟨.hbm, 177, rfl⟩
abbrev main_v56 : Ref sig .tc := ⟨.hbm, 178, rfl⟩

abbrev nD : Nat := 1
abbrev τ : Topo := Topo.v7x

variable {F : FTy → Type} [FloatOps F]

abbrev main_while0_count : Scf.Loop 32 := ⟨0#32, 16#32, 1#32⟩
-- ==== Kernel3.lean ====
abbrev S16384x1024 : Shape := ⟨2, ![16384, 1024]⟩
abbrev S1024x10240 : Shape := ⟨2, ![1024, 10240]⟩
abbrev S16384x7168 : Shape := ⟨2, ![16384, 7168]⟩
abbrev S1024x1024 : Shape := ⟨2, ![1024, 1024]⟩
abbrev S1024x1792 : Shape := ⟨2, ![1024, 1792]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x10240, .bf16⟩
  | .hbm, ⟨2, _⟩ => ⟨S16384x7168, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1792, .bf16⟩
  | .local _ .vmem, ⟨3, _⟩ => ⟨S1024x1792, .bf16⟩
  | .local _ .vmem, ⟨4, _⟩ => ⟨S1024x1792, .bf16⟩
  | .local _ .vmem, ⟨5, _⟩ => ⟨S1024x1792, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S16384x1024 : Shape := ⟨2, ![16384, 1024]⟩
abbrev S1024x10240 : Shape := ⟨2, ![1024, 10240]⟩
abbrev S1024x7168 : Shape := ⟨2, ![1024, 7168]⟩
abbrev S16384x7168 : Shape := ⟨2, ![16384, 7168]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x10240, .bf16⟩
  | .hbm, ⟨2, _⟩ => ⟨S16384x1024, .f32⟩
  | .hbm, ⟨3, _⟩ => ⟨S1024x7168, .bf16⟩
  | .hbm, ⟨4, _⟩ => ⟨S1024x7168, .f32⟩
  | .hbm, ⟨5, _⟩ => ⟨S16384x7168, .f32⟩
  | .hbm, ⟨6, _⟩ => ⟨S16384x7168, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel4.lean ====
abbrev S16384x1024 : Shape := ⟨2, ![16384, 1024]⟩
abbrev S16384x2048 : Shape := ⟨2, ![16384, 2048]⟩
abbrev S16384x7168 : Shape := ⟨2, ![16384, 7168]⟩
abbrev S16384x256 : Shape := ⟨2, ![16384, 256]⟩
abbrev S2048x1024 : Shape := ⟨2, ![2048, 1024]⟩
abbrev S1024x1024 : Shape := ⟨2, ![1024, 1024]⟩
abbrev S256x1024 : Shape := ⟨2, ![256, 1024]⟩
abbrev S1x1024 : Shape := ⟨2, ![1, 1024]⟩
abbrev S512x1024 : Shape := ⟨2, ![512, 1024]⟩
abbrev S512x2048 : Shape := ⟨2, ![512, 2048]⟩
abbrev S512x256 : Shape := ⟨2, ![512, 256]⟩
abbrev S512 : Shape := ⟨1, ![512]⟩
abbrev S512x1 : Shape := ⟨2, ![512, 1]⟩

abbrev nBuf : Space → Nat
  | .hbm => 12
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S16384x2048, .bf16⟩
  | .hbm, ⟨2, _⟩ => ⟨S16384x1024, .bf16⟩
  | .hbm, ⟨3, _⟩ => ⟨S16384x7168, .bf16⟩
  | .hbm, ⟨4, _⟩ => ⟨S16384x256, .f32⟩
  | .hbm, ⟨5, _⟩ => ⟨S2048x1024, .bf16⟩
  | .hbm, ⟨6, _⟩ => ⟨S1024x1024, .bf16⟩
  | .hbm, ⟨7, _⟩ => ⟨S1024x1024, .bf16⟩
  | .hbm, ⟨8, _⟩ => ⟨S1024x1024, .bf16⟩
  | .hbm, ⟨9, _⟩ => ⟨S256x1024, .bf16⟩
  | .hbm, ⟨10, _⟩ => ⟨S1x1024, .f32⟩
  | .hbm, ⟨11, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x2048, .bf16⟩
  | .local _ .vmem, ⟨3, _⟩ => ⟨S512x2048, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x256, .f32⟩
  | .local _ .vmem, ⟨11, _⟩ => ⟨S512x256, .f32⟩
  | .local _ .vmem, ⟨12, _⟩ => ⟨S2048x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S256x1024, .bf16⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Kernel4Ideal.lean ====
abbrev S16384x1024 : Shape := ⟨2, ![16384, 1024]⟩
abbrev S16384x2048 : Shape := ⟨2, ![16384, 2048]⟩
abbrev S16384x7168 : Shape := ⟨2, ![16384, 7168]⟩
abbrev S16384x256 : Shape := ⟨2, ![16384, 256]⟩
abbrev S2048x1024 : Shape := ⟨2, ![2048, 1024]⟩
abbrev S1024x1024 : Shape := ⟨2, ![1024, 1024]⟩
abbrev S256x1024 : Shape := ⟨2, ![256, 1024]⟩
abbrev S1x1024 : Shape := ⟨2, ![1, 1024]⟩
abbrev S512x1024 : Shape := ⟨2, ![512, 1024]⟩
abbrev S512x2048 : Shape := ⟨2, ![512, 2048]⟩
abbrev S512x256 : Shape := ⟨2, ![512, 256]⟩
abbrev S512 : Shape := ⟨1, ![512]⟩
abbrev S512x1 : Shape := ⟨2, ![512, 1]⟩

abbrev nBuf : Space → Nat
  | .hbm => 12
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S16384x2048, .bf16⟩
  | .hbm, ⟨2, _⟩ => ⟨S16384x1024, .bf16⟩
  | .hbm, ⟨3, _⟩ => ⟨S16384x7168, .bf16⟩
  | .hbm, ⟨4, _⟩ => ⟨S16384x256, .f32⟩
  | .hbm, ⟨5, _⟩ => ⟨S2048x1024, .bf16⟩
  | .hbm, ⟨6, _⟩ => ⟨S1024x1024, .bf16⟩
  | .hbm, ⟨7, _⟩ => ⟨S1024x1024, .bf16⟩
  | .hbm, ⟨8, _⟩ => ⟨S1024x1024, .bf16⟩
  | .hbm, ⟨9, _⟩ => ⟨S256x1024, .bf16⟩
  | .hbm, ⟨10, _⟩ => ⟨S1x1024, .f32⟩
  | .hbm, ⟨11, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x2048, .bf16⟩
  | .local _ .vmem, ⟨3, _⟩ => ⟨S512x2048, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x256, .f32⟩
  | .local _ .vmem, ⟨11, _⟩ => ⟨S512x256, .f32⟩
  | .local _ .vmem, ⟨12, _⟩ => ⟨S2048x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S256x1024, .bf16⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference4Ideal.lean ====
abbrev S16384x1024 : Shape := ⟨2, ![16384, 1024]⟩
abbrev S16384x2048 : Shape := ⟨2, ![16384, 2048]⟩
abbrev S16384x7168 : Shape := ⟨2, ![16384, 7168]⟩
abbrev S16384x256 : Shape := ⟨2, ![16384, 256]⟩
abbrev S2048x1024 : Shape := ⟨2, ![2048, 1024]⟩
abbrev S1024x1024 : Shape := ⟨2, ![1024, 1024]⟩
abbrev S256x1024 : Shape := ⟨2, ![256, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩

abbrev nBuf : Space → Nat
  | .hbm => 72
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x2048, .bf16⟩
  | .hbm, ⟨2, _⟩ => ⟨S16384x1024, .bf16⟩
  | .hbm, ⟨3, _⟩ => ⟨S16384x7168, .bf16⟩
  | .hbm, ⟨4, _⟩ => ⟨S16384x256, .f32⟩
  | .hbm, ⟨5, _⟩ => ⟨S2048x1024, .bf16⟩
  | .hbm, ⟨6, _⟩ => ⟨S1024x1024, .bf16⟩
  | .hbm, ⟨7, _⟩ => ⟨S1024x1024, .bf16⟩
  | .hbm, ⟨8, _⟩ => ⟨S1024x1024, .bf16⟩
  | .hbm, ⟨9, _⟩ => ⟨S256x1024, .bf16⟩
  | .hbm, ⟨10, _⟩ => ⟨S1x1024, .f32⟩
  | .hbm, ⟨11, _⟩ => ⟨S16384x2048, .f32⟩
  | .hbm, ⟨12, _⟩ => ⟨S2048x1024, .f32⟩
  | .hbm, ⟨13, _⟩ => ⟨S16384x1024, .f32⟩
  | .hbm, ⟨14, _⟩ => ⟨S16384x1024, .f32⟩
  | .hbm, ⟨15, _⟩ => ⟨S1024x1024, .f32⟩
  | .hbm, ⟨16, _⟩ => ⟨S16384x1024, .f32⟩
  | .hbm, ⟨17, _⟩ => ⟨S16384x1024, .bf16⟩
  | .hbm, ⟨18, _⟩ => ⟨S16384x1024, .f32⟩
  | .hbm, ⟨19, _⟩ => ⟨S16384x1024, .bf16⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S1024x1024, .f32⟩
  | .hbm, ⟨41, _⟩ => ⟨S16384x1024, .f32⟩
  | .hbm, ⟨42, _⟩ => ⟨S16384x1024, .f32⟩
  | .hbm, ⟨43, _⟩ => ⟨S1024x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S16384x1024, .f32⟩
  | .hbm, ⟨49, _⟩ => ⟨S16384x1024, .f32⟩
  | .hbm, ⟨50, _⟩ => ⟨S_, .f32⟩
  | .hbm, ⟨51, _⟩ => ⟨S16384x1024, .f32⟩
  | .hbm, ⟨52, _⟩ => ⟨S16384x1024, .f32⟩
  | .hbm, ⟨53, _⟩ => ⟨S256x1024, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S_, .f32⟩
  | .hbm, ⟨59, _⟩ => ⟨S16384, .f32⟩
  | .hbm, ⟨60, _⟩ => ⟨S16384x1, .f32⟩
  | .hbm, ⟨61, _⟩ => ⟨S_, .f32⟩
  | .hbm, ⟨62, _⟩ => ⟨S16384x1, .f32⟩
  | .hbm, ⟨63, _⟩ => ⟨S16384x1, .f32⟩
  | .hbm, ⟨64, _⟩ => ⟨S_, .f32⟩
  | .hbm, ⟨65, _⟩ => ⟨S16384x1, .f32⟩
  | .hbm, ⟨66, _⟩ => ⟨S16384x1, .f32⟩
  | .hbm, ⟨67, _⟩ => ⟨S16384x1, .f32⟩
  | .hbm, ⟨68, _⟩ => ⟨S16384x1024, .f32⟩
  | .hbm, ⟨69, _⟩ => ⟨S16384x1024, .f32⟩
  | .hbm, ⟨70, _⟩ => ⟨S16384x1024, .f32⟩
  | .hbm, ⟨71, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_v33 : Ref sig .tc := ⟨.hbm, 49, rfl⟩
abbrev main_cst_4 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_5 : Ref sig .tc := ⟨.hbm, 58, rfl⟩
abbrev main_v41 : Ref sig .tc := ⟨.hbm, 59, rfl⟩
abbrev main_v42 : Ref sig .tc := ⟨.hbm, 60, rfl⟩
abbrev main_cst_6 : Ref sig .tc := ⟨.hbm, 61, rfl⟩
abbrev main_v43 : Ref sig .tc := ⟨.hbm, 62, rfl⟩
abbrev main_v44 : Ref sig .tc := ⟨.hbm, 63, rfl⟩
abbrev main_cst_7 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩

abbrev nD : Nat := 1
abbrev τ : Topo := Topo.v7x

variable {F : FTy → Type} [FloatOps F]
-- ==== Kernel5.lean ====
abbrev S512x1024 : Shape := ⟨2, ![512, 1024]⟩
abbrev S512x2048 : Shape := ⟨2, ![512, 2048]⟩
abbrev S512x7168 : Shape := ⟨2, ![512, 7168]⟩
abbrev S512x256 : Shape := ⟨2, ![512, 256]⟩
abbrev S2048x1024 : Shape := ⟨2, ![2048, 1024]⟩
abbrev S1024x1024 : Shape := ⟨2, ![1024, 1024]⟩
abbrev S256x1024 : Shape := ⟨2, ![256, 1024]⟩
abbrev S1x1024 : Shape := ⟨2, ![1, 1024]⟩
abbrev S512 : Shape := ⟨1, ![512]⟩
abbrev S512x1 : Shape := ⟨2, ![512, 1]⟩

abbrev nBuf : Space → Nat
  | .hbm => 12
  | .vmem => 13
  | .smem => 0
  | _ => 0

abbrev bufTy : (tb : Table) → Fin (tcTables nBuf tb) → BufTy
  | .hbm, ⟨0, _⟩ => ⟨S512x1024, .f32⟩
  | .hbm, ⟨1, _⟩ => ⟨S512x2048, .bf16⟩
  | .hbm, ⟨2, _⟩ => ⟨S512x1024, .bf16⟩
  | .hbm, ⟨3, _⟩ => ⟨S512x7168, .bf16⟩
  | .hbm, ⟨4, _⟩ => ⟨S512x256, .f32⟩
  | .hbm, ⟨5, _⟩ => ⟨S2048x1024, .bf16⟩
  | .hbm, ⟨6, _⟩ => ⟨S1024x1024, .bf16⟩
  | .hbm, ⟨7, _⟩ => ⟨S1024x1024, .bf16⟩
  | .hbm, ⟨8, _⟩ => ⟨S1024x1024, .bf16⟩
  | .hbm, ⟨9, _⟩ => ⟨S256x1024, .bf16⟩
  | .hbm, ⟨10, _⟩ => ⟨S1x1024, .f32⟩
  | .hbm, ⟨11, _⟩ => ⟨S512x1024, .f32⟩
  | .local _ .vmem, ⟨0, _⟩ => ⟨S512x1024, .f32⟩
  | .local _ .vmem, ⟨1, _⟩ => ⟨S512x2048, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x256, .f32⟩
  | .local _ .vmem, ⟨6, _⟩ => ⟨S2048x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S256x1024, .bf16⟩
  | .local _ .vmem, ⟨11, _⟩ => ⟨S1x1024, .f32⟩
  | .local _ .vmem, ⟨12, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]
-- ==== Reference5Ideal.lean ====
abbrev S512x1024 : Shape := ⟨2, ![512, 1024]⟩
abbrev S512x2048 : Shape := ⟨2, ![512, 2048]⟩
abbrev S512x7168 : Shape := ⟨2, ![512, 7168]⟩
abbrev S512x256 : Shape := ⟨2, ![512, 256]⟩
abbrev S2048x1024 : Shape := ⟨2, ![2048, 1024]⟩
abbrev S1024x1024 : Shape := ⟨2, ![1024, 1024]⟩
abbrev S256x1024 : Shape := ⟨2, ![256, 1024]⟩
abbrev S1x1024 : Shape := ⟨2, ![1, 1024]⟩
abbrev S_ : Shape := ⟨0, ![]⟩
abbrev S512 : Shape := ⟨1, ![512]⟩
abbrev S512x1 : Shape := ⟨2, ![512, 1]⟩

abbrev nBuf : Space → Nat
  | .hbm => 72
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x2048, .bf16⟩
  | .hbm, ⟨2, _⟩ => ⟨S512x1024, .bf16⟩
  | .hbm, ⟨3, _⟩ => ⟨S512x7168, .bf16⟩
  | .hbm, ⟨4, _⟩ => ⟨S512x256, .f32⟩
  | .hbm, ⟨5, _⟩ => ⟨S2048x1024, .bf16⟩
  | .hbm, ⟨6, _⟩ => ⟨S1024x1024, .bf16⟩
  | .hbm, ⟨7, _⟩ => ⟨S1024x1024, .bf16⟩
  | .hbm, ⟨8, _⟩ => ⟨S1024x1024, .bf16⟩
  | .hbm, ⟨9, _⟩ => ⟨S256x1024, .bf16⟩
  | .hbm, ⟨10, _⟩ => ⟨S1x1024, .f32⟩
  | .hbm, ⟨11, _⟩ => ⟨S512x2048, .f32⟩
  | .hbm, ⟨12, _⟩ => ⟨S2048x1024, .f32⟩
  | .hbm, ⟨13, _⟩ => ⟨S512x1024, .f32⟩
  | .hbm, ⟨14, _⟩ => ⟨S512x1024, .f32⟩
  | .hbm, ⟨15, _⟩ => ⟨S1024x1024, .f32⟩
  | .hbm, ⟨16, _⟩ => ⟨S512x1024, .f32⟩
  | .hbm, ⟨17, _⟩ => ⟨S512x1024, .bf16⟩
  | .hbm, ⟨18, _⟩ => ⟨S512x1024, .f32⟩
  | .hbm, ⟨19, _⟩ => ⟨S512x1024, .bf16⟩
  | .hbm, ⟨20, _⟩ => ⟨S512x1024, .f32⟩
  | .hbm, ⟨21, _⟩ => ⟨S512x1024, .f32⟩
  | .hbm, ⟨22, _⟩ => ⟨S512x1024, .f32⟩
  | .hbm, ⟨23, _⟩ => ⟨S_, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S512x1024, .f32⟩
  | .hbm, ⟨31, _⟩ => ⟨S512x1024, .f32⟩
  | .hbm, ⟨32, _⟩ => ⟨S_, .f32⟩
  | .hbm, ⟨33, _⟩ => ⟨S512x1024, .f32⟩
  | .hbm, ⟨34, _⟩ => ⟨S512x1024, .f32⟩
  | .hbm, ⟨35, _⟩ => ⟨S_, .f32⟩
  | .hbm, ⟨36, _⟩ => ⟨S512x1024, .f32⟩
  | .hbm, ⟨37, _⟩ => ⟨S512x1024, .f32⟩
  | .hbm, ⟨38, _⟩ => ⟨S512x1024, .f32⟩
  | .hbm, ⟨39, _⟩ => ⟨S512x1024, .f32⟩
  | .hbm, ⟨40, _⟩ => ⟨S1024x1024, .f32⟩
  | .hbm, ⟨41, _⟩ => ⟨S512x1024, .f32⟩
  | .hbm, ⟨42, _⟩ => ⟨S512x1024, .f32⟩
  | .hbm, ⟨43, _⟩ => ⟨S1024x1024, .f32⟩
  | .hbm, ⟨44, _⟩ => ⟨S512x1024, .f32⟩
  | .hbm, ⟨45, _⟩ => ⟨S512x1024, .f32⟩
  | .hbm, ⟨46, _⟩ => ⟨S512x1024, .f32⟩
  | .hbm, ⟨47, _⟩ => ⟨S_, .f32⟩
  | .hbm, ⟨48, _⟩ => ⟨S512x1024, .f32⟩
  | .hbm, ⟨49, _⟩ => ⟨S512x1024, .f32⟩
  | .hbm, ⟨50, _⟩ => ⟨S_, .f32⟩
  | .hbm, ⟨51, _⟩ => ⟨S512x1024, .f32⟩
  | .hbm, ⟨52, _⟩ => ⟨S512x1024, .f32⟩
  | .hbm, ⟨53, _⟩ => ⟨S256x1024, .f32⟩
  | .hbm, ⟨54, _⟩ => ⟨S512x1024, .f32⟩
  | .hbm, ⟨55, _⟩ => ⟨S512x1024, .f32⟩
  | .hbm, ⟨56, _⟩ => ⟨S512x1024, .f32⟩
  | .hbm, ⟨57, _⟩ => ⟨S512x1024, .f32⟩
  | .hbm, ⟨58, _⟩ => ⟨S_, .f32⟩
  | .hbm, ⟨59, _⟩ => ⟨S512, .f32⟩
  | .hbm, ⟨60, _⟩ => ⟨S512x1, .f32⟩
  | .hbm, ⟨61, _⟩ => ⟨S_, .f32⟩
  | .hbm, ⟨62, _⟩ => ⟨S512x1, .f32⟩
  | .hbm, ⟨63, _⟩ => ⟨S512x1, .f32⟩
  | .hbm, ⟨64, _⟩ => ⟨S_, .f32⟩
  | .hbm, ⟨65, _⟩ => ⟨S512x1, .f32⟩
  | .hbm, ⟨66, _⟩ => ⟨S512x1, .f32⟩
  | .hbm, ⟨67, _⟩ => ⟨S512x1, .f32⟩
  | .hbm, ⟨68, _⟩ => ⟨S512x1024, .f32⟩
  | .hbm, ⟨69, _⟩ => ⟨S512x1024, .f32⟩
  | .hbm, ⟨70, _⟩ => ⟨S512x1024, .f32⟩
  | .hbm, ⟨71, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_v33 : Ref sig .tc := ⟨.hbm, 49, rfl⟩
abbrev main_cst_4 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_5 : Ref sig .tc := ⟨.hbm, 58, rfl⟩
abbrev main_v41 : Ref sig .tc := ⟨.hbm, 59, rfl⟩
abbrev main_v42 : Ref sig .tc := ⟨.hbm, 60, rfl⟩
abbrev main_cst_6 : Ref sig .tc := ⟨.hbm, 61, rfl⟩
abbrev main_v43 : Ref sig .tc := ⟨.hbm, 62, rfl⟩
abbrev main_v44 : Ref sig .tc := ⟨.hbm, 63, rfl⟩
abbrev main_cst_7 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩

abbrev nD : Nat := 1
abbrev τ : Topo := Topo.v7x

variable {F : FTy → Type} [FloatOps F]
-- ==== Kernel6.lean ====
abbrev S512x1024 : Shape := ⟨2, ![512, 1024]⟩
abbrev S1024x10240 : Shape := ⟨2, ![1024, 10240]⟩
abbrev S512x7168 : Shape := ⟨2, ![512, 7168]⟩
abbrev S1024x1792 : Shape := ⟨2, ![1024, 1792]⟩
abbrev S512x1792 : Shape := ⟨2, ![512, 1792]⟩

abbrev nBuf : Space → Nat
  | .hbm => 3
  | .vmem => 5
  | .smem => 0
  | _ => 0

abbrev bufTy : (tb : Table) → Fin (tcTables nBuf tb) → BufTy
  | .hbm, ⟨0, _⟩ => ⟨S512x1024, .bf16⟩
  | .hbm, ⟨1, _⟩ => ⟨S1024x10240, .bf16⟩
  | .hbm, ⟨2, _⟩ => ⟨S512x7168, .bf16⟩
  | .local _ .vmem, ⟨0, _⟩ => ⟨S512x1024, .bf16⟩
  | .local _ .vmem, ⟨1, _⟩ => ⟨S1024x1792, .bf16⟩
  | .local _ .vmem, ⟨2, _⟩ => ⟨S1024x1792, .bf16⟩
  | .local _ .vmem, ⟨3, _⟩ => ⟨S512x1792, .bf16⟩
  | .local _ .vmem, ⟨4, _⟩ => ⟨S512x1792, .bf16⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S512x1024 : Shape := ⟨2, ![512, 1024]⟩
abbrev S1024x10240 : Shape := ⟨2, ![1024, 10240]⟩
abbrev S1024x7168 : Shape := ⟨2, ![1024, 7168]⟩
abbrev S512x7168 : Shape := ⟨2, ![512, 7168]⟩

abbrev nBuf : Space → Nat
  | .hbm => 7
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S1024x10240, .bf16⟩
  | .hbm, ⟨2, _⟩ => ⟨S512x1024, .f32⟩
  | .hbm, ⟨3, _⟩ => ⟨S1024x7168, .bf16⟩
  | .hbm, ⟨4, _⟩ => ⟨S1024x7168, .f32⟩
  | .hbm, ⟨5, _⟩ => ⟨S512x7168, .f32⟩
  | .hbm, ⟨6, _⟩ => ⟨S512x7168, .bf16⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel7.lean ====
abbrev S16384x1024 : Shape := ⟨2, ![16384, 1024]⟩
abbrev S1024x10240 : Shape := ⟨2, ![1024, 10240]⟩
abbrev S1x384 : Shape := ⟨2, ![1, 384]⟩
abbrev S384x1536 : Shape := ⟨2, ![384, 1536]⟩
abbrev S1x256 : Shape := ⟨2, ![1, 256]⟩
abbrev S256x2048 : Shape := ⟨2, ![256, 2048]⟩
abbrev S1024x704 : Shape := ⟨2, ![1024, 704]⟩
abbrev S1024x64 : Shape := ⟨2, ![1024, 64]⟩
abbrev S_ : Shape := ⟨0, ![]⟩
abbrev S1024x32 : Shape := ⟨2, ![1024, 32]⟩
abbrev S1024x896 : Shape := ⟨2, ![1024, 896]⟩
abbrev S384x8x192 : Shape := ⟨3, ![384, 8, 192]⟩
abbrev S384x8x64 : Shape := ⟨3, ![384, 8, 64]⟩
abbrev S384x8x256 : Shape := ⟨3, ![384, 8, 256]⟩
abbrev S384x2048 : Shape := ⟨2, ![384, 2048]⟩
abbrev S384x8x32 : Shape := ⟨3, ![384, 8, 32]⟩
abbrev S384x8x128 : Shape := ⟨3, ![384, 8, 128]⟩
abbrev S384x1024 : Shape := ⟨2, ![384, 1024]⟩
abbrev S2048 : Shape := ⟨1, ![2048]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S2048x128 : Shape := ⟨2, ![2048, 128]⟩
abbrev S16384x2048 : Shape := ⟨2, ![16384, 2048]⟩
abbrev S16384x256 : Shape := ⟨2, ![16384, 256]⟩
abbrev S16384x64 : Shape := ⟨2, ![16384, 64]⟩
abbrev S16384x128 : Shape := ⟨2, ![16384, 128]⟩
abbrev S512x1024 : Shape := ⟨2, ![512, 1024]⟩
abbrev S512x128 : Shape := ⟨2, ![512, 128]⟩
abbrev S512x2048 : Shape := ⟨2, ![512, 2048]⟩
abbrev S512x256 : Shape := ⟨2, ![512, 256]⟩
abbrev S512x64 : Shape := ⟨2, ![512, 64]⟩
abbrev S512x896 : Shape := ⟨2, ![512, 896]⟩
abbrev S512x384 : Shape := ⟨2, ![512, 384]⟩
abbrev S512 : Shape := ⟨1, ![512]⟩
abbrev S512x1 : Shape := ⟨2, ![512, 1]⟩

abbrev nBuf : Space → Nat
  | .hbm => 55
  | .vmem => 22
  | .smem => 0
  | _ => 0

abbrev bufTy : (tb : Table) → Fin (tcTables nBuf tb) → BufTy
  | .hbm, ⟨0, _⟩ => ⟨S16384x1024, .bf16⟩
  | .hbm, ⟨1, _⟩ => ⟨S1024x10240, .bf16⟩
  | .hbm, ⟨2, _⟩ => ⟨S1x384, .f32⟩
  | .hbm, ⟨3, _⟩ => ⟨S384x1536, .f32⟩
  | .hbm, ⟨4, _⟩ => ⟨S1x256, .f32⟩
  | .hbm, ⟨5, _⟩ => ⟨S256x2048, .f32⟩
  | .hbm, ⟨6, _⟩ => ⟨S1024x704, .bf16⟩
  | .hbm, ⟨7, _⟩ => ⟨S1024x64, .bf16⟩
  | .hbm, ⟨8, _⟩ => ⟨S_, .bf16⟩
  | .hbm, ⟨9, _⟩ => ⟨S1024x64, .bf16⟩
  | .hbm, ⟨10, _⟩ => ⟨S1024x32, .bf16⟩
  | .hbm, ⟨11, _⟩ => ⟨S1024x32, .bf16⟩
  | .hbm, ⟨12, _⟩ => ⟨S1024x32, .bf16⟩
  | .hbm, ⟨13, _⟩ => ⟨S1024x64, .bf16⟩
  | .hbm, ⟨14, _⟩ => ⟨S1024x896, .bf16⟩
  | .hbm, ⟨15, _⟩ => ⟨S384x8x192, .f32⟩
  | .hbm, ⟨16, _⟩ => ⟨S384x8x64, .f32⟩
  | .hbm, ⟨17, _⟩ => ⟨S_, .f32⟩
  | .hbm, ⟨18, _⟩ => ⟨S384x8x64, .f32⟩
  | .hbm, ⟨19, _⟩ => ⟨S384x8x256, .f32⟩
  | .hbm, ⟨20, _⟩ => ⟨S384x2048, .f32⟩
  | .hbm, ⟨21, _⟩ => ⟨S384x2048, .bf16⟩
  | .hbm, ⟨22, _⟩ => ⟨S384x8x32, .f32⟩
  | .hbm, ⟨23, _⟩ => ⟨S384x8x32, .f32⟩
  | .hbm, ⟨24, _⟩ => ⟨S384x8x32, .f32⟩
  | .hbm, ⟨25, _⟩ => ⟨S384x8x64, .f32⟩
  | .hbm, ⟨26, _⟩ => ⟨S384x8x128, .f32⟩
  | .hbm, ⟨27, _⟩ => ⟨S384x1024, .f32⟩
  | .hbm, ⟨28, _⟩ => ⟨S384x1024, .bf16⟩
  | .hbm, ⟨29, _⟩ => ⟨S256x2048, .bf16⟩
  | .hbm, ⟨30, _⟩ => ⟨S2048, .f32⟩
  | .hbm, ⟨31, _⟩ => ⟨S32, .f32⟩
  | .hbm, ⟨32, _⟩ => ⟨S32, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S_, .f32⟩
  | .hbm, ⟨37, _⟩ => ⟨S32, .f32⟩
  | .hbm, ⟨38, _⟩ => ⟨S32, .f32⟩
  | .hbm, ⟨39, _⟩ => ⟨S2048x1, .f32⟩
  | .hbm, ⟨40, _⟩ => ⟨S1x32, .f32⟩
  | .hbm, ⟨41, _⟩ => ⟨S2048x32, .f32⟩
  | .hbm, ⟨42, _⟩ => ⟨S2048x32, .f32⟩
  | .hbm, ⟨43, _⟩ => ⟨S2048x32, .f32⟩
  | .hbm, ⟨44, _⟩ => ⟨S2048x32, .f32⟩
  | .hbm, ⟨45, _⟩ => ⟨S2048x32, .f32⟩
  | .hbm, ⟨46, _⟩ => ⟨S_, .f32⟩
  | .hbm, ⟨47, _⟩ => ⟨S2048x64, .f32⟩
  | .hbm, ⟨48, _⟩ => ⟨S2048x128, .f32⟩
  | .hbm, ⟨49, _⟩ => ⟨S2048x128, .f32⟩
  | .hbm, ⟨50, _⟩ => ⟨S16384x2048, .bf16⟩
  | .hbm, ⟨51, _⟩ => ⟨S16384x256, .f32⟩
  | .hbm, ⟨52, _⟩ => ⟨S16384x64, .f32⟩
  | .hbm, ⟨53, _⟩ => ⟨S16384x128, .bf16⟩
  | .hbm, ⟨54, _⟩ => ⟨S16384x2048, .bf16⟩
  | .local _ .vmem, ⟨0, _⟩ => ⟨S512x1024, .bf16⟩
  | .local _ .vmem, ⟨1, _⟩ => ⟨S512x1024, .bf16⟩
  | .local _ .vmem, ⟨2, _⟩ => ⟨S1024x896, .bf16⟩
  | .local _ .vmem, ⟨3, _⟩ => ⟨S1x384, .f32⟩
  | .local _ .vmem, ⟨4, _⟩ => ⟨S384x2048, .bf16⟩
  | .local _ .vmem, ⟨5, _⟩ => ⟨S384x1024, .bf16⟩
  | .local _ .vmem, ⟨6, _⟩ => ⟨S1x256, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S256x2048, .bf16⟩
  | .local _ .vmem, ⟨12, _⟩ => ⟨S512x2048, .bf16⟩
  | .local _ .vmem, ⟨13, _⟩ => ⟨S512x2048, .bf16⟩
  | .local _ .vmem, ⟨14, _⟩ => ⟨S512x256, .f32⟩
  | .local _ .vmem, ⟨15, _⟩ => ⟨S512x256, .f32⟩
  | .local _ .vmem, ⟨16, _⟩ => ⟨S512x64, .f32⟩
  | .local _ .vmem, ⟨17, _⟩ => ⟨S512x64, .f32⟩
  | .local _ .vmem, ⟨18, _⟩ => ⟨S512x128, .bf16⟩
  | .local _ .vmem, ⟨19, _⟩ => ⟨S512x128, .bf16⟩
  | .local _ .vmem, ⟨20, _⟩ => ⟨S512x2048, .bf16⟩
  | .local _ .vmem, ⟨21, _⟩ => ⟨S512x2048, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_1 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_3 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39_0 : Ref sig .tc := ⟨.hbm, 50, rfl⟩
abbrev main_v39_1 : Ref sig .tc := ⟨.hbm, 51, rfl⟩
abbrev main_v39_2 : Ref sig .tc := ⟨.hbm, 52, rfl⟩
abbrev main_v39_3 : Ref sig .tc := ⟨.hbm, 53, rfl⟩
abbrev main_v39_4 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x896 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S256x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference7Ideal.lean ====
abbrev S16384x1024 : Shape := ⟨2, ![16384, 1024]⟩
abbrev S1024x10240 : Shape := ⟨2, ![1024, 10240]⟩
abbrev S1x384 : Shape := ⟨2, ![1, 384]⟩
abbrev S384x1536 : Shape := ⟨2, ![384, 1536]⟩
abbrev S1x256 : Shape := ⟨2, ![1, 256]⟩
abbrev S256x2048 : Shape := ⟨2, ![256, 2048]⟩
abbrev S2048 : Shape := ⟨1, ![2048]⟩
abbrev S1024x704 : Shape := ⟨2, ![1024, 704]⟩
abbrev S16384x704 : Shape := ⟨2, ![16384, 704]⟩
abbrev S16384x384 : Shape := ⟨2, ![16384, 384]⟩
abbrev S16384x256 : Shape := ⟨2, ![16384, 256]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S16384x1536 : Shape := ⟨2, ![16384, 1536]⟩
abbrev S8x2048x8x192 : Shape := ⟨4, ![8, 2048, 8, 192]⟩
abbrev S8x2048x8x128 : Shape := ⟨4, ![8, 2048, 8, 128]⟩
abbrev S8x2048x8x64 : Shape := ⟨4, ![8, 2048, 8, 64]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x1x32 : Shape := ⟨3, ![2048, 1, 32]⟩
abbrev S8x2048x8x32 : Shape := ⟨4, ![8, 2048, 8, 32]⟩
abbrev S1x2048x1x32 : Shape := ⟨4, ![1, 2048, 1, 32]⟩
abbrev S8x2048x8x256 : Shape := ⟨4, ![8, 2048, 8, 256]⟩
abbrev S16384x2048 : Shape := ⟨2, ![16384, 2048]⟩
abbrev S8x2048x64 : Shape := ⟨3, ![8, 2048, 64]⟩
abbrev S8x2048x32 : Shape := ⟨3, ![8, 2048, 32]⟩
abbrev S1x2048x32 : Shape := ⟨3, ![1, 2048, 32]⟩
abbrev S16384x128 : Shape := ⟨2, ![16384, 128]⟩

abbrev nBuf : Space → Nat
  | .hbm => 130
  | .vmem => 0
  | .smem => 0
  | _ => 0

abbrev hbmTy0_0 (i : Nat) : BufTy := match i % 128 with
  | 0 => ⟨S16384x1024, .bf16⟩
  | 1 => ⟨S1024x10240, .bf16⟩
  | 2 => ⟨S1x384, .f32⟩
  | 3 => ⟨S384x1536, .f32⟩
  | 4 => ⟨S1x256, .f32⟩
  | 5 => ⟨S256x2048, .f32⟩
  | 6 => ⟨S2048, .f32⟩
  | 7 => ⟨S16384x1024, .f32⟩
  | 8 => ⟨S1024x704, .bf16⟩
  | 9 => ⟨S1024x704, .f32⟩
  | 10 => ⟨S16384x704, .f32⟩
  | 11 => ⟨S16384x384, .f32⟩
  | 12 => ⟨S16384x256, .f32⟩
  | 13 => ⟨S16384x64, .f32⟩
  | 14 => ⟨S16384x384, .f32⟩
  | 15 => ⟨S_, .f32⟩
  | 16 => ⟨S16384, .f32⟩
  | 17 => ⟨S16384x1, .f32⟩
  | 18 => ⟨S_, .f32⟩
  | 19 => ⟨S16384x1, .f32⟩
  | 20 => ⟨S16384x1, .f32⟩
  | 21 => ⟨S_, .f32⟩
  | 22 => ⟨S16384x1, .f32⟩
  | 23 => ⟨S16384x1, .f32⟩
  | 24 => ⟨S16384x1, .f32⟩
  | 25 => ⟨S16384x384, .f32⟩
  | 26 => ⟨S16384x384, .f32⟩
  | 27 => ⟨S16384x384, .f32⟩
  | 28 => ⟨S16384x384, .f32⟩
  | 29 => ⟨S16384x1536, .f32⟩
  | 30 => ⟨S8x2048x8x192, .f32⟩
  | 31 => ⟨S8x2048x8x128, .f32⟩
  | 32 => ⟨S8x2048x8x64, .f32⟩
  | 33 => ⟨S32, .f32⟩
  | 34 => ⟨S32, .f32⟩
  | 35 => ⟨S_, .f32⟩
  | 36 => ⟨S32, .f32⟩
  | 37 => ⟨S32, .f32⟩
  | 38 => ⟨S_, .f32⟩
  | 39 => ⟨S32, .f32⟩
  | 40 => ⟨S32, .f32⟩
  | 41 => ⟨S2048x1, .f32⟩
  | 42 => ⟨S1x32, .f32⟩
  | 43 => ⟨S2048x32, .f32⟩
  | 44 => ⟨S2048x32, .f32⟩
  | 45 => ⟨S2048x32, .f32⟩
  | 46 => ⟨S2048x1x32, .f32⟩
  | 47 => ⟨S2048x1x32, .f32⟩
  | 48 => ⟨S2048x1x32, .f32⟩
  | 49 => ⟨S8x2048x8x32, .f32⟩
  | 50 => ⟨S8x2048x8x32, .f32⟩
  | 51 => ⟨S1x2048x1x32, .f32⟩
  | 52 => ⟨S8x2048x8x32, .f32⟩
  | 53 => ⟨S8x2048x8x32, .f32⟩
  | 54 => ⟨S1x2048x1x32, .f32⟩
  | 55 => ⟨S8x2048x8x32, .f32⟩
  | 56 => ⟨S8x2048x8x32, .f32⟩
  | 57 => ⟨S8x2048x8x32, .f32⟩
  | 58 => ⟨S1x2048x1x32, .f32⟩
  | 59 => ⟨S8x2048x8x32, .f32⟩
  | 60 => ⟨S8x2048x8x32, .f32⟩
  | 61 => ⟨S1x2048x1x32, .f32⟩
  | 62 => ⟨S8x2048x8x32, .f32⟩
  | 63 => ⟨S8x2048x8x32, .f32⟩
  | 64 => ⟨S8x2048x8x32, .f32⟩
  | 65 => ⟨S8x2048x8x64, .f32⟩
  | 66 => ⟨S8x2048x8x192, .f32⟩
  | 67 => ⟨S_, .f32⟩
  | 68 => ⟨S8x2048x8x192, .f32⟩
  | 69 => ⟨S8x2048x8x192, .f32⟩
  | 70 => ⟨S_, .i32⟩
  | 71 => ⟨S_, .f32⟩
  | 72 => ⟨S8x2048x8x256, .f32⟩
  | 73 => ⟨S16384x2048, .f32⟩
  | 74 => ⟨S16384x2048, .bf16⟩
  | 75 => ⟨S16384x256, .f32⟩
  | 76 => ⟨S_, .f32⟩
  | 77 => ⟨S16384, .f32⟩
  | 78 => ⟨S16384x1, .f32⟩
  | 79 => ⟨S_, .f32⟩
  | 80 => ⟨S16384x1, .f32⟩
  | 81 => ⟨S16384x1, .f32⟩
  | 82 => ⟨S_, .f32⟩
  | 83 => ⟨S16384x1, .f32⟩
  | 84 => ⟨S16384x1, .f32⟩
  | 85 => ⟨S16384x1, .f32⟩
  | 86 => ⟨S16384x256, .f32⟩
  | 87 => ⟨S16384x256, .f32⟩
  | 88 => ⟨S16384x256, .f32⟩
  | 89 => ⟨S16384x256, .f32⟩
  | 90 => ⟨S8x2048x64, .f32⟩
  | 91 => ⟨S32, .f32⟩
  | 92 => ⟨S32, .f32⟩
  | 93 => ⟨S_, .f32⟩
  | 94 => ⟨S32, .f32⟩
  | 95 => ⟨S32, .f32⟩
  | 96 => ⟨S_, .f32⟩
  | 97 => ⟨S32, .f32⟩
  | 98 => ⟨S32, .f32⟩
  | 99 => ⟨S2048x1, .f32⟩
  | 100 => ⟨S1x32, .f32⟩
  | 101 => ⟨S2048x32, .f32⟩
  | 102 => ⟨S2048x32, .f32⟩
  | 103 => ⟨S2048x32, .f32⟩
  | 104 => ⟨S2048x32, .f32⟩
  | 105 => ⟨S2048x32, .f32⟩
  | 106 => ⟨S8x2048x32, .f32⟩
  | 107 => ⟨S8x2048x32, .f32⟩
  | 108 => ⟨S1x2048x32, .f32⟩
  | 109 => ⟨S8x2048x32, .f32⟩
  | 110 => ⟨S8x2048x32, .f32⟩
  | 111 => ⟨S1x2048x32, .f32⟩
  | 112 => ⟨S8x2048x32, .f32⟩
  | 113 => ⟨S8x2048x32, .f32⟩
  | 114 => ⟨S8x2048x32, .f32⟩
  | 115 => ⟨S1x2048x32, .f32⟩
  | 116 => ⟨S8x2048x32, .f32⟩
  | 117 => ⟨S8x2048x32, .f32⟩
  | 118 => ⟨S1x2048x32, .f32⟩
  | 119 => ⟨S8x2048x32, .f32⟩
  | 120 => ⟨S8x2048x32, .f32⟩
  | 121 => ⟨S8x2048x32, .f32⟩
  | 122 => ⟨S8x2048x64, .f32⟩
  | 123 => ⟨S16384x64, .f32⟩
  | 124 => ⟨S_, .i32⟩
  | 125 => ⟨S_, .f32⟩
  | 126 => ⟨S16384x128, .f32⟩
  | 127 => ⟨S16384x128, .bf16⟩
  | _ => ⟨S16384x1024, .bf16⟩

abbrev hbmTy0_1 (i : Nat) : BufTy := match i % 128 with
  | 0 => ⟨S16384x2048, .f32⟩
  | 1 => ⟨S16384x2048, .bf16⟩
  | _ => ⟨S16384x1024, .bf16⟩

abbrev hbmTy (i : Nat) : BufTy := match i / 128 with
  | 0 => hbmTy0_0 i
  | 1 => hbmTy0_1 i
  | _ => ⟨S16384x1024, .bf16⟩

abbrev bufTy : (tb : Table) → Fin (tcTables nBuf tb) → BufTy
  | .hbm, ⟨i, _⟩ => hbmTy i
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_cst_4 : Ref sig .tc := ⟨.hbm, 67, rfl⟩
abbrev main_v56 : Ref sig .tc := ⟨.hbm, 68, rfl⟩
abbrev main_v57 : Ref sig .tc := ⟨.hbm, 69, rfl⟩
abbrev main_c : Ref sig .tc := ⟨.hbm, 70, rfl⟩
abbrev main_call0_v0 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_cst_5 : Ref sig .tc := ⟨.hbm, 76, rfl⟩
abbrev main_v62 : Ref sig .tc := ⟨.hbm, 77, rfl⟩
abbrev main_v63 : Ref sig .tc := ⟨.hbm, 78, rfl⟩
abbrev main_cst_6 : Ref sig .tc := ⟨.hbm, 79, rfl⟩
abbrev main_v64 : Ref sig .tc := ⟨.hbm, 80, rfl⟩
abbrev main_v65 : Ref sig .tc := ⟨.hbm, 81, rfl⟩
abbrev main_cst_7 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_cst_8 : Ref sig .tc := ⟨.hbm, 93, rfl⟩
abbrev main_v76 : Ref sig .tc := ⟨.hbm, 94, rfl⟩
abbrev main_v77 : Ref sig .tc := ⟨.hbm, 95, rfl⟩
abbrev main_cst_9 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_c_10 : Ref sig .tc := ⟨.hbm, 124, rfl⟩
abbrev main_call1_v0 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩

abbrev nD : Nat := 1
abbrev τ : Topo := Topo.v7x

variable {F : FTy → Type} [FloatOps F]
-- ==== Kernel8.lean ====
abbrev S512x1024 : Shape := ⟨2, ![512, 1024]⟩
abbrev S1024x10240 : Shape := ⟨2, ![1024, 10240]⟩
abbrev S1x384 : Shape := ⟨2, ![1, 384]⟩
abbrev S384x1536 : Shape := ⟨2, ![384, 1536]⟩
abbrev S1x256 : Shape := ⟨2, ![1, 256]⟩
abbrev S1024x704 : Shape := ⟨2, ![1024, 704]⟩
abbrev S1024x64 : Shape := ⟨2, ![1024, 64]⟩
abbrev S_ : Shape := ⟨0, ![]⟩
abbrev S1024x32 : Shape := ⟨2, ![1024, 32]⟩
abbrev S1024x896 : Shape := ⟨2, ![1024, 896]⟩
abbrev S384x8x192 : Shape := ⟨3, ![384, 8, 192]⟩
abbrev S384x8x64 : Shape := ⟨3, ![384, 8, 64]⟩
abbrev S384x8x256 : Shape := ⟨3, ![384, 8, 256]⟩
abbrev S384x2048 : Shape := ⟨2, ![384, 2048]⟩
abbrev S384x8x32 : Shape := ⟨3, ![384, 8, 32]⟩
abbrev S384x8x128 : Shape := ⟨3, ![384, 8, 128]⟩
abbrev S384x1024 : Shape := ⟨2, ![384, 1024]⟩
abbrev S4 : Shape := ⟨1, ![4]⟩
abbrev S1x4 : Shape := ⟨2, ![1, 4]⟩
abbrev S128x4 : Shape := ⟨2, ![128, 4]⟩
abbrev S512 : Shape := ⟨1, ![512]⟩
abbrev S32 : Shape := ⟨1, ![32]⟩
abbrev S512x1 : Shape := ⟨2, ![512, 1]⟩
abbrev S1x32 : Shape := ⟨2, ![1, 32]⟩
abbrev S512x32 : Shape := ⟨2, ![512, 32]⟩
abbrev S512x64 : Shape := ⟨2, ![512, 64]⟩
abbrev S512x128 : Shape := ⟨2, ![512, 128]⟩
abbrev S512x2048 : Shape := ⟨2, ![512, 2048]⟩
abbrev S512x256 : Shape := ⟨2, ![512, 256]⟩
abbrev S512x896 : Shape := ⟨2, ![512, 896]⟩
abbrev S512x384 : Shape := ⟨2, ![512, 384]⟩

abbrev nBuf : Space → Nat
  | .hbm => 57
  | .vmem => 11
  | .smem => 0
  | _ => 0

abbrev bufTy : (tb : Table) → Fin (tcTables nBuf tb) → BufTy
  | .hbm, ⟨0, _⟩ => ⟨S512x1024, .bf16⟩
  | .hbm, ⟨1, _⟩ => ⟨S1024x10240, .bf16⟩
  | .hbm, ⟨2, _⟩ => ⟨S1x384, .f32⟩
  | .hbm, ⟨3, _⟩ => ⟨S384x1536, .f32⟩
  | .hbm, ⟨4, _⟩ => ⟨S1x256, .f32⟩
  | .hbm, ⟨5, _⟩ => ⟨S1024x704, .bf16⟩
  | .hbm, ⟨6, _⟩ => ⟨S1024x64, .bf16⟩
  | .hbm, ⟨7, _⟩ => ⟨S_, .bf16⟩
  | .hbm, ⟨8, _⟩ => ⟨S1024x64, .bf16⟩
  | .hbm, ⟨9, _⟩ => ⟨S1024x32, .bf16⟩
  | .hbm, ⟨10, _⟩ => ⟨S1024x32, .bf16⟩
  | .hbm, ⟨11, _⟩ => ⟨S1024x32, .bf16⟩
  | .hbm, ⟨12, _⟩ => ⟨S1024x64, .bf16⟩
  | .hbm, ⟨13, _⟩ => ⟨S1024x896, .bf16⟩
  | .hbm, ⟨14, _⟩ => ⟨S384x8x192, .f32⟩
  | .hbm, ⟨15, _⟩ => ⟨S384x8x64, .f32⟩
  | .hbm, ⟨16, _⟩ => ⟨S_, .f32⟩
  | .hbm, ⟨17, _⟩ => ⟨S384x8x64, .f32⟩
  | .hbm, ⟨18, _⟩ => ⟨S384x8x256, .f32⟩
  | .hbm, ⟨19, _⟩ => ⟨S384x2048, .f32⟩
  | .hbm, ⟨20, _⟩ => ⟨S384x2048, .bf16⟩
  | .hbm, ⟨21, _⟩ => ⟨S384x8x32, .f32⟩
  | .hbm, ⟨22, _⟩ => ⟨S384x8x32, .f32⟩
  | .hbm, ⟨23, _⟩ => ⟨S384x8x32, .f32⟩
  | .hbm, ⟨24, _⟩ => ⟨S384x8x64, .f32⟩
  | .hbm, ⟨25, _⟩ => ⟨S384x8x128, .f32⟩
  | .hbm, ⟨26, _⟩ => ⟨S384x1024, .f32⟩
  | .hbm, ⟨27, _⟩ => ⟨S384x1024, .bf16⟩
  | .hbm, ⟨28, _⟩ => ⟨S4, .f32⟩
  | .hbm, ⟨29, _⟩ => ⟨S_, .f32⟩
  | .hbm, ⟨30, _⟩ => ⟨S4, .f32⟩
  | .hbm, ⟨31, _⟩ => ⟨S4, .f32⟩
  | .hbm, ⟨32, _⟩ => ⟨S1x4, .f32⟩
  | .hbm, ⟨33, _⟩ => ⟨S128x4, .f32⟩
  | .hbm, ⟨34, _⟩ => ⟨S512, .f32⟩
  | .hbm, ⟨35, _⟩ => ⟨S32, .f32⟩
  | .hbm, ⟨36, _⟩ => ⟨S32, .f32⟩
  | .hbm, ⟨37, _⟩ => ⟨S_, .f32⟩
  | .hbm, ⟨38, _⟩ => ⟨S32, .f32⟩
  | .hbm, ⟨39, _⟩ => ⟨S32, .f32⟩
  | .hbm, ⟨40, _⟩ => ⟨S_, .f32⟩
  | .hbm, ⟨41, _⟩ => ⟨S32, .f32⟩
  | .hbm, ⟨42, _⟩ => ⟨S32, .f32⟩
  | .hbm, ⟨43, _⟩ => ⟨S512x1, .f32⟩
  | .hbm, ⟨44, _⟩ => ⟨S1x32, .f32⟩
  | .hbm, ⟨45, _⟩ => ⟨S512x32, .f32⟩
  | .hbm, ⟨46, _⟩ => ⟨S512x32, .f32⟩
  | .hbm, ⟨47, _⟩ => ⟨S512x32, .f32⟩
  | .hbm, ⟨48, _⟩ => ⟨S512x32, .f32⟩
  | .hbm, ⟨49, _⟩ => ⟨S512x32, .f32⟩
  | .hbm, ⟨50, _⟩ => ⟨S_, .f32⟩
  | .hbm, ⟨51, _⟩ => ⟨S512x64, .f32⟩
  | .hbm, ⟨52, _⟩ => ⟨S512x128, .f32⟩
  | .hbm, ⟨53, _⟩ => ⟨S512x128, .f32⟩
  | .hbm, ⟨54, _⟩ => ⟨S512x2048, .bf16⟩
  | .hbm, ⟨55, _⟩ => ⟨S512x256, .f32⟩
  | .hbm, ⟨56, _⟩ => ⟨S512x64, .f32⟩
  | .local _ .vmem, ⟨0, _⟩ => ⟨S512x1024, .bf16⟩
  | .local _ .vmem, ⟨1, _⟩ => ⟨S1024x896, .bf16⟩
  | .local _ .vmem, ⟨2, _⟩ => ⟨S1x384, .f32⟩
  | .local _ .vmem, ⟨3, _⟩ => ⟨S384x2048, .bf16⟩
  | .local _ .vmem, ⟨4, _⟩ => ⟨S384x1024, .bf16⟩
  | .local _ .vmem, ⟨5, _⟩ => ⟨S1x256, .f32⟩
  | .local _ .vmem, ⟨6, _⟩ => ⟨S512x128, .f32⟩
  | .local _ .vmem, ⟨7, _⟩ => ⟨S512x128, .f32⟩
  | .local _ .vmem, ⟨8, _⟩ => ⟨S512x2048, .bf16⟩
  | .local _ .vmem, ⟨9, _⟩ => ⟨S512x256, .f32⟩
  | .local _ .vmem, ⟨10, _⟩ => ⟨S512x64, .f32⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_2 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_4 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43_0 : Ref sig .tc := ⟨.hbm, 54, rfl⟩
abbrev main_v43_1 : Ref sig .tc := ⟨.hbm, 55, rfl⟩
abbrev main_v43_2 : Ref sig .tc := ⟨.hbm, 56, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x896 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S512x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S512x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== Reference8Ideal.lean ====
abbrev S512x1024 : Shape := ⟨2, ![512, 1024]⟩
abbrev S1024x10240 : Shape := ⟨2, ![1024, 10240]⟩
abbrev S1x384 : Shape := ⟨2, ![1, 384]⟩
abbrev S384x1536 : Shape := ⟨2, ![384, 1536]⟩
abbrev S1x256 : Shape := ⟨2, ![1, 256]⟩
abbrev S4 : Shape := ⟨1, ![4]⟩
abbrev S_ : Shape := ⟨0, ![]⟩
abbrev S1024x704 : Shape := ⟨2, ![1024, 704]⟩
abbrev S512x704 : Shape := ⟨2, ![512, 704]⟩
abbrev S512x384 : Shape := ⟨2, ![512, 384]⟩
abbrev S512x256 : Shape := ⟨2, ![512, 256]⟩
abbrev S512x64 : Shape := ⟨2, ![512, 64]⟩
abbrev S512 : Shape := ⟨1, ![512]⟩
abbrev S512x1 : Shape := ⟨2, ![512, 1]⟩
abbrev S512x1536 : Shape := ⟨2, ![512, 1536]⟩
abbrev S128x4x8x192 : Shape := ⟨4, ![128, 4, 8, 192]⟩
abbrev S128x4x8x128 : Shape := ⟨4, ![128, 4, 8, 128]⟩
abbrev S128x4x8x64 : Shape := ⟨4, ![128, 4, 8, 64]⟩
abbrev S32 : Shape := ⟨1, ![32]⟩
abbrev S4x1 : Shape := ⟨2, ![4, 1]⟩
abbrev S1x32 : Shape := ⟨2, ![1, 32]⟩
abbrev S4x32 : Shape := ⟨2, ![4, 32]⟩
abbrev S4x1x32 : Shape := ⟨3, ![4, 1, 32]⟩
abbrev S128x4x8x32 : Shape := ⟨4, ![128, 4, 8, 32]⟩
abbrev S1x4x1x32 : Shape := ⟨4, ![1, 4, 1, 32]⟩
abbrev S128x4x8x256 : Shape := ⟨4, ![128, 4, 8, 256]⟩
abbrev S512x2048 : Shape := ⟨2, ![512, 2048]⟩
abbrev S128x4x64 : Shape := ⟨3, ![128, 4, 64]⟩
abbrev S128x4x32 : Shape := ⟨3, ![128, 4, 32]⟩
abbrev S1x4x32 : Shape := ⟨3, ![1, 4, 32]⟩

abbrev nBuf : Space → Nat
  | .hbm => 126
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S1024x10240, .bf16⟩
  | .hbm, ⟨2, _⟩ => ⟨S1x384, .f32⟩
  | .hbm, ⟨3, _⟩ => ⟨S384x1536, .f32⟩
  | .hbm, ⟨4, _⟩ => ⟨S1x256, .f32⟩
  | .hbm, ⟨5, _⟩ => ⟨S4, .f32⟩
  | .hbm, ⟨6, _⟩ => ⟨S_, .f32⟩
  | .hbm, ⟨7, _⟩ => ⟨S4, .f32⟩
  | .hbm, ⟨8, _⟩ => ⟨S4, .f32⟩
  | .hbm, ⟨9, _⟩ => ⟨S512x1024, .f32⟩
  | .hbm, ⟨10, _⟩ => ⟨S1024x704, .bf16⟩
  | .hbm, ⟨11, _⟩ => ⟨S1024x704, .f32⟩
  | .hbm, ⟨12, _⟩ => ⟨S512x704, .f32⟩
  | .hbm, ⟨13, _⟩ => ⟨S512x384, .f32⟩
  | .hbm, ⟨14, _⟩ => ⟨S512x256, .f32⟩
  | .hbm, ⟨15, _⟩ => ⟨S512x64, .f32⟩
  | .hbm, ⟨16, _⟩ => ⟨S512x384, .f32⟩
  | .hbm, ⟨17, _⟩ => ⟨S_, .f32⟩
  | .hbm, ⟨18, _⟩ => ⟨S512, .f32⟩
  | .hbm, ⟨19, _⟩ => ⟨S512x1, .f32⟩
  | .hbm, ⟨20, _⟩ => ⟨S_, .f32⟩
  | .hbm, ⟨21, _⟩ => ⟨S512x1, .f32⟩
  | .hbm, ⟨22, _⟩ => ⟨S512x1, .f32⟩
  | .hbm, ⟨23, _⟩ => ⟨S_, .f32⟩
  | .hbm, ⟨24, _⟩ => ⟨S512x1, .f32⟩
  | .hbm, ⟨25, _⟩ => ⟨S512x1, .f32⟩
  | .hbm, ⟨26, _⟩ => ⟨S512x1, .f32⟩
  | .hbm, ⟨27, _⟩ => ⟨S512x384, .f32⟩
  | .hbm, ⟨28, _⟩ => ⟨S512x384, .f32⟩
  | .hbm, ⟨29, _⟩ => ⟨S512x384, .f32⟩
  | .hbm, ⟨30, _⟩ => ⟨S512x384, .f32⟩
  | .hbm, ⟨31, _⟩ => ⟨S512x1536, .f32⟩
  | .hbm, ⟨32, _⟩ => ⟨S128x4x8x192, .f32⟩
  | .hbm, ⟨33, _⟩ => ⟨S128x4x8x128, .f32⟩
  | .hbm, ⟨34, _⟩ => ⟨S128x4x8x64, .f32⟩
  | .hbm, ⟨35, _⟩ => ⟨S32, .f32⟩
  | .hbm, ⟨36, _⟩ => ⟨S32, .f32⟩
  | .hbm, ⟨37, _⟩ => ⟨S_, .f32⟩
  | .hbm, ⟨38, _⟩ => ⟨S32, .f32⟩
  | .hbm, ⟨39, _⟩ => ⟨S32, .f32⟩
  | .hbm, ⟨40, _⟩ => ⟨S_, .f32⟩
  | .hbm, ⟨41, _⟩ => ⟨S32, .f32⟩
  | .hbm, ⟨42, _⟩ => ⟨S32, .f32⟩
  | .hbm, ⟨43, _⟩ => ⟨S4x1, .f32⟩
  | .hbm, ⟨44, _⟩ => ⟨S1x32, .f32⟩
  | .hbm, ⟨45, _⟩ => ⟨S4x32, .f32⟩
  | .hbm, ⟨46, _⟩ => ⟨S4x32, .f32⟩
  | .hbm, ⟨47, _⟩ => ⟨S4x32, .f32⟩
  | .hbm, ⟨48, _⟩ => ⟨S4x1x32, .f32⟩
  | .hbm, ⟨49, _⟩ => ⟨S4x1x32, .f32⟩
  | .hbm, ⟨50, _⟩ => ⟨S4x1x32, .f32⟩
  | .hbm, ⟨51, _⟩ => ⟨S128x4x8x32, .f32⟩
  | .hbm, ⟨52, _⟩ => ⟨S128x4x8x32, .f32⟩
  | .hbm, ⟨53, _⟩ => ⟨S1x4x1x32, .f32⟩
  | .hbm, ⟨54, _⟩ => ⟨S128x4x8x32, .f32⟩
  | .hbm, ⟨55, _⟩ => ⟨S128x4x8x32, .f32⟩
  | .hbm, ⟨56, _⟩ => ⟨S1x4x1x32, .f32⟩
  | .hbm, ⟨57, _⟩ => ⟨S128x4x8x32, .f32⟩
  | .hbm, ⟨58, _⟩ => ⟨S128x4x8x32, .f32⟩
  | .hbm, ⟨59, _⟩ => ⟨S128x4x8x32, .f32⟩
  | .hbm, ⟨60, _⟩ => ⟨S1x4x1x32, .f32⟩
  | .hbm, ⟨61, _⟩ => ⟨S128x4x8x32, .f32⟩
  | .hbm, ⟨62, _⟩ => ⟨S128x4x8x32, .f32⟩
  | .hbm, ⟨63, _⟩ => ⟨S1x4x1x32, .f32⟩
  | .hbm, ⟨64, _⟩ => ⟨S128x4x8x32, .f32⟩
  | .hbm, ⟨65, _⟩ => ⟨S128x4x8x32, .f32⟩
  | .hbm, ⟨66, _⟩ => ⟨S128x4x8x32, .f32⟩
  | .hbm, ⟨67, _⟩ => ⟨S128x4x8x64, .f32⟩
  | .hbm, ⟨68, _⟩ => ⟨S128x4x8x192, .f32⟩
  | .hbm, ⟨69, _⟩ => ⟨S_, .f32⟩
  | .hbm, ⟨70, _⟩ => ⟨S128x4x8x192, .f32⟩
  | .hbm, ⟨71, _⟩ => ⟨S128x4x8x192, .f32⟩
  | .hbm, ⟨72, _⟩ => ⟨S_, .i32⟩
  | .hbm, ⟨73, _⟩ => ⟨S_, .f32⟩
  | .hbm, ⟨74, _⟩ => ⟨S128x4x8x256, .f32⟩
  | .hbm, ⟨75, _⟩ => ⟨S512x2048, .f32⟩
  | .hbm, ⟨76, _⟩ => ⟨S512x2048, .bf16⟩
  | .hbm, ⟨77, _⟩ => ⟨S512x256, .f32⟩
  | .hbm, ⟨78, _⟩ => ⟨S_, .f32⟩
  | .hbm, ⟨79, _⟩ => ⟨S512, .f32⟩
  | .hbm, ⟨80, _⟩ => ⟨S512x1, .f32⟩
  | .hbm, ⟨81, _⟩ => ⟨S_, .f32⟩
  | .hbm, ⟨82, _⟩ => ⟨S512x1, .f32⟩
  | .hbm, ⟨83, _⟩ => ⟨S512x1, .f32⟩
  | .hbm, ⟨84, _⟩ => ⟨S_, .f32⟩
  | .hbm, ⟨85, _⟩ => ⟨S512x1, .f32⟩
  | .hbm, ⟨86, _⟩ => ⟨S512x1, .f32⟩
  | .hbm, ⟨87, _⟩ => ⟨S512x1, .f32⟩
  | .hbm, ⟨88, _⟩ => ⟨S512x256, .f32⟩
  | .hbm, ⟨89, _⟩ => ⟨S512x256, .f32⟩
  | .hbm, ⟨90, _⟩ => ⟨S512x256, .f32⟩
  | .hbm, ⟨91, _⟩ => ⟨S512x256, .f32⟩
  | .hbm, ⟨92, _⟩ => ⟨S128x4x64, .f32⟩
  | .hbm, ⟨93, _⟩ => ⟨S32, .f32⟩
  | .hbm, ⟨94, _⟩ => ⟨S32, .f32⟩
  | .hbm, ⟨95, _⟩ => ⟨S_, .f32⟩
  | .hbm, ⟨96, _⟩ => ⟨S32, .f32⟩
  | .hbm, ⟨97, _⟩ => ⟨S32, .f32⟩
  | .hbm, ⟨98, _⟩ => ⟨S_, .f32⟩
  | .hbm, ⟨99, _⟩ => ⟨S32, .f32⟩
  | .hbm, ⟨100, _⟩ => ⟨S32, .f32⟩
  | .hbm, ⟨101, _⟩ => ⟨S4x1, .f32⟩
  | .hbm, ⟨102, _⟩ => ⟨S1x32, .f32⟩
  | .hbm, ⟨103, _⟩ => ⟨S4x32, .f32⟩
  | .hbm, ⟨104, _⟩ => ⟨S4x32, .f32⟩
  | .hbm, ⟨105, _⟩ => ⟨S4x32, .f32⟩
  | .hbm, ⟨106, _⟩ => ⟨S4x32, .f32⟩
  | .hbm, ⟨107, _⟩ => ⟨S4x32, .f32⟩
  | .hbm, ⟨108, _⟩ => ⟨S128x4x32, .f32⟩
  | .hbm, ⟨109, _⟩ => ⟨S128x4x32, .f32⟩
  | .hbm, ⟨110, _⟩ => ⟨S1x4x32, .f32⟩
  | .hbm, ⟨111, _⟩ => ⟨S128x4x32, .f32⟩
  | .hbm, ⟨112, _⟩ => ⟨S128x4x32, .f32⟩
  | .hbm, ⟨113, _⟩ => ⟨S1x4x32, .f32⟩
  | .hbm, ⟨114, _⟩ => ⟨S128x4x32, .f32⟩
  | .hbm, ⟨115, _⟩ => ⟨S128x4x32, .f32⟩
  | .hbm, ⟨116, _⟩ => ⟨S128x4x32, .f32⟩
  | .hbm, ⟨117, _⟩ => ⟨S1x4x32, .f32⟩
  | .hbm, ⟨118, _⟩ => ⟨S128x4x32, .f32⟩
  | .hbm, ⟨119, _⟩ => ⟨S128x4x32, .f32⟩
  | .hbm, ⟨120, _⟩ => ⟨S1x4x32, .f32⟩
  | .hbm, ⟨121, _⟩ => ⟨S128x4x32, .f32⟩
  | .hbm, ⟨122, _⟩ => ⟨S128x4x32, .f32⟩
  | .hbm, ⟨123, _⟩ => ⟨S128x4x32, .f32⟩
  | .hbm, ⟨124, _⟩ => ⟨S128x4x64, .f32⟩
  | .hbm, ⟨125, _⟩ => ⟨S512x64, .f32⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_cst_5 : Ref sig .tc := ⟨.hbm, 69, rfl⟩
abbrev main_v58 : Ref sig .tc := ⟨.hbm, 70, rfl⟩
abbrev main_v59 : Ref sig .tc := ⟨.hbm, 71, rfl⟩
abbrev main_c : Ref sig .tc := ⟨.hbm, 72, rfl⟩
abbrev main_call0_v0 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_cst_6 : Ref sig .tc := ⟨.hbm, 78, rfl⟩
abbrev main_v64 : Ref sig .tc := ⟨.hbm, 79, rfl⟩
abbrev main_v65 : Ref sig .tc := ⟨.hbm, 80, rfl⟩
abbrev main_cst_7 : Ref sig .tc := ⟨.hbm, 81, rfl⟩
abbrev main_v66 : Ref sig .tc := ⟨.hbm, 82, rfl⟩
abbrev main_v67 : Ref sig .tc := ⟨.hbm, 83, rfl⟩
abbrev main_cst_8 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_cst_9 : Ref sig .tc := ⟨.hbm, 95, rfl⟩
abbrev main_v78 : Ref sig .tc := ⟨.hbm, 96, rfl⟩
abbrev main_v79 : Ref sig .tc := ⟨.hbm, 97, rfl⟩
abbrev main_cst_10 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩

abbrev nD : Nat := 1
abbrev τ : Topo := Topo.v7x

variable {F : FTy → Type} [FloatOps F]
-- ==== Proof.RetRun.lean ====
module

public import proofs.«01_k».proof.Proof.Gen.KernelIdeal.Frame.Runs

@[expose] public section

set_option maxRecDepth 16384

noncomputable section

namespace Cert.KernelIdeal.Ret

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run on whole staging memrefs, with the pieces that it leaves in the two outputs as
    functions of what output 9's buffer held on entry: the counted loop's piece lists are stated
    over the entry contents of both buffers that it writes. -/
noncomputable def retRun (c : Dev nD) (i : grid0.Coords) (arg2 : Memref sig .tc .vmem S2048x512 .bf16) (harg2 : arg2.IsWhole) (arg3 : Memref sig .tc .vmem S2048x512 .bf16) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S1x1024 .f32) (harg6 : arg6.IsWhole) (arg7 : Memref sig .tc .vmem S2x128x128 .f32) (harg7 : arg7.IsWhole) (arg8 : Memref sig .tc .vmem S2x128x512 .f32) (harg8 : arg8.IsWhole) (arg9 : Memref sig .tc .vmem S2x128x256 .f32) (harg9 : arg9.IsWhole) (arg10 : Memref sig .tc .vmem S2x1x512 .f32) (harg10 : arg10.IsWhole) (arg11 : Memref sig .tc .vmem S2048x1024 .bf16) (harg11 : arg11.IsWhole) (arg12 : Memref sig .tc .vmem S1x2x256x512 .f32) (harg12 : arg12.IsWhole) (arg13 : Memref sig .tc .vmem S2x256x512 .f32) (harg13 : arg13.IsWhole)
    (x0 : Vec F S2048x512 .bf16) (x1 : Vec F S2048x512 .bf16) (x2 : Vec F S2048x1024 .bf16) (x3 : Vec F S2048x1024 .bf16) (x4 : Vec F S1x1024 .f32) (x5 : Vec F S2x128x128 .f32) (x6 : Vec F S2x128x512 .f32) (x7 : Vec F S2x128x256 .f32) (x8 : Vec F S2x1x512 .f32) :
    Σ' (L9 : BufTy.Contents (Elt F) arg11.view.ty → List (View.Piece (Elt F) S2048x1024 .bf16)), { L10 : BufTy.Contents (Elt F) arg11.view.ty → List (View.Piece (Elt F) S1x2x256x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, (arg11.view.loc (c : Thread nD τ) ↦[arg11.view.set]{fullShare} arg11.view.writes (Elt F) f (L9 f)) ∗ (∃ g, arg12.view.loc (c : Thread nD τ) ↦[arg12.view.set]{fullShare} arg12.view.writes (Elt F) g (L10 f))) ∗ (∃ d, owns (c : Thread nD τ) arg13 fullShare d)) -∗ K ⟨⟩))
          ⊢ wp frame (wpE (defs₀ (F := F)) Variants.none c none) E (cc0_ret_prompt i arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc0_ret_prompt_eq_skeleton]; unfold cc0_ret_prompt_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9 H10]
    · iexists f9
      isplitl [H9]; · iexact H9
      iexists _; iexact H10
    iexists _, _; isplitr; swap; · iexact HS0
    ipureintro; rfl

end Cert.KernelIdeal.Ret

end
-- ==== Proof.RetVals.lean ====
module

public import proofs.«01_k».proof.Proof.RetRun
public import Idealize.ShloMosaic.Lib.VecWindow
public import Idealize.ShloMosaic.Lib.Pipeline.Value

@[expose] public section

set_option maxRecDepth 16384

noncomputable section

namespace Cert.KernelIdeal.Ret

open Cert.KernelIdeal.Gen
open Idealize.ShloMosaic Idealize.ShloMosaic.TcCoe Idealize.ShloMosaic.Tactic

variable {F : FTy → Type} [FloatOps F]

/-! ## What one trip of the chunk loop computes, from the blocks and the state -/

section Trip

variable (x0 x1 : Vec F S2048x512 .bf16) (x2 x3 : Vec F S2048x1024 .bf16) (x4 : Vec F S1x1024 .f32)
  (x5 : Vec F S2x128x128 .f32) (x6 : Vec F S2x128x512 .f32) (x7 : Vec F S2x128x256 .f32) (x8 : Vec F S2x1x512 .f32)

/-- Chunk `k` of the queries or keys of the step's first head. -/
def qk0 (x : Vec F S2048x512 .bf16) (k : Fin k0_t1_loop.trips) : Vec F S128x256 .bf16 :=
  View.ld x (Rect.unit (k0_off1 k) S128x256.size (k0_off1_inb k))
/-- Chunk `k` of the queries or keys of the step's second head. -/
def qk1 (x : Vec F S2048x512 .bf16) (k : Fin k0_t1_loop.trips) : Vec F S128x256 .bf16 :=
  View.ld x (Rect.unit (k0_off3 k) S128x256.size (k0_off3_inb k))
/-- Chunk `k` of the values or gates of the first head. -/
def v0 (x : Vec F S2048x1024 .bf16) (k : Fin k0_t1_loop.trips) : Vec F S128x512 .bf16 :=
  View.ld x (Rect.unit (k0_off2 k) S128x512.size (k0_off2_inb k))
/-- Chunk `k` of the values or gates of the second head. -/
def v1 (x : Vec F S2048x1024 .bf16) (k : Fin k0_t1_loop.trips) : Vec F S128x512 .bf16 :=
  View.ld x (Rect.unit (k0_off4 k) S128x512.size (k0_off4_inb k))
/-- The first head's state. -/
def st0 (S : Vec F S2x256x512 .f32) : Vec F S1x256x512 .f32 :=
  View.ld S (Rect.unit ![0, 0, 0] S1x256x512.size inb_S2x256x512_S1x256x512_0_0_0)
/-- The second head's state. -/
def st1 (S : Vec F S2x256x512 .f32) : Vec F S1x256x512 .f32 :=
  View.ld S (Rect.unit ![1, 0, 0] S1x256x512.size inb_S2x256x512_S1x256x512_1_0_0)
def dm0 (x : Vec F S2x128x128 .f32) : Vec F S1x128x128 .f32 :=
  View.ld x (Rect.unit ![0, 0, 0] S1x128x128.size inb_S2x128x128_S1x128x128_0_0_0)
def dm1 (x : Vec F S2x128x128 .f32) : Vec F S1x128x128 .f32 :=
  View.ld x (Rect.unit ![1, 0, 0] S1x128x128.size inb_S2x128x128_S1x128x128_1_0_0)
def qd0 (x : Vec F S2x128x512 .f32) : Vec F S1x128x512 .f32 :=
  View.ld x (Rect.unit ![0, 0, 0] S1x128x512.size inb_S2x128x512_S1x128x512_0_0_0)
def qd1 (x : Vec F S2x128x512 .f32) : Vec F S1x128x512 .f32 :=
  View.ld x (Rect.unit ![1, 0, 0] S1x128x512.size inb_S2x128x512_S1x128x512_1_0_0)
def kd0 (x : Vec F S2x128x256 .f32) : Vec F S1x128x256 .f32 :=
  View.ld x (Rect.unit ![0, 0, 0] S1x128x256.size inb_S2x128x256_S1x128x256_0_0_0)
def kd1 (x : Vec F S2x128x256 .f32) : Vec F S1x128x256 .f32 :=
  View.ld x (Rect.unit ![1, 0, 0] S1x128x256.size inb_S2x128x256_S1x128x256_1_0_0)
def gc0 (x : Vec F S2x1x512 .f32) : Vec F S1x1x512 .f32 :=
  View.ld x (Rect.unit ![0, 0, 0] S1x1x512.size inb_S2x1x512_S1x1x512_0_0_0)
def gc1 (x : Vec F S2x1x512 .f32) : Vec F S1x1x512 .f32 :=
  View.ld x (Rect.unit ![1, 0, 0] S1x1x512.size inb_S2x1x512_S1x1x512_1_0_0)

/-- The first head's state after chunk `k`. -/
def new0 (k : Fin k0_t1_loop.trips) (S : Vec F S2x256x512 .f32) : Vec F S1x256x512 .f32 :=
  k0_pay7 (k0_pay5 (qk0 x1 k) (v0 x2 k) (st0 S) (kd0 x7) (gc0 x8))

/-- The second head's state after chunk `k`. -/
def new1 (k : Fin k0_t1_loop.trips) (S : Vec F S2x256x512 .f32) : Vec F S1x256x512 .f32 :=
  k0_pay10 (qk1 x1 k) (v1 x2 k) (k0_pay9 (st1 S)) (kd1 x7) (gc1 x8)

/-- The first head's rows of the result in chunk `k`. -/
def act0 (k : Fin k0_t1_loop.trips) (S : Vec F S2x256x512 .f32) : Vec F S128x512 .bf16 :=
  k0_pay8 (k0_pay6 (qk0 x0 k) (qk0 x1 k) (v0 x2 k) (st0 S) (dm0 x5) (qd0 x6)) (v0 x3 k)
    (View.ld x4 (Rect.unit ![0, 0] S1x512.size inb_S1x1024_S1x512_0_0))

/-- The second head's rows of the result in chunk `k`. -/
def act1 (k : Fin k0_t1_loop.trips) (S : Vec F S2x256x512 .f32) : Vec F S128x512 .bf16 :=
  k0_pay2 (v1 x3 k) (View.ld x4 (Rect.unit ![0, 512] S1x512.size inb_S1x1024_S1x512_0_512))
    (k0_pay11 (qk1 x0 k) (qk1 x1 k) (v1 x2 k) (k0_pay9 (st1 S)) (dm1 x5) (qd1 x6))
    (k0_pay12 (qk1 x0 k) (qk1 x1 k) (v1 x2 k) (k0_pay9 (st1 S)) (dm1 x5) (qd1 x6))

/-- Both heads' states after chunk `k`. -/
def stepS (k : Fin k0_t1_loop.trips) (S : Vec F S2x256x512 .f32) : Vec F S2x256x512 .f32 :=
  VecWindow.put (VecWindow.put S ![0, 0, 0] S1x256x512.size (new0 x1 x2 x7 x8 k S)) ![1, 0, 0] S1x256x512.size
    (new1 x1 x2 x7 x8 k S)

/-- Both heads' states before chunk `n`. -/
def stateAt : ℕ → Vec F S2x256x512 .f32
  | 0 => k0_pay1
  | n + 1 => if h : n < k0_t1_loop.trips then stepS x1 x2 x7 x8 ⟨n, h⟩ (stateAt n) else stateAt n

theorem stateAt_succ (k : Fin k0_t1_loop.trips) :
    stateAt x1 x2 x7 x8 (k.val + 1) = stepS x1 x2 x7 x8 k (stateAt x1 x2 x7 x8 k.val) := by
  rw [stateAt]; exact dif_pos k.isLt

/-- The block of the first result: row `y 0` is a row of chunk `y 0 / 128`, column `y 1` one of the first head's below 512. -/
def outAct : Vec F S2048x1024 .bf16 := fun y =>
  if h : (y 1).val < 512 then
    act0 x0 x1 x2 x3 x4 x5 x6 ⟨(y 0).val / 128, by have := (y 0).isLt; exact Nat.div_lt_of_lt_mul this⟩
      (stateAt x1 x2 x7 x8 ((y 0).val / 128)) (Rect.unitLocal (s := S2048x1024) (off := ![128 * ((y 0).val / 128), 0]) (size := S128x512.size) y
        (Fin.forall_fin_two.mpr ⟨⟨by show 128 * ((y 0).val / 128) ≤ _; omega, by show _ < 128 * ((y 0).val / 128) + 128; omega⟩, ⟨Nat.zero_le _, by show _ < 0 + 512; omega⟩⟩))
  else
    act1 x0 x1 x2 x3 x4 x5 x6 ⟨(y 0).val / 128, by have := (y 0).isLt; exact Nat.div_lt_of_lt_mul this⟩
      (stateAt x1 x2 x7 x8 ((y 0).val / 128)) (Rect.unitLocal (s := S2048x1024) (off := ![128 * ((y 0).val / 128), 512]) (size := S128x512.size) y
        (Fin.forall_fin_two.mpr ⟨⟨by show 128 * ((y 0).val / 128) ≤ _; omega, by show _ < 128 * ((y 0).val / 128) + 128; omega⟩, ⟨by show 512 ≤ _; omega, by have : (y 1).val < 1024 := (y 1).isLt; show _ < 512 + 512; omega⟩⟩))

/-- The block of the second result: both heads' states after the last chunk. -/
def outS : Vec F S1x2x256x512 .f32 := k0_pay3 (stateAt x1 x2 x7 x8 16)

end Trip

/-! ## The loop's piece lists are these -/

section Pieces

/-- A trip's pieces, from the input blocks and from what the state's buffer holds: they do not depend on the output's buffer. -/
theorem tripL_eq (𝒱 : Variants) (c : Dev nD) (bd : Option 𝒱.V) (i : grid0.Coords) (arg2 : Memref sig .tc .vmem S2048x512 .bf16) (harg2 : arg2.IsWhole) (arg3 : Memref sig .tc .vmem S2048x512 .bf16) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S1x1024 .f32) (harg6 : arg6.IsWhole) (arg7 : Memref sig .tc .vmem S2x128x128 .f32) (harg7 : arg7.IsWhole) (arg8 : Memref sig .tc .vmem S2x128x512 .f32) (harg8 : arg8.IsWhole) (arg9 : Memref sig .tc .vmem S2x128x256 .f32) (harg9 : arg9.IsWhole) (arg10 : Memref sig .tc .vmem S2x1x512 .f32) (harg10 : arg10.IsWhole) (arg11 : Memref sig .tc .vmem S2048x1024 .bf16) (harg11 : arg11.IsWhole) (arg12 : Memref sig .tc .vmem S1x2x256x512 .f32) (harg12 : arg12.IsWhole) (arg13 : Memref sig .tc .vmem S2x256x512 .f32) (harg13 : arg13.IsWhole)
    (x0 : Vec F S2048x512 .bf16) (x1 : Vec F S2048x512 .bf16) (x2 : Vec F S2048x1024 .bf16) (x3 : Vec F S2048x1024 .bf16) (x4 : Vec F S1x1024 .f32) (x5 : Vec F S2x128x128 .f32) (x6 : Vec F S2x128x512 .f32) (x7 : Vec F S2x128x256 .f32) (x8 : Vec F S2x1x512 .f32) (k : Fin k0_t1_loop.trips) (f11 : BufTy.Contents (Elt F) arg11.view.ty) (f13 : BufTy.Contents (Elt F) arg13.view.ty) :
    tripL_k0_t1 𝒱 c bd i arg2 harg2 arg3 harg3 arg4 harg4 arg5 harg5 arg6 harg6 arg7 harg7 arg8 harg8 arg9 harg9 arg10 harg10 arg11 harg11 arg12 harg12 arg13 harg13 (harg2.unread x0) (harg3.unread x1) (harg4.unread x2) (harg5.unread x3) (harg6.unread x4) (harg7.unread x5) (harg8.unread x6) (harg9.unread x7) (harg10.unread x8) k f11 f13
      = ([⟨Rect.unit (k0_off4 k) S128x512.size (k0_off4_inb k), act1 x0 x1 x2 x3 x4 x5 x6 k (arg13.view.read (Elt F) f13)⟩,
          ⟨Rect.unit (k0_off2 k) S128x512.size (k0_off2_inb k), act0 x0 x1 x2 x3 x4 x5 x6 k (arg13.view.read (Elt F) f13)⟩],
         [⟨Rect.unit ![1, 0, 0] S1x256x512.size inb_S2x256x512_S1x256x512_1_0_0, new1 x1 x2 x7 x8 k (arg13.view.read (Elt F) f13)⟩,
          ⟨Rect.unit ![0, 0, 0] S1x256x512.size inb_S2x256x512_S1x256x512_0_0_0, new0 x1 x2 x7 x8 k (arg13.view.read (Elt F) f13)⟩]) := by
  unfold tripL_k0_t1 trip_k0_t1
  dsimp only [trip_k0_t1.sl.r, trip_k0_t1.sl.r_1, trip_k0_t1.sl.r_2, trip_k0_t1.sl.r_3, trip_k0_t1.sl.r_4, trip_k0_t1.sl.r_5,
    trip_k0_t1.sl.r_6, trip_k0_t1.sl.r_7, trip_k0_t1.sl.r_8, trip_k0_t1.sl.r_9, trip_k0_t1.sl.r_10]
  unfold act0 act1 new0 new1
  simp only [View.readAt_eq_ld, Memref.IsWhole.read_unread]
  rfl

/-- Before chunk `n` the state's buffer reads the states. -/
theorem read_pb_state (𝒱 : Variants) (c : Dev nD) (bd : Option 𝒱.V) (i : grid0.Coords) (arg2 : Memref sig .tc .vmem S2048x512 .bf16) (harg2 : arg2.IsWhole) (arg3 : Memref sig .tc .vmem S2048x512 .bf16) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S1x1024 .f32) (harg6 : arg6.IsWhole) (arg7 : Memref sig .tc .vmem S2x128x128 .f32) (harg7 : arg7.IsWhole) (arg8 : Memref sig .tc .vmem S2x128x512 .f32) (harg8 : arg8.IsWhole) (arg9 : Memref sig .tc .vmem S2x128x256 .f32) (harg9 : arg9.IsWhole) (arg10 : Memref sig .tc .vmem S2x1x512 .f32) (harg10 : arg10.IsWhole) (arg11 : Memref sig .tc .vmem S2048x1024 .bf16) (harg11 : arg11.IsWhole) (arg12 : Memref sig .tc .vmem S1x2x256x512 .f32) (harg12 : arg12.IsWhole) (arg13 : Memref sig .tc .vmem S2x256x512 .f32) (harg13 : arg13.IsWhole)
    (x0 : Vec F S2048x512 .bf16) (x1 : Vec F S2048x512 .bf16) (x2 : Vec F S2048x1024 .bf16) (x3 : Vec F S2048x1024 .bf16) (x4 : Vec F S1x1024 .f32) (x5 : Vec F S2x128x128 .f32) (x6 : Vec F S2x128x512 .f32) (x7 : Vec F S2x128x256 .f32) (x8 : Vec F S2x1x512 .f32) (f11 : BufTy.Contents (Elt F) arg11.view.ty) (f13 : BufTy.Contents (Elt F) arg13.view.ty)
    (h13 : arg13.view.read (Elt F) f13 = k0_pay1) : ∀ n : ℕ, n ≤ k0_t1_loop.trips →
    arg13.view.read (Elt F) (arg13.view.writes (Elt F) f13 (pb_k0_t1 𝒱 c bd i arg2 harg2 arg3 harg3 arg4 harg4 arg5 harg5 arg6 harg6 arg7 harg7 arg8 harg8 arg9 harg9 arg10 harg10 arg11 harg11 arg12 harg12 arg13 harg13 (harg2.unread x0) (harg3.unread x1) (harg4.unread x2) (harg5.unread x3) (harg6.unread x4) (harg7.unread x5) (harg8.unread x6) (harg9.unread x7) (harg10.unread x8) f11 f13 n).2) = stateAt x1 x2 x7 x8 n
  | 0, _ => h13
  | n + 1, hn => by
    have ih := read_pb_state 𝒱 c bd i arg2 harg2 arg3 harg3 arg4 harg4 arg5 harg5 arg6 harg6 arg7 harg7 arg8 harg8 arg9 harg9 arg10 harg10 arg11 harg11 arg12 harg12 arg13 harg13 x0 x1 x2 x3 x4 x5 x6 x7 x8 f11 f13 h13 n (Nat.le_of_succ_le hn)
    rw [pb_k0_t1_succ 𝒱 c bd i arg2 harg2 arg3 harg3 arg4 harg4 arg5 harg5 arg6 harg6 arg7 harg7 arg8 harg8 arg9 harg9 arg10 harg10 arg11 harg11 arg12 harg12 arg13 harg13 (harg2.unread x0) (harg3.unread x1) (harg4.unread x2) (harg5.unread x3) (harg6.unread x4) (harg7.unread x5) (harg8.unread x6) (harg9.unread x7) (harg10.unread x8) f11 f13 ⟨n, hn⟩, tripL_eq, ih]
    rw [stateAt_succ x1 x2 x7 x8 ⟨n, hn⟩]
    show arg13.view.read (Elt F) (arg13.view.writes (Elt F) f13 (_ :: _ :: _)) = _
    rw [View.read_writes_cons_put _ _ _ _ _ rfl, View.read_writes_cons_put _ _ _ _ _ rfl]
    exact congrArg (fun S : Vec F S2x256x512 .f32 => VecWindow.put (VecWindow.put S ![0, 0, 0] S1x256x512.size (new0 x1 x2 x7 x8 ⟨n, hn⟩ (stateAt x1 x2 x7 x8 n)))
      ![1, 0, 0] S1x256x512.size (new1 x1 x2 x7 x8 ⟨n, hn⟩ (stateAt x1 x2 x7 x8 n))) ih

/-- After chunk `n - 1` the rows of the chunks so far are the result's. -/
theorem read_pb_act (𝒱 : Variants) (c : Dev nD) (bd : Option 𝒱.V) (i : grid0.Coords) (arg2 : Memref sig .tc .vmem S2048x512 .bf16) (harg2 : arg2.IsWhole) (arg3 : Memref sig .tc .vmem S2048x512 .bf16) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S1x1024 .f32) (harg6 : arg6.IsWhole) (arg7 : Memref sig .tc .vmem S2x128x128 .f32) (harg7 : arg7.IsWhole) (arg8 : Memref sig .tc .vmem S2x128x512 .f32) (harg8 : arg8.IsWhole) (arg9 : Memref sig .tc .vmem S2x128x256 .f32) (harg9 : arg9.IsWhole) (arg10 : Memref sig .tc .vmem S2x1x512 .f32) (harg10 : arg10.IsWhole) (arg11 : Memref sig .tc .vmem S2048x1024 .bf16) (harg11 : arg11.IsWhole) (arg12 : Memref sig .tc .vmem S1x2x256x512 .f32) (harg12 : arg12.IsWhole) (arg13 : Memref sig .tc .vmem S2x256x512 .f32) (harg13 : arg13.IsWhole)
    (x0 : Vec F S2048x512 .bf16) (x1 : Vec F S2048x512 .bf16) (x2 : Vec F S2048x1024 .bf16) (x3 : Vec F S2048x1024 .bf16) (x4 : Vec F S1x1024 .f32) (x5 : Vec F S2x128x128 .f32) (x6 : Vec F S2x128x512 .f32) (x7 : Vec F S2x128x256 .f32) (x8 : Vec F S2x1x512 .f32) (f11 : BufTy.Contents (Elt F) arg11.view.ty) (f13 : BufTy.Contents (Elt F) arg13.view.ty)
    (h13 : arg13.view.read (Elt F) f13 = k0_pay1) : ∀ n : ℕ, n ≤ k0_t1_loop.trips → ∀ y : S2048x1024.Idx, (y 0).val < 128 * n →
    arg11.view.read (Elt F) (arg11.view.writes (Elt F) f11 (pb_k0_t1 𝒱 c bd i arg2 harg2 arg3 harg3 arg4 harg4 arg5 harg5 arg6 harg6 arg7 harg7 arg8 harg8 arg9 harg9 arg10 harg10 arg11 harg11 arg12 harg12 arg13 harg13 (harg2.unread x0) (harg3.unread x1) (harg4.unread x2) (harg5.unread x3) (harg6.unread x4) (harg7.unread x5) (harg8.unread x6) (harg9.unread x7) (harg10.unread x8) f11 f13 n).1) y
      = outAct x0 x1 x2 x3 x4 x5 x6 x7 x8 y
  | 0, _, y, hy => absurd hy (Nat.not_lt_zero _)
  | n + 1, hn, y, hy => by
    have ih := read_pb_act 𝒱 c bd i arg2 harg2 arg3 harg3 arg4 harg4 arg5 harg5 arg6 harg6 arg7 harg7 arg8 harg8 arg9 harg9 arg10 harg10 arg11 harg11 arg12 harg12 arg13 harg13 x0 x1 x2 x3 x4 x5 x6 x7 x8 f11 f13 h13 n (Nat.le_of_succ_le hn) y
    have hS := read_pb_state 𝒱 c bd i arg2 harg2 arg3 harg3 arg4 harg4 arg5 harg5 arg6 harg6 arg7 harg7 arg8 harg8 arg9 harg9 arg10 harg10 arg11 harg11 arg12 harg12 arg13 harg13 x0 x1 x2 x3 x4 x5 x6 x7 x8 f11 f13 h13 n (Nat.le_of_succ_le hn)
    rw [pb_k0_t1_succ 𝒱 c bd i arg2 harg2 arg3 harg3 arg4 harg4 arg5 harg5 arg6 harg6 arg7 harg7 arg8 harg8 arg9 harg9 arg10 harg10 arg11 harg11 arg12 harg12 arg13 harg13 (harg2.unread x0) (harg3.unread x1) (harg4.unread x2) (harg5.unread x3) (harg6.unread x4) (harg7.unread x5) (harg8.unread x6) (harg9.unread x7) (harg10.unread x8) f11 f13 ⟨n, hn⟩, tripL_eq, hS]
    show arg11.view.read (Elt F) (arg11.view.writes (Elt F) f11 (_ :: _ :: _)) y = _
    by_cases hr : (y 0).val < 128 * n
    · rw [View.read_writes_cons_unit_of_not_mem _ _ _ _ _ _ (k0_off4_eq ⟨n, hn⟩) 0 (Or.inl hr),
        View.read_writes_cons_unit_of_not_mem _ _ _ _ _ _ (k0_off2_eq ⟨n, hn⟩) 0 (Or.inl hr)]
      exact ih hr
    · have hq : (y 0).val / 128 = n := by omega
      have h1 : (y 1).val < 1024 := (y 1).isLt
      unfold outAct
      subst hq
      by_cases hc : (y 1).val < 512
      · rw [View.read_writes_cons_unit_of_not_mem _ _ _ _ _ _ (k0_off4_eq _) 1 (Or.inl hc), dif_pos hc]
        refine View.read_writes_cons_unit_of_mem _ _ _ _ _ _ _ (k0_off2_eq _) fun a => ?_
        rw [Rect.unitLocal_val]
        match a with
        | 0 => show (y 0).val = 128 * ((y 0).val / 128) + ((y 0).val - 128 * ((y 0).val / 128)); omega
        | 1 => show (y 1).val = 0 + ((y 1).val - 0); omega
      · rw [dif_neg hc]
        refine View.read_writes_cons_unit_of_mem _ _ _ _ _ _ _ (k0_off4_eq _) fun a => ?_
        rw [Rect.unitLocal_val]
        match a with
        | 0 => show (y 0).val = 128 * ((y 0).val / 128) + ((y 0).val - 128 * ((y 0).val / 128)); omega
        | 1 => show (y 1).val = 512 + ((y 1).val - 512); omega

/-- What the run leaves in the first output's buffer, whatever that held. -/
theorem read_run_act (c : Dev nD) (i : grid0.Coords) (arg2 : Memref sig .tc .vmem S2048x512 .bf16) (harg2 : arg2.IsWhole) (arg3 : Memref sig .tc .vmem S2048x512 .bf16) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S1x1024 .f32) (harg6 : arg6.IsWhole) (arg7 : Memref sig .tc .vmem S2x128x128 .f32) (harg7 : arg7.IsWhole) (arg8 : Memref sig .tc .vmem S2x128x512 .f32) (harg8 : arg8.IsWhole) (arg9 : Memref sig .tc .vmem S2x128x256 .f32) (harg9 : arg9.IsWhole) (arg10 : Memref sig .tc .vmem S2x1x512 .f32) (harg10 : arg10.IsWhole) (arg11 : Memref sig .tc .vmem S2048x1024 .bf16) (harg11 : arg11.IsWhole) (arg12 : Memref sig .tc .vmem S1x2x256x512 .f32) (harg12 : arg12.IsWhole) (arg13 : Memref sig .tc .vmem S2x256x512 .f32) (harg13 : arg13.IsWhole)
    (x0 : Vec F S2048x512 .bf16) (x1 : Vec F S2048x512 .bf16) (x2 : Vec F S2048x1024 .bf16) (x3 : Vec F S2048x1024 .bf16) (x4 : Vec F S1x1024 .f32) (x5 : Vec F S2x128x128 .f32) (x6 : Vec F S2x128x512 .f32) (x7 : Vec F S2x128x256 .f32) (x8 : Vec F S2x1x512 .f32) (f11 : BufTy.Contents (Elt F) arg11.view.ty) :
    arg11.view.read (Elt F) (arg11.view.writes (Elt F) f11 ((retRun c i arg2 harg2 arg3 harg3 arg4 harg4 arg5 harg5 arg6 harg6 arg7 harg7 arg8 harg8 arg9 harg9 arg10 harg10 arg11 harg11 arg12 harg12 arg13 harg13 x0 x1 x2 x3 x4 x5 x6 x7 x8).1 f11)) = outAct x0 x1 x2 x3 x4 x5 x6 x7 x8 := by
  funext y
  unfold retRun
  refine read_pb_act Variants.none c none i arg2 harg2 arg3 harg3 arg4 harg4 arg5 harg5 arg6 harg6 arg7 harg7 arg8 harg8 arg9 harg9 arg10 harg10 arg11 harg11 arg12 harg12 arg13 harg13 x0 x1 x2 x3 x4 x5 x6 x7 x8 f11 _ ?_ 16 (by decide) y (y 0).isLt
  unfold retRun.sl.HS0_1
  exact View.read_writes_full _ _ _ _ _

/-- What the run leaves in the second output's buffer. -/
theorem read_run_state (c : Dev nD) (i : grid0.Coords) (arg2 : Memref sig .tc .vmem S2048x512 .bf16) (harg2 : arg2.IsWhole) (arg3 : Memref sig .tc .vmem S2048x512 .bf16) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S1x1024 .f32) (harg6 : arg6.IsWhole) (arg7 : Memref sig .tc .vmem S2x128x128 .f32) (harg7 : arg7.IsWhole) (arg8 : Memref sig .tc .vmem S2x128x512 .f32) (harg8 : arg8.IsWhole) (arg9 : Memref sig .tc .vmem S2x128x256 .f32) (harg9 : arg9.IsWhole) (arg10 : Memref sig .tc .vmem S2x1x512 .f32) (harg10 : arg10.IsWhole) (arg11 : Memref sig .tc .vmem S2048x1024 .bf16) (harg11 : arg11.IsWhole) (arg12 : Memref sig .tc .vmem S1x2x256x512 .f32) (harg12 : arg12.IsWhole) (arg13 : Memref sig .tc .vmem S2x256x512 .f32) (harg13 : arg13.IsWhole)
    (x0 : Vec F S2048x512 .bf16) (x1 : Vec F S2048x512 .bf16) (x2 : Vec F S2048x1024 .bf16) (x3 : Vec F S2048x1024 .bf16) (x4 : Vec F S1x1024 .f32) (x5 : Vec F S2x128x128 .f32) (x6 : Vec F S2x128x512 .f32) (x7 : Vec F S2x128x256 .f32) (x8 : Vec F S2x1x512 .f32) (f11 : BufTy.Contents (Elt F) arg11.view.ty) (g : BufTy.Contents (Elt F) arg12.view.ty) :
    arg12.view.read (Elt F) (arg12.view.writes (Elt F) g ((retRun c i arg2 harg2 arg3 harg3 arg4 harg4 arg5 harg5 arg6 harg6 arg7 harg7 arg8 harg8 arg9 harg9 arg10 harg10 arg11 harg11 arg12 harg12 arg13 harg13 x0 x1 x2 x3 x4 x5 x6 x7 x8).2.1 f11)) = outS x1 x2 x7 x8 := by
  unfold retRun
  refine (View.read_writes_full _ _ _ _ _).trans ?_
  unfold outS
  refine congrArg k0_pay3 ?_
  unfold retRun.sl.v5 View.readCov
  rw [View.readAt_eq_ld, View.ld_unit_zero (by funext a; fin_cases a <;> rfl), View.writes_append]
  refine read_pb_state Variants.none c none i arg2 harg2 arg3 harg3 arg4 harg4 arg5 harg5 arg6 harg6 arg7 harg7 arg8 harg8 arg9 harg9 arg10 harg10 arg11 harg11 arg12 harg12 arg13 harg13 x0 x1 x2 x3 x4 x5 x6 x7 x8 f11 _ ?_ 16 (by decide)
  unfold retRun.sl.HS0_1
  exact View.read_writes_full _ _ _ _ _

end Pieces

end Cert.KernelIdeal.Ret

end
-- ==== Proof.RetFrame.lean ====
module

public import proofs.«01_k».proof.Proof.RetVals
public import Idealize.ShloMosaic.Lib.Claim

@[expose] public section

set_option maxRecDepth 16384

noncomputable section

namespace Cert.KernelIdeal.Ret

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the outputs hold after each point -/

/-- The blocks of the two results after the body at point `t`: the two heads' rows and the two heads' final states. -/
def outsAt0 (c : Dev nD) (t : Fin cfg0.N) : Vec F S2048x1024 .bf16 × Vec F S1x2x256x512 .f32 :=
  (outAct (iblk m c 0 t) (iblk m c 1 t) (iblk m c 2 t) (iblk m c 3 t) (iblk m c 4 t) (iblk m c 5 t) (iblk m c 6 t) (iblk m c 7 t) (iblk m c 8 t), outS (iblk m c 1 t) (iblk m c 2 t) (iblk m c 7 t) (iblk m c 8 t))

/-! ## The pipeline's proof data -/

/-- The pipeline's data: the arrays as they are found, each input's block, and the two results' blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt0 m c t).1
    | ⟨10, _⟩ => (outsAt0 m c t).2
  Φ _ := Pipeline.ΦA spec0 c
  q w := Pipeline.shareOf spec0 w
  owed _ := 0

/-- The arrays are those found at entry. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (outsAt0 m c t).1 := by dsimp only [dats]
theorem after0_10 (c : Dev nD) (t : Fin cfg0.N) : (dats m 0 c).after 10 t = (outsAt0 m c t).2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 1200000 in
/-- The body at any point: it leaves the inputs' blocks and fills the two results' blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  rw [show (dats m 0 c).Φ t.castSucc = Pipeline.ΦA spec0 c from rfl, PhiA0_eq]
  unfold outsAt0
  dsimp only
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((retRun c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [HS0]; · iexact HS0
  iintro ⟨H0, H1, H2, H3, H4, H5, H6, H7, H8, ⟨%e9, H9, %e10, H10⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact read_run_act c _ _ _ _ _ _ _ _ _ _ _ _ _ _ _ _ _ _ _ _ _ _ _ _ _ _ _ _ _ _ _ _ _ _ _
  unfold owns; iexists _; isplitr
  swap; · iexact H10
  ipureintro; exact read_run_state c _ _ _ _ _ _ _ _ _ _ _ _ _ _ _ _ _ _ _ _ _ _ _ _ _ _ _ _ _ _ _ _ _ _ _ _

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- The run's end: every array as computed from the blocks, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: the arguments end unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Ret

end
-- ==== Proof.KerFrame.lean ====
module

public import proofs.«01_k».proof.Defs
public import proofs.«01_k».proof.Proof.RetFrame
public import proofs.«01_k».proof.Proof.Gen.Kernel

@[expose] public section

set_option maxRecDepth 65536
set_option maxHeartbeats 4000000

namespace Cert.RetAlg

open Idealize.ShloMosaic Idealize.ShloMosaic.TcCoe Idealize.SL.Sem

variable {F : FTy → Type} [FloatOps F]

/-- The two printings of the module are one text, so their host functions agree. -/
theorem main_eq : @Cert.Kernel.main F _ Cert.Kernel.Gen.facts = @Cert.KernelIdeal.main F _ Cert.KernelIdeal.Gen.facts := rfl

/-- Their kernel bodies agree. -/
theorem bodies_eq : @Cert.Kernel.defs₀ F _ Cert.Kernel.Gen.facts = @Cert.KernelIdeal.defs₀ F _ Cert.KernelIdeal.Gen.facts := by
  refine congrArg Defs.onTc (funext fun l => funext fun x => ?_)
  match l, x with
  | 0, (t, s) => rfl

/-- Their definitions agree, launches included. -/
theorem defs_eq : @Cert.Kernel.defs F _ Cert.Kernel.Gen.facts = @Cert.KernelIdeal.defs F _ Cert.KernelIdeal.Gen.facts :=
  congrArg (Pipeline.defs Cert.KernelIdeal.pcfgs) bodies_eq

/-- The kernel as printed runs to the end and leaves its arguments. -/
theorem ker_frame : Cert.quiescent_Kernel (hKernel := Cert.Kernel.Gen.facts) := fun m ρ _ => by
  rw [defs_eq, main_eq]
  exact Cert.KernelIdeal.Ret.frame (F := Bits) m ρ

end Cert.RetAlg
-- ==== Proof.RetModel.lean ====
module

public import Idealize.ShloMosaic.Lib.Pointwise

@[expose] public section

noncomputable section

namespace Cert.RetModel

open Idealize.ShloMosaic Idealize.ShloMosaic.TcCoe

/-! ## Chunked retention, one number at a time

`X` holds the queries and keys of all tokens side by side, `Y` their values and gates, `G` the normalisation's weights.
Token `2048 b + 128 n + r` is row `r` of chunk `n` of sequence `b`. -/

/-- The row of token `r` of chunk `n` of sequence `b`. -/
def row (b : Fin 8) (n : Fin 16) (r : Fin 128) : Fin 16384 := ⟨2048 * b.val + 128 * n.val + r.val, by omega⟩
/-- Where head `h`'s queries lie. -/
def colQ (h : Fin 4) (d : Fin 256) : Fin 2048 := ⟨256 * h.val + d.val, by omega⟩
/-- Where head `h`'s keys lie. -/
def colK (h : Fin 4) (d : Fin 256) : Fin 2048 := ⟨1024 + 256 * h.val + d.val, by omega⟩
/-- Where head `h`'s values lie. -/
def colV (h : Fin 4) (e : Fin 512) : Fin 7168 := ⟨512 * h.val + e.val, by omega⟩
/-- Where head `h`'s gates lie. -/
def colG (h : Fin 4) (e : Fin 512) : Fin 7168 := ⟨2048 + 512 * h.val + e.val, by omega⟩
/-- Where head `h`'s part of the result lies. -/
def colO (h : Fin 4) (e : Fin 512) : Fin 2048 := ⟨512 * h.val + e.val, by omega⟩

/-- The logarithm of head `h`'s decay, `log (1 - 2^(-5-h))`. -/
def lg (h : Fin 4) : EReal :=
  Ideal.log1p (-(Ideal.exp (Ideal.ofBits FTy.f32 1060205080#32 * (Ideal.ofBits FTy.f32 3231711232#32 - FloatOps.sitofp (F := Ideal) FTy.f32 (BitVec.ofNat 32 h.val)))))
/-- A row's number within its chunk. -/
def pos (r : Fin 128) : EReal := FloatOps.sitofp (F := Ideal) FTy.f32 (BitVec.ofNat 32 r.val)
/-- The decay from token `t` to token `r` of the same chunk, zero where `t` comes later. -/
def dm (h : Fin 4) (r t : Fin 128) : EReal :=
  if 0 ≤ pos r - pos t then Ideal.exp ((if 0 ≤ pos r - pos t then pos r - pos t else 0) * lg h) else 0
/-- The decay from before the chunk to token `r`. -/
def qd (h : Fin 4) (r : Fin 128) : EReal := Ideal.exp ((pos r + 1) * lg h)
/-- The decay from token `r` to the chunk's end. -/
def kd (h : Fin 4) (r : Fin 128) : EReal := Ideal.exp ((Ideal.ofBits FTy.f32 1123942400#32 - pos r) * lg h)
/-- The decay over a whole chunk. -/
def gc (h : Fin 4) : EReal := Ideal.exp (Ideal.ofBits FTy.f32 1124073472#32 * lg h)

section

variable (X : Fin 16384 → Fin 2048 → EReal) (Y : Fin 16384 → Fin 7168 → EReal) (G : Fin 2048 → EReal)
  (b : Fin 8) (h : Fin 4)

/-- The state after chunk `n`, from the state `S` before it. -/
def upd (n : Fin 16) (S : Fin 256 → Fin 512 → EReal) (d : Fin 256) (e : Fin 512) : EReal :=
  gc h * S d e + ∑ r, X (row b n r) (colK h d) * kd h r * Y (row b n r) (colV h e)

/-- The state before chunk `n`. -/
def st : ℕ → Fin 256 → Fin 512 → EReal
  | 0 => fun _ _ => 0
  | n + 1 => if h' : n < 16 then upd X Y b h ⟨n, h'⟩ (st n) else st n

theorem st_succ (n : Fin 16) : st X Y b h (n.val + 1) = upd X Y b h n (st X Y b h n.val) := by
  rw [st]; exact dif_pos n.isLt

/-- What retention gives row `r` of chunk `n`, from the state `S` before the chunk. -/
def ret (n : Fin 16) (S : Fin 256 → Fin 512 → EReal) (r : Fin 128) (e : Fin 512) : EReal :=
  ∑ t, (∑ d, X (row b n r) (colQ h d) * X (row b n t) (colK h d)) * dm h r t * Y (row b n t) (colV h e)
    + (∑ d, X (row b n r) (colQ h d) * S d e) * qd h r

/-- The mean over a head's 512 numbers. -/
def mean (f : Fin 512 → EReal) : EReal := Ideal.div (∑ x, f x) (Ideal.ofBits FTy.f32 1140850688#32)

/-- A head's numbers, brought to mean zero and variance one. -/
def norm (f : Fin 512 → EReal) (e : Fin 512) : EReal :=
  (f e - mean f) * Ideal.rsqrt (mean (fun x => (f x - mean f) * (f x - mean f)) + Ideal.ofBits FTy.f32 897988541#32)

/-- The result: retention, normalised per head, weighted and gated. -/
def act (n : Fin 16) (r : Fin 128) (e : Fin 512) : EReal :=
  norm (ret X Y b h n (st X Y b h n.val) r) e * G (colO h e)
    * (Y (row b n r) (colG h e) * Ideal.logistic (Y (row b n r) (colG h e)))

end

end Cert.RetModel

end
-- ==== Proof.RetKer.lean ====
module

public import proofs.«01_k».proof.Proof.RetFrame
public import proofs.«01_k».proof.Proof.RetModel
public import Idealize.ShloMosaic.Lib.StableHlo.ReadAt
public import Idealize.ShloMosaic.Lib.Pipeline.ValueKit.Geometry

@[expose] public section

set_option maxRecDepth 16384

noncomputable section

namespace Cert.KernelIdeal.Ret

open Idealize.ShloMosaic Idealize.ShloMosaic.TcCoe Idealize.SL.Sem
open Cert.KernelIdeal.Gen Cert.RetModel

/-! ## A block's step, number by number -/

/-- Row `r` of chunk `k` within a block. -/
def brow (k : Fin 16) (r : Fin 128) : Fin 2048 := ⟨128 * k.val + r.val, by omega⟩
/-- Column `d` of head `j` of a block of queries or keys. -/
def bqk (j : Fin 2) (d : Fin 256) : Fin 512 := ⟨256 * j.val + d.val, by omega⟩
/-- Column `e` of head `j` of a block of values, gates or results. -/
def bv (j : Fin 2) (e : Fin 512) : Fin 1024 := ⟨512 * j.val + e.val, by omega⟩
/-- Head `j` of the pair `p`. -/
def hd (p : Fin 2) (j : Fin 2) : Fin 4 := ⟨2 * p.val + j.val, by omega⟩

theorem trips_eq : k0_t1_loop.trips = 16 := by decide

/-- A trip's number. -/
abbrev tn (k : Fin k0_t1_loop.trips) : Fin 16 := ⟨k.val, k.isLt⟩

theorem qk0_at (x : Vec Ideal S2048x512 .bf16) (k : Fin k0_t1_loop.trips) (r : Fin 128) (d : Fin 256) :
    qk0 x k (ix2 r d) = x (ix2 (brow (tn k) r) (bqk 0 d)) := by
  pointwise [qk0]
  refine congrArg x (congrArg₂ ix2 (Fin.ext ?_) (Fin.ext ?_))
  · show k0_off1 k 0 + r.val = 128 * k.val + r.val; rw [k0_off1_eq]; rfl
  · show k0_off1 k 1 + d.val = 256 * 0 + d.val; rw [k0_off1_eq]; rfl

theorem qk1_at (x : Vec Ideal S2048x512 .bf16) (k : Fin k0_t1_loop.trips) (r : Fin 128) (d : Fin 256) :
    qk1 x k (ix2 r d) = x (ix2 (brow (tn k) r) (bqk 1 d)) := by
  pointwise [qk1]
  refine congrArg x (congrArg₂ ix2 (Fin.ext ?_) (Fin.ext ?_))
  · show k0_off3 k 0 + r.val = 128 * k.val + r.val; rw [k0_off3_eq]; rfl
  · show k0_off3 k 1 + d.val = 256 * 1 + d.val; rw [k0_off3_eq]; rfl

theorem v0_at (x : Vec Ideal S2048x1024 .bf16) (k : Fin k0_t1_loop.trips) (r : Fin 128) (e : Fin 512) :
    v0 x k (ix2 r e) = x (ix2 (brow (tn k) r) (bv 0 e)) := by
  pointwise [v0]
  refine congrArg x (congrArg₂ ix2 (Fin.ext ?_) (Fin.ext ?_))
  · show k0_off2 k 0 + r.val = 128 * k.val + r.val; rw [k0_off2_eq]; rfl
  · show k0_off2 k 1 + e.val = 512 * 0 + e.val; rw [k0_off2_eq]; rfl

theorem v1_at (x : Vec Ideal S2048x1024 .bf16) (k : Fin k0_t1_loop.trips) (r : Fin 128) (e : Fin 512) :
    v1 x k (ix2 r e) = x (ix2 (brow (tn k) r) (bv 1 e)) := by
  pointwise [v1]
  refine congrArg x (congrArg₂ ix2 (Fin.ext ?_) (Fin.ext ?_))
  · show k0_off4 k 0 + r.val = 128 * k.val + r.val; rw [k0_off4_eq]; rfl
  · show k0_off4 k 1 + e.val = 512 * 1 + e.val; rw [k0_off4_eq]; rfl

section Block

variable (X : Fin 16384 → Fin 2048 → EReal) (Y : Fin 16384 → Fin 7168 → EReal) (G : Fin 2048 → EReal)
  (b : Fin 8) (p : Fin 2)
  (x0 x1 : Vec Ideal S2048x512 .bf16) (x2 x3 : Vec Ideal S2048x1024 .bf16) (x4 : Vec Ideal S1x1024 .f32)
  (x5 : Vec Ideal S2x128x128 .f32) (x6 : Vec Ideal S2x128x512 .f32) (x7 : Vec Ideal S2x128x256 .f32) (x8 : Vec Ideal S2x1x512 .f32)

/-- The blocks are those of sequence `b` and of the pair `p` of heads. -/
structure Blk : Prop where
  q : ∀ n r j d, x0 (ix2 (brow n r) (bqk j d)) = X (row b n r) (colQ (hd p j) d)
  k : ∀ n r j d, x1 (ix2 (brow n r) (bqk j d)) = X (row b n r) (colK (hd p j) d)
  v : ∀ n r j e, x2 (ix2 (brow n r) (bv j e)) = Y (row b n r) (colV (hd p j) e)
  g : ∀ n r j e, x3 (ix2 (brow n r) (bv j e)) = Y (row b n r) (colG (hd p j) e)
  w : ∀ j e, x4 (ix2 0 (bv j e)) = G (colO (hd p j) e)
  dm : ∀ j r t, x5 (ix3 j r t) = dm (hd p j) r t
  qd : ∀ j r e, x6 (ix3 j r e) = qd (hd p j) r
  kd : ∀ j r d, x7 (ix3 j r d) = kd (hd p j) r
  gc : ∀ j e, x8 (ix3 j 0 e) = gc (hd p j)

variable {X Y G b p x0 x1 x2 x3 x4 x5 x6 x7 x8}
variable (B : Blk X Y G b p x0 x1 x2 x3 x4 x5 x6 x7 x8)
include B

theorem new0_at (k : Fin k0_t1_loop.trips) (S : Vec Ideal S2x256x512 .f32) (d : Fin 256) (e : Fin 512) :
    new0 x1 x2 x7 x8 k S (ix3 0 d e) = upd X Y b (hd p 0) (tn k) (fun d e => S (ix3 0 d e)) d e := by
  pointwise [new0, k0_pay7, k0_pay5, k0_pay4]
  simp only [qk0_at, v0_at]
  pointwise [gc0, st0, kd0]
  simp only [B.k, B.v, B.kd, B.gc]
  rfl

theorem new1_at (k : Fin k0_t1_loop.trips) (S : Vec Ideal S2x256x512 .f32) (d : Fin 256) (e : Fin 512) :
    new1 x1 x2 x7 x8 k S (ix3 0 d e) = upd X Y b (hd p 1) (tn k) (fun d e => S (ix3 1 d e)) d e := by
  pointwise [new1, k0_pay10, k0_pay9]
  simp only [qk1_at, v1_at]
  pointwise [gc1, st1, kd1]
  simp only [B.k, B.v, B.kd, B.gc]
  rfl

theorem act0_at (k : Fin k0_t1_loop.trips) (S : Vec Ideal S2x256x512 .f32) (r : Fin 128) (e : Fin 512)
    (hS : ∀ d e, S (ix3 0 d e) = st X Y b (hd p 0) k.val d e) :
    act0 x0 x1 x2 x3 x4 x5 x6 k S (ix2 r e) = act X Y G b (hd p 0) (tn k) r e := by
  pointwise [act0, k0_pay8, k0_pay6]
  simp only [qk0_at, v0_at]
  pointwise [st0, dm0, qd0, k0_pay4]
  simp only [B.q, B.k, B.v, B.g, B.dm, B.qd, hS]
  refine congrArg₂ (· * ·) (congrArg₂ (· * ·) rfl ?_) rfl
  refine Eq.trans (congrArg x4 (congrArg (ix2 0) (Fin.ext ?_))) (B.w 0 e)
  show e.val = 512 * 0 + e.val
  omega

theorem act1_at (k : Fin k0_t1_loop.trips) (S : Vec Ideal S2x256x512 .f32) (r : Fin 128) (e : Fin 512)
    (hS : ∀ d e, S (ix3 1 d e) = st X Y b (hd p 1) k.val d e) :
    act1 x0 x1 x2 x3 x4 x5 x6 k S (ix2 r e) = act X Y G b (hd p 1) (tn k) r e := by
  pointwise [act1, k0_pay2, k0_pay11, k0_pay12, k0_pay9]
  simp only [qk1_at, v1_at]
  pointwise [st1, dm1, qd1]
  simp only [B.q, B.k, B.v, B.g, B.dm, B.qd, hS]
  refine congrArg₂ (· * ·) (congrArg₂ (· * ·) rfl ?_) rfl
  exact B.w 1 e

theorem stepS_at (k : Fin k0_t1_loop.trips) (S : Vec Ideal S2x256x512 .f32) (j : Fin 2) (d : Fin 256) (e : Fin 512) :
    stepS x1 x2 x7 x8 k S (ix3 j d e) = upd X Y b (hd p j) (tn k) (fun d e => S (ix3 j d e)) d e := by
  match j with
  | 0 =>
    rw [← new0_at B k S d e]
    unfold stepS VecWindow.put
    rw [dif_neg (fun h => by have := (h 0).1; exact absurd this (by show ¬ (1 ≤ 0); omega)),
      dif_pos (fun a => by
        match a with
        | 0 => exact ⟨Nat.zero_le _, Nat.zero_lt_one⟩
        | 1 => exact ⟨Nat.zero_le _, by show d.val < 0 + 256; omega⟩
        | 2 => exact ⟨Nat.zero_le _, by show e.val < 0 + 512; omega⟩)]
    refine congrArg _ (funext fun a => Fin.ext ?_)
    match a with
    | 0 => rfl
    | 1 => rfl
    | 2 => rfl
  | 1 =>
    rw [← new1_at B k S d e]
    unfold stepS VecWindow.put
    rw [dif_pos (fun a => by
        match a with
        | 0 => exact ⟨le_refl 1, by show 1 < 1 + 1; omega⟩
        | 1 => exact ⟨Nat.zero_le _, by show d.val < 0 + 256; omega⟩
        | 2 => exact ⟨Nat.zero_le _, by show e.val < 0 + 512; omega⟩)]
    refine congrArg _ (funext fun a => Fin.ext ?_)
    match a with
    | 0 => rfl
    | 1 => rfl
    | 2 => rfl

theorem stateAt_at : ∀ n : ℕ, n ≤ 16 → ∀ (j : Fin 2) (d : Fin 256) (e : Fin 512),
    stateAt x1 x2 x7 x8 n (ix3 j d e) = st X Y b (hd p j) n d e
  | 0, _, j, d, e => by
    show k0_pay1 (F := Ideal) (ix3 j d e) = 0
    pointwise [k0_pay1]
  | n + 1, hn, j, d, e => by
    have ih := stateAt_at n (by omega)
    rw [stateAt_succ x1 x2 x7 x8 ⟨n, hn⟩, stepS_at B, st_succ X Y b (hd p j) ⟨n, hn⟩]
    exact congrArg (fun S => upd X Y b (hd p j) ⟨n, hn⟩ S d e) (funext fun d => funext fun e => ih j d e)

theorem outS_at (j : Fin 2) (d : Fin 256) (e : Fin 512) :
    outS x1 x2 x7 x8 (ix4 0 j d e) = st X Y b (hd p j) 16 d e := by
  rw [← stateAt_at B 16 (le_refl _) j d e]
  pointwise [outS, k0_pay3]

theorem outAct_at (n : Fin 16) (r : Fin 128) (j : Fin 2) (e : Fin 512) :
    outAct x0 x1 x2 x3 x4 x5 x6 x7 x8 (ix2 (brow n r) (bv j e)) = act X Y G b (hd p j) n r e := by
  have hn : (brow n r).val / 128 = n.val := by show (128 * n.val + r.val) / 128 = _; omega
  unfold outAct
  match j with
  | 0 =>
    rw [dif_pos (by show 512 * 0 + e.val < 512; omega)]
    rw [← act0_at B ⟨n.val, n.isLt⟩ (stateAt x1 x2 x7 x8 n.val) r e (fun d e => stateAt_at B n.val n.isLt.le 0 d e)]
    have key : ∀ (m : ℕ) (hm : m < 16), m = n.val → ∀ y z : S128x512.Idx, y = z →
        act0 x0 x1 x2 x3 x4 x5 x6 ⟨m, hm⟩ (stateAt x1 x2 x7 x8 m) y
          = act0 x0 x1 x2 x3 x4 x5 x6 ⟨n.val, n.isLt⟩ (stateAt x1 x2 x7 x8 n.val) z := by
      rintro _ _ rfl _ _ rfl; rfl
    refine key _ _ hn _ _ (funext fun a => Fin.ext ?_)
    match a with
    | 0 => show 128 * n.val + r.val - 128 * ((brow n r).val / 128) = r.val; rw [hn]; omega
    | 1 => show 512 * 0 + e.val - 0 = e.val; omega
  | 1 =>
    rw [dif_neg (by show ¬ 512 * 1 + e.val < 512; omega)]
    rw [← act1_at B ⟨n.val, n.isLt⟩ (stateAt x1 x2 x7 x8 n.val) r e (fun d e => stateAt_at B n.val n.isLt.le 1 d e)]
    have key : ∀ (m : ℕ) (hm : m < 16), m = n.val → ∀ y z : S128x512.Idx, y = z →
        act1 x0 x1 x2 x3 x4 x5 x6 ⟨m, hm⟩ (stateAt x1 x2 x7 x8 m) y
          = act1 x0 x1 x2 x3 x4 x5 x6 ⟨n.val, n.isLt⟩ (stateAt x1 x2 x7 x8 n.val) z := by
      rintro _ _ rfl _ _ rfl; rfl
    refine key _ _ hn _ _ (funext fun a => Fin.ext ?_)
    match a with
    | 0 => show 128 * n.val + r.val - 128 * ((brow n r).val / 128) = r.val; rw [hn]; omega
    | 1 => show 512 * 1 + e.val - 512 = e.val; omega

end Block

/-! ## The tables the call is given -/

section Tables

variable (m : (ℓ : Loc nD τ sig) → Buf (Elt Ideal) ℓ)

theorem dm_table (c : Dev nD) (h : Fin 4) (r t : Fin 128) : (V m c main_v25 (ix3 h r t) : EReal) = RetModel.dm h r t := by
  unfold V; after_reads_at
  show (if 0 ≤ pos r - pos t then Ideal.exp (max (pos r - pos t) 0 * lg h) else _) = _
  unfold RetModel.dm
  by_cases h0 : 0 ≤ pos r - pos t
  · rw [if_pos h0, if_pos h0, if_pos h0, max_eq_left h0]
  · rw [if_neg h0, if_neg h0]
    show constant (F := Ideal) S_ FTy.f32 0#32 ix0 = 0
    pointwise []

theorem qd_table (c : Dev nD) (h : Fin 4) (r : Fin 128) (e : Fin 512) : (V m c main_v44 (ix3 h r e) : EReal) = RetModel.qd h r := by
  unfold V; after_reads_at; rfl

theorem kd_table (c : Dev nD) (h : Fin 4) (r : Fin 128) (d : Fin 256) : (V m c main_v45 (ix3 h r d) : EReal) = RetModel.kd h r := by
  unfold V; after_reads_at; rfl

theorem gc_table (c : Dev nD) (h : Fin 4) (e : Fin 512) : (V m c main_v50 (ix3 h 0 e) : EReal) = RetModel.gc h := by
  unfold V; after_reads_at; rfl

/-! ## The blocks of a grid point -/

/-- Grid point `t`'s sequence. -/
abbrev gb (t : Fin cfg0.N) : Fin 8 := cfg0.grid.coords t 0
/-- Grid point `t`'s pair of heads. -/
abbrev gp (t : Fin cfg0.N) : Fin 2 := cfg0.grid.coords t 1

theorem idx_0 (t : Fin cfg0.N) : (cfg0.win 0).index t = ![(gb t).val, (gp t).val] := by revert t; decide +kernel
theorem idx_1 (t : Fin cfg0.N) : (cfg0.win 1).index t = ![(gb t).val, 2 + (gp t).val] := by revert t; decide +kernel
theorem idx_2 (t : Fin cfg0.N) : (cfg0.win 2).index t = ![(gb t).val, (gp t).val] := by revert t; decide +kernel
theorem idx_3 (t : Fin cfg0.N) : (cfg0.win 3).index t = ![(gb t).val, 2 + (gp t).val] := by revert t; decide +kernel
theorem idx_4 (t : Fin cfg0.N) : (cfg0.win 4).index t = ![0, (gp t).val] := by revert t; decide +kernel
theorem idx_5 (t : Fin cfg0.N) : (cfg0.win 5).index t = ![(gp t).val, 0, 0] := by revert t; decide +kernel
theorem idx_6 (t : Fin cfg0.N) : (cfg0.win 6).index t = ![(gp t).val, 0, 0] := by revert t; decide +kernel
theorem idx_7 (t : Fin cfg0.N) : (cfg0.win 7).index t = ![(gp t).val, 0, 0] := by revert t; decide +kernel
theorem idx_8 (t : Fin cfg0.N) : (cfg0.win 8).index t = ![(gp t).val, 0, 0] := by revert t; decide +kernel
theorem idx_9 (t : Fin cfg0.N) : (cfg0.win 9).index t = ![(gb t).val, (gp t).val] := by revert t; decide +kernel
theorem idx_10 (t : Fin cfg0.N) : (cfg0.win 10).index t = ![(gb t).val, (gp t).val, 0, 0] := by revert t; decide +kernel

theorem iblk_q (c : Dev nD) (t : Fin cfg0.N) (n : Fin 16) (r : Fin 128) (j : Fin 2) (d : Fin 256) :
    iblk m c 0 t (ix2 (brow n r) (bqk j d)) = m ((c.tc : Thread nD τ).loc main_arg0) (ix2 (row (gb t) n r) (colQ (hd (gp t) j) d)) := by
  rw [← V_main_arg0 m c]
  blk_ext [iblk, idx_0 t, brow, bqk, row, colQ, hd]

theorem iblk_k (c : Dev nD) (t : Fin cfg0.N) (n : Fin 16) (r : Fin 128) (j : Fin 2) (d : Fin 256) :
    iblk m c 1 t (ix2 (brow n r) (bqk j d)) = m ((c.tc : Thread nD τ).loc main_arg0) (ix2 (row (gb t) n r) (colK (hd (gp t) j) d)) := by
  rw [← V_main_arg0 m c]
  blk_ext [iblk, idx_1 t, brow, bqk, row, colK, hd]

theorem iblk_v (c : Dev nD) (t : Fin cfg0.N) (n : Fin 16) (r : Fin 128) (j : Fin 2) (e : Fin 512) :
    iblk m c 2 t (ix2 (brow n r) (bv j e)) = m ((c.tc : Thread nD τ).loc main_arg1) (ix2 (row (gb t) n r) (colV (hd (gp t) j) e)) := by
  rw [← V_main_arg1 m c]
  blk_ext [iblk, idx_2 t, brow, bv, row, colV, hd]

theorem iblk_g (c : Dev nD) (t : Fin cfg0.N) (n : Fin 16) (r : Fin 128) (j : Fin 2) (e : Fin 512) :
    iblk m c 3 t (ix2 (brow n r) (bv j e)) = m ((c.tc : Thread nD τ).loc main_arg1) (ix2 (row (gb t) n r) (colG (hd (gp t) j) e)) := by
  rw [← V_main_arg1 m c]
  blk_ext [iblk, idx_3 t, brow, bv, row, colG, hd]

theorem iblk_w (c : Dev nD) (t : Fin cfg0.N) (j : Fin 2) (e : Fin 512) :
    iblk m c 4 t (ix2 0 (bv j e)) = m ((c.tc : Thread nD τ).loc main_arg2) (ix2 0 (colO (hd (gp t) j) e)) := by
  rw [← V_main_arg2 m c]
  blk_ext [iblk, idx_4 t, bv, colO, hd]

theorem iblk_dm (c : Dev nD) (t : Fin cfg0.N) (j : Fin 2) (r s : Fin 128) :
    iblk m c 5 t (ix3 j r s) = V m c main_v25 (ix3 (hd (gp t) j) r s) := by
  blk_ext [iblk, idx_5 t, hd]

theorem iblk_qd (c : Dev nD) (t : Fin cfg0.N) (j : Fin 2) (r : Fin 128) (e : Fin 512) :
    iblk m c 6 t (ix3 j r e) = V m c main_v44 (ix3 (hd (gp t) j) r e) := by
  blk_ext [iblk, idx_6 t, hd]

theorem iblk_kd (c : Dev nD) (t : Fin cfg0.N) (j : Fin 2) (r : Fin 128) (d : Fin 256) :
    iblk m c 7 t (ix3 j r d) = V m c main_v45 (ix3 (hd (gp t) j) r d) := by
  blk_ext [iblk, idx_7 t, hd]

theorem iblk_gc (c : Dev nD) (t : Fin cfg0.N) (j : Fin 2) (e : Fin 512) :
    iblk m c 8 t (ix3 j 0 e) = V m c main_v50 (ix3 (hd (gp t) j) 0 e) := by
  blk_ext [iblk, idx_8 t, hd]

theorem blk_at (c : Dev nD) (t : Fin cfg0.N) :
    Blk (fun i j => m ((c.tc : Thread nD τ).loc main_arg0) (ix2 i j)) (fun i j => m ((c.tc : Thread nD τ).loc main_arg1) (ix2 i j)) (fun j => m ((c.tc : Thread nD τ).loc main_arg2) (ix2 0 j)) (gb t) (gp t)
      (iblk m c 0 t) (iblk m c 1 t) (iblk m c 2 t) (iblk m c 3 t) (iblk m c 4 t) (iblk m c 5 t) (iblk m c 6 t) (iblk m c 7 t) (iblk m c 8 t) where
  q := iblk_q m c t
  k := iblk_k m c t
  v := iblk_v m c t
  g := iblk_g m c t
  w := iblk_w m c t
  dm j r s := (iblk_dm m c t j r s).trans (dm_table m c _ r s)
  qd j r e := (iblk_qd m c t j r e).trans (qd_table m c _ r e)
  kd j r d := (iblk_kd m c t j r d).trans (kd_table m c _ r d)
  gc j e := (iblk_gc m c t j e).trans (gc_table m c _ e)

/-! ## The results -/

/-- The first result of the model. -/
def outV0 (X : Fin 16384 → Fin 2048 → EReal) (Y : Fin 16384 → Fin 7168 → EReal) (G : Fin 2048 → EReal) (i : Fin 16384) (j : Fin 2048) : EReal :=
  act X Y G ⟨i.val / 2048, by omega⟩ ⟨j.val / 512, by omega⟩ ⟨i.val % 2048 / 128, by omega⟩ ⟨i.val % 128, by omega⟩ ⟨j.val % 512, by omega⟩

theorem outV0_at (X : Fin 16384 → Fin 2048 → EReal) (Y : Fin 16384 → Fin 7168 → EReal) (G : Fin 2048 → EReal) (b : Fin 8) (h : Fin 4) (n : Fin 16) (r : Fin 128) (e : Fin 512) :
    outV0 X Y G (row b n r) (colO h e) = act X Y G b h n r e := by
  unfold outV0 row colO
  congr 1 <;> apply Fin.ext <;> dsimp only <;> omega

theorem out9_at (c : Dev nD) (t : Fin cfg0.N) (y : S2048x1024.Idx) :
    ((outsAt0 m c t).1 y : EReal) = outV0 (fun i j => m ((c.tc : Thread nD τ).loc main_arg0) (ix2 i j)) (fun i j => m ((c.tc : Thread nD τ).loc main_arg1) (ix2 i j)) (fun j => m ((c.tc : Thread nD τ).loc main_arg2) (ix2 0 j))
      ⟨2048 * (gb t).val + (y 0).val, by have h1 := (gb t).isLt; have h2 : (y 0).val < 2048 := (y 0).isLt; omega⟩
      ⟨1024 * (gp t).val + (y 1).val, by have h1 := (gp t).isLt; have h2 : (y 1).val < 1024 := (y 1).isLt; omega⟩ := by
  have h0 : (y 0).val < 2048 := (y 0).isLt
  have h1 : (y 1).val < 1024 := (y 1).isLt
  let n : Fin 16 := ⟨(y 0).val / 128, by omega⟩
  let r : Fin 128 := ⟨(y 0).val % 128, by omega⟩
  let j : Fin 2 := ⟨(y 1).val / 512, by omega⟩
  let e : Fin 512 := ⟨(y 1).val % 512, by omega⟩
  have hy : y = ix2 (brow n r) (bv j e) := by
    funext a
    match a with
    | 0 => exact Fin.ext (by show (y 0).val = 128 * ((y 0).val / 128) + (y 0).val % 128; omega)
    | 1 => exact Fin.ext (by show (y 1).val = 512 * ((y 1).val / 512) + (y 1).val % 512; omega)
  have key := (outAct_at (blk_at m c t) n r j e).trans (outV0_at _ _ _ (gb t) (hd (gp t) j) n r e).symm
  refine Eq.trans (congrArg (outsAt0 m c t).1 hy) (Eq.trans key (congrArg₂ (outV0 _ _ _) (Fin.ext ?_) (Fin.ext ?_)))
  · show 2048 * (gb t).val + 128 * ((y 0).val / 128) + (y 0).val % 128 = 2048 * (gb t).val + (y 0).val; omega
  · show 512 * (2 * (gp t).val + (y 1).val / 512) + (y 1).val % 512 = 1024 * (gp t).val + (y 1).val; omega

theorem out10_at (c : Dev nD) (t : Fin cfg0.N) (y : S1x2x256x512.Idx) :
    ((outsAt0 m c t).2 y : EReal) = st (fun i j => m ((c.tc : Thread nD τ).loc main_arg0) (ix2 i j)) (fun i j => m ((c.tc : Thread nD τ).loc main_arg1) (ix2 i j)) (gb t) (hd (gp t) (y 1)) 16 (y 2) (y 3) := by
  have hy : y = ix4 0 (y 1) (y 2) (y 3) := by
    funext a
    match a with
    | 0 => exact Fin.ext (by have h0 : (y 0).val < 1 := (y 0).isLt; show (y 0).val = 0; omega)
    | 1 => rfl
    | 2 => rfl
    | 3 => rfl
  exact Eq.trans (congrArg (outsAt0 m c t).2 hy) (outS_at (blk_at m c t) (y 1) (y 2) (y 3))

theorem arr_act (c : Dev nD) : (dats m 0 c).arrAt 9 cfg0.N = fun y => outV0 (fun i j => m ((c.tc : Thread nD τ).loc main_arg0) (ix2 i j)) (fun i j => m ((c.tc : Thread nD τ).loc main_arg1) (ix2 i j)) (fun j => m ((c.tc : Thread nD τ).loc main_arg2) (ix2 0 j)) (y 0) (y 1) := by
  refine (dats m 0 c).arrAt_eq_of_covers 9 _ (by decide +kernel) fun t hf y => ?_
  blk_simp
  rw [after0_9]
  refine (out9_at m c t y).trans (congrArg₂ (outV0 _ _ _) (Fin.ext ?_) (Fin.ext ?_))
  · blk_simp [idx_9 t]
    show 2048 * (gb t).val + (y 0).val = (gb t).val * 2048 + (y 0).val
    omega
  · blk_simp [idx_9 t]
    show 1024 * (gp t).val + (y 1).val = (gp t).val * 1024 + (y 1).val
    omega

theorem arr_state (c : Dev nD) : (dats m 0 c).arrAt 10 cfg0.N = fun y => st (fun i j => m ((c.tc : Thread nD τ).loc main_arg0) (ix2 i j)) (fun i j => m ((c.tc : Thread nD τ).loc main_arg1) (ix2 i j)) (y 0) (y 1) 16 (y 2) (y 3) := by
  refine (dats m 0 c).arrAt_eq_of_covers 10 _ (by decide +kernel) fun t hf y => ?_
  blk_simp
  rw [after0_10]
  refine (out10_at m c t y).trans ?_
  have e0 : (win0_10.blk t).view.emb y 0 = gb t := Fin.ext (by
    blk_simp [idx_10 t])
  have e1 : (win0_10.blk t).view.emb y 1 = hd (gp t) (y 1) := Fin.ext (by
    blk_simp [idx_10 t]
    show (gp t).val * 2 + (y 1).val = 2 * (gp t).val + (y 1).val
    omega)
  have e2 : (win0_10.blk t).view.emb y 2 = y 2 := Fin.ext (by
    blk_simp [idx_10 t])
  have e3 : (win0_10.blk t).view.emb y 3 = y 3 := Fin.ext (by
    blk_simp [idx_10 t])
  rw [e0, e1, e2, e3]

end Tables

end Cert.KernelIdeal.Ret

end
-- ==== Proof.RetRef.lean ====
module

public import proofs.«01_k».proof.Proof.RetModel
public import Idealize.ShloMosaic.Lib.DynamicIndex
public import Idealize.ShloMosaic.Lib.WordCmp
public import proofs.«01_k».proof.Proof.Gen.ReferenceIdeal.Step

@[expose] public section

set_option maxRecDepth 16384

noncomputable section

namespace Cert.ReferenceIdeal.Ret

open Idealize.ShloMosaic Idealize.ShloMosaic.TcCoe
open Cert.ReferenceIdeal Cert.ReferenceIdeal.Gen Cert.ReferenceIdeal.Step Cert.RetModel

variable (x : (⟨S16384x2048, .bf16⟩ : BufTy).Contents (Elt Ideal)) (y : (⟨S16384x7168, .bf16⟩ : BufTy).Contents (Elt Ideal))
  (w : (⟨S1x2048, .f32⟩ : BufTy).Contents (Elt Ideal))

/-- The queries and keys by row and column. -/
abbrev fx (i : Fin 16384) (j : Fin 2048) : EReal := x (ix2 i j)
/-- The values and gates by row and column. -/
abbrev fy (i : Fin 16384) (j : Fin 7168) : EReal := y (ix2 i j)
/-- The normalisation's weights by column. -/
abbrev fw (j : Fin 2048) : EReal := w (ix2 0 j)

theorem K_lg (h : Fin 4) : K_main_v16 (F := Ideal) (ix1 h) = lg h := by
  pointwise [K_main_v16, K_main_v15, K_main_v14, K_main_v13, K_main_v12, K_main_v11, K_main_v10, K_main_v9, K_main_cst, K_main_cst_0]
  rfl

theorem A_q (n : Fin 16) (b : Fin 8) (r : Fin 128) (h : Fin 4) (d : Fin 256) : (A_main_v19 x y (ix5 n b r h d) : EReal) = fx x (row b n r) (colQ h d) := by
  pointwise [A_main_v19, A_main_v18, A_main_v2, A_main_v1, A_main_v0]
  refine congrArg x (congrArg₂ ix2 (Fin.ext ?_) (Fin.ext ?_)) <;> dsimp only [row, colQ] <;> omega
theorem A_k (n : Fin 16) (b : Fin 8) (r : Fin 128) (h : Fin 4) (d : Fin 256) : (A_main_v21 x y (ix5 n b r h d) : EReal) = fx x (row b n r) (colK h d) := by
  pointwise [A_main_v21, A_main_v20, A_main_v5, A_main_v4, A_main_v3]
  refine congrArg x (congrArg₂ ix2 (Fin.ext ?_) (Fin.ext ?_)) <;> dsimp only [row, colK] <;> omega
theorem A_v (n : Fin 16) (b : Fin 8) (r : Fin 128) (h : Fin 4) (e : Fin 512) : (A_main_v23 x y (ix5 n b r h e) : EReal) = fy y (row b n r) (colV h e) := by
  pointwise [A_main_v23, A_main_v22, A_main_v8, A_main_v7, A_main_v6]
  refine congrArg y (congrArg₂ ix2 (Fin.ext ?_) (Fin.ext ?_)) <;> dsimp only [row, colV] <;> omega

/-- The state of the loop before trip `n`. -/
def refIter : ℕ → State Ideal
  | 0 => init x y
  | n + 1 => step n (refIter n)

theorem refIter_q (n : ℕ) : (refIter x y n).main_v25_0 = A_main_v19 x y := by
  induction n with
  | zero => rfl
  | succ n ih => exact ih
theorem refIter_k (n : ℕ) : (refIter x y n).main_v25_1 = A_main_v21 x y := by
  induction n with
  | zero => rfl
  | succ n ih => exact ih
theorem refIter_v (n : ℕ) : (refIter x y n).main_v25_2 = A_main_v23 x y := by
  induction n with
  | zero => rfl
  | succ n ih => exact ih

/-- The starts of a trip's slices. -/
theorem start_eq (n : Fin 16) (a : Fin 5) : (((![(constantI S_ 32 (BitVec.ofNat 32 n.val) : (⟨S_, .i32⟩ : BufTy).Contents (Elt Ideal)), (constantI S_ 32 0#32), (constantI S_ 32 0#32), (constantI S_ 32 0#32), (constantI S_ 32 0#32)] : Fin 5 → (⟨S_, .i32⟩ : BufTy).Contents (Elt Ideal))) a (Shape.Idx.first h_S_)).toInt = ((![n.val, 0, 0, 0, 0] : Fin 5 → ℕ) a : Int) := by
  match a with
  | 0 => show (BitVec.ofNat 32 n.val).toInt = (n.val : Int); revert n; decide
  | 1 => rfl
  | 2 => rfl
  | 3 => rfl
  | 4 => rfl

theorem slices_qk (n : Fin 16) : S16x8x128x4x256.Slices ![n.val, 0, 0, 0, 0] S1x8x128x4x256 :=
  ⟨rfl, fun a => by
    match a with
    | 0 => show n.val + 1 ≤ 16; omega
    | 1 => exact le_refl 8
    | 2 => exact le_refl 128
    | 3 => exact le_refl 4
    | 4 => exact le_refl 256⟩
theorem slices_v (n : Fin 16) : S16x8x128x4x512.Slices ![n.val, 0, 0, 0, 0] S1x8x128x4x512 :=
  ⟨rfl, fun a => by
    match a with
    | 0 => show n.val + 1 ≤ 16; omega
    | 1 => exact le_refl 8
    | 2 => exact le_refl 128
    | 3 => exact le_refl 4
    | 4 => exact le_refl 512⟩

theorem b4_at (n : Fin 16) (s : State Ideal) (b : Fin 8) (r : Fin 128) (h : Fin 4) (d : Fin 256) : b4 n.val s (ix5 0 b r h d) = s.main_v25_0 (ix5 n b r h d) := by
  unfold b4
  rw [Host.dynamicSlice_eq_extractStridedSlice _ _ _ ![n.val, 0, 0, 0, 0] _ (slices_qk n) (start_eq n)]
  pointwise []
theorem b10_at (n : Fin 16) (s : State Ideal) (b : Fin 8) (r : Fin 128) (h : Fin 4) (d : Fin 256) : b10 n.val s (ix5 0 b r h d) = s.main_v25_1 (ix5 n b r h d) := by
  unfold b10
  rw [Host.dynamicSlice_eq_extractStridedSlice _ _ _ ![n.val, 0, 0, 0, 0] _ (slices_qk n) (start_eq n)]
  pointwise []
theorem b16_at (n : Fin 16) (s : State Ideal) (b : Fin 8) (r : Fin 128) (h : Fin 4) (e : Fin 512) : b16 n.val s (ix5 0 b r h e) = s.main_v25_2 (ix5 n b r h e) := by
  unfold b16
  rw [Host.dynamicSlice_eq_extractStridedSlice _ _ _ ![n.val, 0, 0, 0, 0] _ (slices_v n) (start_eq n)]
  pointwise []
theorem b5_at (n : Fin 16) (s : State Ideal) (b : Fin 8) (r : Fin 128) (h : Fin 4) (d : Fin 256) : b5 n.val s (ix4 b r h d) = s.main_v25_0 (ix5 n b r h d) := by
  rw [← b4_at]
  pointwise [b5]
theorem b11_at (n : Fin 16) (s : State Ideal) (b : Fin 8) (r : Fin 128) (h : Fin 4) (d : Fin 256) : b11 n.val s (ix4 b r h d) = s.main_v25_1 (ix5 n b r h d) := by
  rw [← b10_at]
  pointwise [b11]
theorem b17_at (n : Fin 16) (s : State Ideal) (b : Fin 8) (r : Fin 128) (h : Fin 4) (e : Fin 512) : b17 n.val s (ix4 b r h e) = s.main_v25_2 (ix5 n b r h e) := by
  rw [← b16_at]
  pointwise [b17]
theorem b18_at (n : ℕ) (s : State Ideal) (r : Fin 128) : b18 n s (ix1 r) = pos r := by
  pointwise [b18]
  rfl
theorem b42_at (n : ℕ) (s : State Ideal) (h : Fin 4) (r t : Fin 128) : b42 n s (ix3 h r t) = dm h r t := by
  pointwise [b42, b41, b40, b39, b38, b37, b36, b35, b34, b33, b32, b31, b30, b29, b28, b27, b26, b25, b24, b23, b22, b21, b20, b19, b18]
  rw [K_lg]
  rfl
theorem b90_at (n j : Fin 16) (s : State Ideal) (b : Fin 8) (r : Fin 128) (h : Fin 4) (e : Fin 512) : b90 n.val s (ix5 j b r h e) = if j = n then b84 n.val s (ix4 b r h e) else s.main_v25_6 (ix5 j b r h e) := by
  unfold b90
  rw [WordCmp.dynamicUpdateSlice_eq_update _ _ _ _ ![n.val, 0, 0, 0, 0] (slices_v n) (start_eq n)]
  pointwise [b85]
  by_cases hj : j = n
  · subst hj
    rw [dif_pos ⟨le_refl _, Nat.lt_succ_self _⟩, if_pos rfl]
  · rw [dif_neg (fun q => hj (Fin.ext (by omega))), if_neg hj]

theorem b83_at (n : Fin 16) (b : Fin 8) (h : Fin 4) (d : Fin 256) (e : Fin 512) :
    b83 n.val (refIter x y n.val) (ix4 b h d e) = upd (fx x) (fy y) b h n (fun d e => (refIter x y n.val).main_v25_5 (ix4 b h d e)) d e := by
  pointwise [b83, b82, b81, b80, b79, b78, b77, b76, b75, b74, b73, b72, b71, b70, b69, b68, b67, b66, b65, b64, b63]
  simp only [b11_at, b17_at, b18_at, K_lg, refIter_k, refIter_v, A_k, A_v]
  rfl

theorem b84_at (n : Fin 16) (b : Fin 8) (h : Fin 4) (r : Fin 128) (e : Fin 512) :
    b84 n.val (refIter x y n.val) (ix4 b r h e) = ret (fx x) (fy y) b h n (fun d e => (refIter x y n.val).main_v25_5 (ix4 b h d e)) r e := by
  pointwise [b84, b62, b61, b60, b59, b58, b57, b56, b55, b54, b53, b52, b51, b50, b49, b48, b47, b46, b45, b44, b43]
  simp only [b5_at, b11_at, b17_at, b18_at, b42_at, K_lg, refIter_q, refIter_k, refIter_v, A_q, A_k, A_v]
  unfold ret
  refine congrArg₂ (· + ·) (Finset.sum_congr rfl fun t _ => mul_comm _ _) (congrArg₂ (· * ·) (Finset.sum_congr rfl fun d _ => mul_comm _ _) rfl)

theorem state_at : ∀ n : ℕ, n ≤ 16 → ∀ (b : Fin 8) (h : Fin 4) (d : Fin 256) (e : Fin 512),
    ((refIter x y n).main_v25_5 (ix4 b h d e) : EReal) = st (fx x) (fy y) b h n d e
  | 0, _, b, h, d, e => by
    show K_main_v17 (F := Ideal) (ix4 b h d e) = 0
    pointwise [K_main_v17, K_main_cst_1]
  | n + 1, hn, b, h, d, e => by
    have ih := state_at n (by omega) b h
    rw [st_succ (fx x) (fy y) b h ⟨n, hn⟩]
    refine (b83_at x y ⟨n, hn⟩ b h d e).trans ?_
    exact congrArg (fun S => upd (fx x) (fy y) b h ⟨n, hn⟩ S d e) (funext fun d => funext fun e => ih d e)

theorem outs_at : ∀ n : ℕ, n ≤ 16 → ∀ j : Fin 16, j.val < n → ∀ (b : Fin 8) (r : Fin 128) (h : Fin 4) (e : Fin 512),
    ((refIter x y n).main_v25_6 (ix5 j b r h e) : EReal) = ret (fx x) (fy y) b h j (st (fx x) (fy y) b h j.val) r e
  | 0, _, j, hj, b, r, h, e => absurd hj (Nat.not_lt_zero _)
  | n + 1, hn, j, hj, b, r, h, e => by
    refine (b90_at ⟨n, hn⟩ j (refIter x y n) b r h e).trans ?_
    by_cases hjn : j = ⟨n, hn⟩
    · rw [if_pos hjn, hjn]
      refine (b84_at x y ⟨n, hn⟩ b h r e).trans ?_
      exact congrArg (fun S => ret (fx x) (fy y) b h ⟨n, hn⟩ S r e) (funext fun d => funext fun e => state_at x y n (by omega) b h d e)
    · rw [if_neg hjn]
      exact outs_at n (by omega) j (by have : j.val ≠ n := fun q => hjn (Fin.ext q); omega) b r h e

theorem R_at (s : State Ideal) (f : Fin 16 → Fin 8 → Fin 128 → Fin 4 → Fin 512 → EReal)
    (hs : ∀ n b r h e, s.main_v25_6 (ix5 n b r h e) = f n b r h e) (i : Fin 16384) (j : Fin 2048) :
    (R_main_v56 s y w (ix2 i j) : EReal)
      = norm (f ⟨i.val % 2048 / 128, by omega⟩ ⟨i.val / 2048, by omega⟩ ⟨i.val % 2048 % 128, by omega⟩ ⟨j.val / 512, by omega⟩) ⟨j.val % 512, by omega⟩
        * w (ix2 0 j) * (y (ix2 i ⟨2048 + j.val, by omega⟩) * Ideal.logistic (y (ix2 i ⟨2048 + j.val, by omega⟩))) := by
  pointwise [R_main_v56]
  simp only [hs]
  rfl

end Cert.ReferenceIdeal.Ret

end
-- ==== Proof.RefRun.lean ====
module

public import proofs.«01_k».proof.Proof.Gen.ReferenceIdeal.Run
public import proofs.«01_k».proof.Proof.Gen.ReferenceIdeal.Step

@[expose] public section

noncomputable section

namespace Cert.ReferenceIdeal.RetRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_5 : V0 (Proc.devRef .tc main_v25_5) = s.main_v25_5
  f_6 : V0 (Proc.devRef .tc main_v25_6) = s.main_v25_6
  f_0 : V0 (Proc.devRef .tc main_v25_0) = s.main_v25_0
  f_1 : V0 (Proc.devRef .tc main_v25_1) = s.main_v25_1
  f_2 : V0 (Proc.devRef .tc main_v25_2) = s.main_v25_2
  n_4 : V0 (Proc.devRef .tc main_v25_4) = constantI S_ 32 (BitVec.ofNat 32 j)
  k_3 : V0 (Proc.devRef .tc main_v25_3) = Cert.ReferenceIdeal.Step.K_main_v16 (F := F)

variable {V0 s j}

set_option maxRecDepth 8192 in
theorem al_0 (h : Holds V0 s j) : (constantI S_ 32 0#32 : (Proc.devRef .tc main_while0b_call0_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call0_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call0_c_1 : DevRef τ sig).ty.Contents (Elt F)) = Cert.ReferenceIdeal.Step.b2 j s := by
  unfold Cert.ReferenceIdeal.Step.b2
  rfl
set_option maxRecDepth 8192 in
theorem al_3 (h : Holds V0 s j) : (constantI S_ 32 0#32 : (Proc.devRef .tc main_while0b_call0_c_2 : DevRef τ sig).ty.Contents (Elt F)) = Cert.ReferenceIdeal.Step.b3 j s := by
  unfold Cert.ReferenceIdeal.Step.b3
  rfl
set_option maxRecDepth 8192 in
theorem al_4 (h : Holds V0 s j) : (Host.dynamicSlice S1x8x128x4x256 (V0 (Proc.devRef .tc main_v25_0)) (fun k => (((![V0 (Proc.devRef .tc main_v25_4), constantI S_ 32 0#32, constantI S_ 32 0#32, constantI S_ 32 0#32, constantI S_ 32 0#32] : Fin 5 → (⟨S_, .i32⟩ : BufTy).Contents (Elt F))) k (Shape.Idx.first h_S_)).toInt) sliceFits_S16x8x128x4x256_S1x8x128x4x256 : (Proc.devRef .tc main_while0b_call0_v0 : DevRef τ sig).ty.Contents (Elt F)) = Cert.ReferenceIdeal.Step.b4 j s := by
  unfold Cert.ReferenceIdeal.Step.b4
  rw [← al_0 h, ← al_1 h, ← al_2 h, ← al_3 h, h.f_0, h.n_4]
  try rfl
set_option maxRecDepth 8192 in
theorem al_5 (h : Holds V0 s j) : (res_main_while0b_v57 V0 : (Proc.devRef .tc main_while0b_v57 : DevRef τ sig).ty.Contents (Elt F)) = Cert.ReferenceIdeal.Step.b5 j s := by
  unfold res_main_while0b_v57 Cert.ReferenceIdeal.Step.b5
  rw [← al_4 h]
  try rfl
set_option maxRecDepth 8192 in
theorem al_6 (h : Holds V0 s j) : (constantI S_ 32 0#32 : (Proc.devRef .tc main_while0b_call1_c : DevRef τ sig).ty.Contents (Elt F)) = Cert.ReferenceIdeal.Step.b6 j s := by
  unfold Cert.ReferenceIdeal.Step.b6
  rfl
set_option maxRecDepth 8192 in
theorem al_7 (h : Holds V0 s j) : (constantI S_ 32 0#32 : (Proc.devRef .tc main_while0b_call1_c_0 : DevRef τ sig).ty.Contents (Elt F)) = Cert.ReferenceIdeal.Step.b7 j s := by
  unfold Cert.ReferenceIdeal.Step.b7
  rfl
set_option maxRecDepth 8192 in
theorem al_8 (h : Holds V0 s j) : (constantI S_ 32 0#32 : (Proc.devRef .tc main_while0b_call1_c_1 : DevRef τ sig).ty.Contents (Elt F)) = Cert.ReferenceIdeal.Step.b8 j s := by
  unfold Cert.ReferenceIdeal.Step.b8
  rfl
set_option maxRecDepth 8192 in
theorem al_9 (h : Holds V0 s j) : (constantI S_ 32 0#32 : (Proc.devRef .tc main_while0b_call1_c_2 : DevRef τ sig).ty.Contents (Elt F)) = Cert.ReferenceIdeal.Step.b9 j s := by
  unfold Cert.ReferenceIdeal.Step.b9
  rfl
set_option maxRecDepth 8192 in
theorem al_10 (h : Holds V0 s j) : (Host.dynamicSlice S1x8x128x4x256 (V0 (Proc.devRef .tc main_v25_1)) (fun k => (((![V0 (Proc.devRef .tc main_v25_4), constantI S_ 32 0#32, constantI S_ 32 0#32, constantI S_ 32 0#32, constantI S_ 32 0#32] : Fin 5 → (⟨S_, .i32⟩ : BufTy).Contents (Elt F))) k (Shape.Idx.first h_S_)).toInt) sliceFits_S16x8x128x4x256_S1x8x128x4x256 : (Proc.devRef .tc main_while0b_call1_v0 : DevRef τ sig).ty.Contents (Elt F)) = Cert.ReferenceIdeal.Step.b10 j s := by
  unfold Cert.ReferenceIdeal.Step.b10
  rw [← al_6 h, ← al_7 h, ← al_8 h, ← al_9 h, h.f_1, h.n_4]
  try rfl
set_option maxRecDepth 8192 in
theorem al_11 (h : Holds V0 s j) : (res_main_while0b_v58 V0 : (Proc.devRef .tc main_while0b_v58 : DevRef τ sig).ty.Contents (Elt F)) = Cert.ReferenceIdeal.Step.b11 j s := by
  unfold res_main_while0b_v58 Cert.ReferenceIdeal.Step.b11
  rw [← al_10 h]
  try rfl
set_option maxRecDepth 8192 in
theorem al_12 (h : Holds V0 s j) : (constantI S_ 32 0#32 : (Proc.devRef .tc main_while0b_call2_c : DevRef τ sig).ty.Contents (Elt F)) = Cert.ReferenceIdeal.Step.b12 j s := by
  unfold Cert.ReferenceIdeal.Step.b12
  rfl
set_option maxRecDepth 8192 in
theorem al_13 (h : Holds V0 s j) : (constantI S_ 32 0#32 : (Proc.devRef .tc main_while0b_call2_c_0 : DevRef τ sig).ty.Contents (Elt F)) = Cert.ReferenceIdeal.Step.b13 j s := by
  unfold Cert.ReferenceIdeal.Step.b13
  rfl
set_option maxRecDepth 8192 in
theorem al_14 (h : Holds V0 s j) : (constantI S_ 32 0#32 : (Proc.devRef .tc main_while0b_call2_c_1 : DevRef τ sig).ty.Contents (Elt F)) = Cert.ReferenceIdeal.Step.b14 j s := by
  unfold Cert.ReferenceIdeal.Step.b14
  rfl
set_option maxRecDepth 8192 in
theorem al_15 (h : Holds V0 s j) : (constantI S_ 32 0#32 : (Proc.devRef .tc main_while0b_call2_c_2 : DevRef τ sig).ty.Contents (Elt F)) = Cert.ReferenceIdeal.Step.b15 j s := by
  unfold Cert.ReferenceIdeal.Step.b15
  rfl
set_option maxRecDepth 8192 in
theorem al_16 (h : Holds V0 s j) : (Host.dynamicSlice S1x8x128x4x512 (V0 (Proc.devRef .tc main_v25_2)) (fun k => (((![V0 (Proc.devRef .tc main_v25_4), constantI S_ 32 0#32, constantI S_ 32 0#32, constantI S_ 32 0#32, constantI S_ 32 0#32] : Fin 5 → (⟨S_, .i32⟩ : BufTy).Contents (Elt F))) k (Shape.Idx.first h_S_)).toInt) sliceFits_S16x8x128x4x512_S1x8x128x4x512 : (Proc.devRef .tc main_while0b_call2_v0 : DevRef τ sig).ty.Contents (Elt F)) = Cert.ReferenceIdeal.Step.b16 j s := by
  unfold Cert.ReferenceIdeal.Step.b16
  rw [← al_12 h, ← al_13 h, ← al_14 h, ← al_15 h, h.f_2, h.n_4]
  try rfl
set_option maxRecDepth 8192 in
theorem al_17 (h : Holds V0 s j) : (res_main_while0b_v59 V0 : (Proc.devRef .tc main_while0b_v59 : DevRef τ sig).ty.Contents (Elt F)) = Cert.ReferenceIdeal.Step.b17 j s := by
  unfold res_main_while0b_v59 Cert.ReferenceIdeal.Step.b17
  rw [← al_16 h]
  try rfl
set_option maxRecDepth 8192 in
theorem al_18 (h : Holds V0 s j) : (res_main_while0b_v60 V0 : (Proc.devRef .tc main_while0b_v60 : DevRef τ sig).ty.Contents (Elt F)) = Cert.ReferenceIdeal.Step.b18 j s := by
  unfold res_main_while0b_v60 Cert.ReferenceIdeal.Step.b18
  rfl
set_option maxRecDepth 8192 in
theorem al_19 (h : Holds V0 s j) : (broadcastInDim S128x1 ![0] bcast_S128_S128x1_0 (res_main_while0b_v60 V0) : (Proc.devRef .tc main_while0b_v61 : DevRef τ sig).ty.Contents (Elt F)) = Cert.ReferenceIdeal.Step.b19 j s := by
  unfold Cert.ReferenceIdeal.Step.b19
  rw [← al_18 h]
  try rfl
set_option maxRecDepth 8192 in
theorem al_20 (h : Holds V0 s j) : (broadcastInDim S1x128 ![1] bcast_S128_S1x128_1 (res_main_while0b_v60 V0) : (Proc.devRef .tc main_while0b_v62 : DevRef τ sig).ty.Contents (Elt F)) = Cert.ReferenceIdeal.Step.b20 j s := by
  unfold Cert.ReferenceIdeal.Step.b20
  rw [← al_18 h]
  try rfl
set_option maxRecDepth 8192 in
theorem al_21 (h : Holds V0 s j) : (broadcastInDim S128x128 ![0, 1] bcast_S128x1_S128x128_0_1 (broadcastInDim S128x1 ![0] bcast_S128_S128x1_0 (res_main_while0b_v60 V0)) : (Proc.devRef .tc main_while0b_v63 : DevRef τ sig).ty.Contents (Elt F)) = Cert.ReferenceIdeal.Step.b21 j s := by
  unfold Cert.ReferenceIdeal.Step.b21
  rw [← al_19 h]
  try rfl
set_option maxRecDepth 8192 in
theorem al_22 (h : Holds V0 s j) : (broadcastInDim S128x128 ![0, 1] bcast_S1x128_S128x128_0_1 (broadcastInDim S1x128 ![1] bcast_S128_S1x128_1 (res_main_while0b_v60 V0)) : (Proc.devRef .tc main_while0b_v64 : DevRef τ sig).ty.Contents (Elt F)) = Cert.ReferenceIdeal.Step.b22 j s := by
  unfold Cert.ReferenceIdeal.Step.b22
  rw [← al_20 h]
  try rfl
set_option maxRecDepth 8192 in
theorem al_23 (h : Holds V0 s j) : (res_main_while0b_v65 V0 : (Proc.devRef .tc main_while0b_v65 : DevRef τ sig).ty.Contents (Elt F)) = Cert.ReferenceIdeal.Step.b23 j s := by
  unfold res_main_while0b_v65 Cert.ReferenceIdeal.Step.b23
  rw [← al_21 h, ← al_22 h]
  try rfl
set_option maxRecDepth 8192 in
theorem al_24 (h : Holds V0 s j) : (constant S_ .f32 0x00000000#32 : (Proc.devRef .tc main_while0b_cst_14 : DevRef τ sig).ty.Contents (Elt F)) = Cert.ReferenceIdeal.Step.b24 j s := by
  unfold Cert.ReferenceIdeal.Step.b24
  rfl
set_option maxRecDepth 8192 in
theorem al_25 (h : Holds V0 s j) : (broadcastInDim S128x128 ![] bcast_S_S128x128 (constant S_ .f32 0x00000000#32) : (Proc.devRef .tc main_while0b_v66 : DevRef τ sig).ty.Contents (Elt F)) = Cert.ReferenceIdeal.Step.b25 j s := by
  unfold Cert.ReferenceIdeal.Step.b25
  rw [← al_24 h]
  try rfl
set_option maxRecDepth 8192 in
theorem al_26 (h : Holds V0 s j) : (cmpf .oge (res_main_while0b_v65 V0) (broadcastInDim S128x128 ![] bcast_S_S128x128 (constant S_ .f32 0x00000000#32)) : (Proc.devRef .tc main_while0b_v67 : DevRef τ sig).ty.Contents (Elt F)) = Cert.ReferenceIdeal.Step.b26 j s := by
  unfold Cert.ReferenceIdeal.Step.b26
  rw [← al_23 h, ← al_25 h]
  try rfl
set_option maxRecDepth 8192 in
theorem al_27 (h : Holds V0 s j) : (res_main_while0b_v68 V0 : (Proc.devRef .tc main_while0b_v68 : DevRef τ sig).ty.Contents (Elt F)) = Cert.ReferenceIdeal.Step.b27 j s := by
  unfold res_main_while0b_v68 Cert.ReferenceIdeal.Step.b27
  rw [← al_26 h]
  try rfl
set_option maxRecDepth 8192 in
theorem al_28 (h : Holds V0 s j) : (broadcastInDim S1x128x128 ![1, 2] bcast_S128x128_S1x128x128_1_2 (res_main_while0b_v65 V0) : (Proc.devRef .tc main_while0b_v69 : DevRef τ sig).ty.Contents (Elt F)) = Cert.ReferenceIdeal.Step.b28 j s := by
  unfold Cert.ReferenceIdeal.Step.b28
  rw [← al_23 h]
  try rfl
set_option maxRecDepth 8192 in
theorem al_29 (h : Holds V0 s j) : (constant S_ .f32 0x00000000#32 : (Proc.devRef .tc main_while0b_cst_15 : DevRef τ sig).ty.Contents (Elt F)) = Cert.ReferenceIdeal.Step.b29 j s := by
  unfold Cert.ReferenceIdeal.Step.b29
  rfl
set_option maxRecDepth 8192 in
theorem al_30 (h : Holds V0 s j) : (id (constant S_ .f32 0x00000000#32) : (Proc.devRef .tc main_while0b_call3_v0 : DevRef τ sig).ty.Contents (Elt F)) = Cert.ReferenceIdeal.Step.b30 j s := by
  unfold Cert.ReferenceIdeal.Step.b30
  rw [← al_29 h]
  try rfl
set_option maxRecDepth 8192 in
theorem al_31 (h : Holds V0 s j) : (broadcastInDim S1x128x128 ![] bcast_S_S1x128x128 (id (constant S_ .f32 0x00000000#32)) : (Proc.devRef .tc main_while0b_call3_v1 : DevRef τ sig).ty.Contents (Elt F)) = Cert.ReferenceIdeal.Step.b31 j s := by
  unfold Cert.ReferenceIdeal.Step.b31
  rw [← al_30 h]
  try rfl
set_option maxRecDepth 8192 in
theorem al_32 (h : Holds V0 s j) : (select (res_main_while0b_v68 V0) (broadcastInDim S1x128x128 ![1, 2] bcast_S128x128_S1x128x128_1_2 (res_main_while0b_v65 V0)) (broadcastInDim S1x128x128 ![] bcast_S_S1x128x128 (id (constant S_ .f32 0x00000000#32))) : (Proc.devRef .tc main_while0b_v70 : DevRef τ sig).ty.Contents (Elt F)) = Cert.ReferenceIdeal.Step.b32 j s := by
  unfold Cert.ReferenceIdeal.Step.b32
  rw [← al_27 h, ← al_28 h, ← al_31 h]
  try rfl
set_option maxRecDepth 8192 in
theorem al_33 (h : Holds V0 s j) : (broadcastInDim S4x1x1 ![0] bcast_S4_S4x1x1_0 (V0 (Proc.devRef .tc main_v25_3)) : (Proc.devRef .tc main_while0b_v71 : DevRef τ sig).ty.Contents (Elt F)) = Cert.ReferenceIdeal.Step.b33 j s := by
  unfold Cert.ReferenceIdeal.Step.b33
  rw [h.k_3]
  try rfl
set_option maxRecDepth 8192 in
theorem al_34 (h : Holds V0 s j) : (broadcastInDim S4x128x128 ![0, 1, 2] bcast_S1x128x128_S4x128x128_0_1_2 (select (res_main_while0b_v68 V0) (broadcastInDim S1x128x128 ![1, 2] bcast_S128x128_S1x128x128_1_2 (res_main_while0b_v65 V0)) (broadcastInDim S1x128x128 ![] bcast_S_S1x128x128 (id (constant S_ .f32 0x00000000#32)))) : (Proc.devRef .tc main_while0b_v72 : DevRef τ sig).ty.Contents (Elt F)) = Cert.ReferenceIdeal.Step.b34 j s := by
  unfold Cert.ReferenceIdeal.Step.b34
  rw [← al_32 h]
  try rfl
set_option maxRecDepth 8192 in
theorem al_35 (h : Holds V0 s j) : (broadcastInDim S4x128x128 ![0, 1, 2] bcast_S4x1x1_S4x128x128_0_1_2 (broadcastInDim S4x1x1 ![0] bcast_S4_S4x1x1_0 (V0 (Proc.devRef .tc main_v25_3))) : (Proc.devRef .tc main_while0b_v73 : DevRef τ sig).ty.Contents (Elt F)) = Cert.ReferenceIdeal.Step.b35 j s := by
  unfold Cert.ReferenceIdeal.Step.b35
  rw [← al_33 h]
  try rfl
set_option maxRecDepth 8192 in
theorem al_36 (h : Holds V0 s j) : (mulf (broadcastInDim S4x128x128 ![0, 1, 2] bcast_S1x128x128_S4x128x128_0_1_2 (select (res_main_while0b_v68 V0) (broadcastInDim S1x128x128 ![1, 2] bcast_S128x128_S1x128x128_1_2 (res_main_while0b_v65 V0)) (broadcastInDim S1x128x128 ![] bcast_S_S1x128x128 (id (constant S_ .f32 0x00000000#32))))) (broadcastInDim S4x128x128 ![0, 1, 2] bcast_S4x1x1_S4x128x128_0_1_2 (broadcastInDim S4x1x1 ![0] bcast_S4_S4x1x1_0 (V0 (Proc.devRef .tc main_v25_3)))) : (Proc.devRef .tc main_while0b_v74 : DevRef τ sig).ty.Contents (Elt F)) = Cert.ReferenceIdeal.Step.b36 j s := by
  unfold Cert.ReferenceIdeal.Step.b36
  rw [← al_34 h, ← al_35 h]
  try rfl
set_option maxRecDepth 8192 in
theorem al_37 (h : Holds V0 s j) : (Host.exp (mulf (broadcastInDim S4x128x128 ![0, 1, 2] bcast_S1x128x128_S4x128x128_0_1_2 (select (res_main_while0b_v68 V0) (broadcastInDim S1x128x128 ![1, 2] bcast_S128x128_S1x128x128_1_2 (res_main_while0b_v65 V0)) (broadcastInDim S1x128x128 ![] bcast_S_S1x128x128 (id (constant S_ .f32 0x00000000#32))))) (broadcastInDim S4x128x128 ![0, 1, 2] bcast_S4x1x1_S4x128x128_0_1_2 (broadcastInDim S4x1x1 ![0] bcast_S4_S4x1x1_0 (V0 (Proc.devRef .tc main_v25_3))))) : (Proc.devRef .tc main_while0b_v75 : DevRef τ sig).ty.Contents (Elt F)) = Cert.ReferenceIdeal.Step.b37 j s := by
  unfold Cert.ReferenceIdeal.Step.b37
  rw [← al_36 h]
  try rfl
set_option maxRecDepth 8192 in
theorem al_38 (h : Holds V0 s j) : (constant S_ .f32 0x00000000#32 : (Proc.devRef .tc main_while0b_cst_16 : DevRef τ sig).ty.Contents (Elt F)) = Cert.ReferenceIdeal.Step.b38 j s := by
  unfold Cert.ReferenceIdeal.Step.b38
  rfl
set_option maxRecDepth 8192 in
theorem al_39 (h : Holds V0 s j) : (id (constant S_ .f32 0x00000000#32) : (Proc.devRef .tc main_while0b_call4_v0 : DevRef τ sig).ty.Contents (Elt F)) = Cert.ReferenceIdeal.Step.b39 j s := by
  unfold Cert.ReferenceIdeal.Step.b39
  rw [← al_38 h]
  try rfl
set_option maxRecDepth 8192 in
theorem al_40 (h : Holds V0 s j) : (broadcastInDim S4x128x128 ![0, 1, 2] bcast_S1x128x128_S4x128x128_0_1_2 (res_main_while0b_v68 V0) : (Proc.devRef .tc main_while0b_call4_v1 : DevRef τ sig).ty.Contents (Elt F)) = Cert.ReferenceIdeal.Step.b40 j s := by
  unfold Cert.ReferenceIdeal.Step.b40
  rw [← al_27 h]
  try rfl
set_option maxRecDepth 8192 in
theorem al_41 (h : Holds V0 s j) : (broadcastInDim S4x128x128 ![] bcast_S_S4x128x128 (id (constant S_ .f32 0x00000000#32)) : (Proc.devRef .tc main_while0b_call4_v2 : DevRef τ sig).ty.Contents (Elt F)) = Cert.ReferenceIdeal.Step.b41 j s := by
  unfold Cert.ReferenceIdeal.Step.b41
  rw [← al_39 h]
  try rfl
set_option maxRecDepth 8192 in
theorem al_42 (h : Holds V0 s j) : (select (broadcastInDim S4x128x128 ![0, 1, 2] bcast_S1x128x128_S4x128x128_0_1_2 (res_main_while0b_v68 V0)) (Host.exp (mulf (broadcastInDim S4x128x128 ![0, 1, 2] bcast_S1x128x128_S4x128x128_0_1_2 (select (res_main_while0b_v68 V0) (broadcastInDim S1x128x128 ![1, 2] bcast_S128x128_S1x128x128_1_2 (res_main_while0b_v65 V0)) (broadcastInDim S1x128x128 ![] bcast_S_S1x128x128 (id (constant S_ .f32 0x00000000#32))))) (broadcastInDim S4x128x128 ![0, 1, 2] bcast_S4x1x1_S4x128x128_0_1_2 (broadcastInDim S4x1x1 ![0] bcast_S4_S4x1x1_0 (V0 (Proc.devRef .tc main_v25_3)))))) (broadcastInDim S4x128x128 ![] bcast_S_S4x128x128 (id (constant S_ .f32 0x00000000#32))) : (Proc.devRef .tc main_while0b_v76 : DevRef τ sig).ty.Contents (Elt F)) = Cert.ReferenceIdeal.Step.b42 j s := by
  unfold Cert.ReferenceIdeal.Step.b42
  rw [← al_40 h, ← al_37 h, ← al_41 h]
  try rfl
set_option maxRecDepth 8192 in
theorem al_43 (h : Holds V0 s j) : (Host.dotGeneral dot_S8x128x4x256_S8x128x4x256_S8x4x128x128_3_3_1_1_02_02 none (res_main_while0b_v57 V0) (res_main_while0b_v58 V0) : (Proc.devRef .tc main_while0b_v77 : DevRef τ sig).ty.Contents (Elt F)) = Cert.ReferenceIdeal.Step.b43 j s := by
  unfold Cert.ReferenceIdeal.Step.b43
  rw [← al_5 h, ← al_11 h]
  try rfl
set_option maxRecDepth 8192 in
theorem al_44 (h : Holds V0 s j) : (broadcastInDim S1x4x128x128 ![1, 2, 3] bcast_S4x128x128_S1x4x128x128_1_2_3 (select (broadcastInDim S4x128x128 ![0, 1, 2] bcast_S1x128x128_S4x128x128_0_1_2 (res_main_while0b_v68 V0)) (Host.exp (mulf (broadcastInDim S4x128x128 ![0, 1, 2] bcast_S1x128x128_S4x128x128_0_1_2 (select (res_main_while0b_v68 V0) (broadcastInDim S1x128x128 ![1, 2] bcast_S128x128_S1x128x128_1_2 (res_main_while0b_v65 V0)) (broadcastInDim S1x128x128 ![] bcast_S_S1x128x128 (id (constant S_ .f32 0x00000000#32))))) (broadcastInDim S4x128x128 ![0, 1, 2] bcast_S4x1x1_S4x128x128_0_1_2 (broadcastInDim S4x1x1 ![0] bcast_S4_S4x1x1_0 (V0 (Proc.devRef .tc main_v25_3)))))) (broadcastInDim S4x128x128 ![] bcast_S_S4x128x128 (id (constant S_ .f32 0x00000000#32)))) : (Proc.devRef .tc main_while0b_v78 : DevRef τ sig).ty.Contents (Elt F)) = Cert.ReferenceIdeal.Step.b44 j s := by
  unfold Cert.ReferenceIdeal.Step.b44
  rw [← al_42 h]
  try rfl
set_option maxRecDepth 8192 in
theorem al_45 (h : Holds V0 s j) : (broadcastInDim S8x4x128x128 ![0, 1, 2, 3] bcast_S1x4x128x128_S8x4x128x128_0_1_2_3 (broadcastInDim S1x4x128x128 ![1, 2, 3] bcast_S4x128x128_S1x4x128x128_1_2_3 (select (broadcastInDim S4x128x128 ![0, 1, 2] bcast_S1x128x128_S4x128x128_0_1_2 (res_main_while0b_v68 V0)) (Host.exp (mulf (broadcastInDim S4x128x128 ![0, 1, 2] bcast_S1x128x128_S4x128x128_0_1_2 (select (res_main_while0b_v68 V0) (broadcastInDim S1x128x128 ![1, 2] bcast_S128x128_S1x128x128_1_2 (res_main_while0b_v65 V0)) (broadcastInDim S1x128x128 ![] bcast_S_S1x128x128 (id (constant S_ .f32 0x00000000#32))))) (broadcastInDim S4x128x128 ![0, 1, 2] bcast_S4x1x1_S4x128x128_0_1_2 (broadcastInDim S4x1x1 ![0] bcast_S4_S4x1x1_0 (V0 (Proc.devRef .tc main_v25_3)))))) (broadcastInDim S4x128x128 ![] bcast_S_S4x128x128 (id (constant S_ .f32 0x00000000#32))))) : (Proc.devRef .tc main_while0b_v79 : DevRef τ sig).ty.Contents (Elt F)) = Cert.ReferenceIdeal.Step.b45 j s := by
  unfold Cert.ReferenceIdeal.Step.b45
  rw [← al_44 h]
  try rfl
set_option maxRecDepth 8192 in
theorem al_46 (h : Holds V0 s j) : (mulf (Host.dotGeneral dot_S8x128x4x256_S8x128x4x256_S8x4x128x128_3_3_1_1_02_02 none (res_main_while0b_v57 V0) (res_main_while0b_v58 V0)) (broadcastInDim S8x4x128x128 ![0, 1, 2, 3] bcast_S1x4x128x128_S8x4x128x128_0_1_2_3 (broadcastInDim S1x4x128x128 ![1, 2, 3] bcast_S4x128x128_S1x4x128x128_1_2_3 (select (broadcastInDim S4x128x128 ![0, 1, 2] bcast_S1x128x128_S4x128x128_0_1_2 (res_main_while0b_v68 V0)) (Host.exp (mulf (broadcastInDim S4x128x128 ![0, 1, 2] bcast_S1x128x128_S4x128x128_0_1_2 (select (res_main_while0b_v68 V0) (broadcastInDim S1x128x128 ![1, 2] bcast_S128x128_S1x128x128_1_2 (res_main_while0b_v65 V0)) (broadcastInDim S1x128x128 ![] bcast_S_S1x128x128 (id (constant S_ .f32 0x00000000#32))))) (broadcastInDim S4x128x128 ![0, 1, 2] bcast_S4x1x1_S4x128x128_0_1_2 (broadcastInDim S4x1x1 ![0] bcast_S4_S4x1x1_0 (V0 (Proc.devRef .tc main_v25_3)))))) (broadcastInDim S4x128x128 ![] bcast_S_S4x128x128 (id (constant S_ .f32 0x00000000#32)))))) : (Proc.devRef .tc main_while0b_v80 : DevRef τ sig).ty.Contents (Elt F)) = Cert.ReferenceIdeal.Step.b46 j s := by
  unfold Cert.ReferenceIdeal.Step.b46
  rw [← al_43 h, ← al_45 h]
  try rfl
set_option maxRecDepth 8192 in
theorem al_47 (h : Holds V0 s j) : (Host.dotGeneral dot_S8x128x4x512_S8x4x128x128_S8x4x512x128_1_3_3_2_02_01 none (res_main_while0b_v59 V0) (mulf (Host.dotGeneral dot_S8x128x4x256_S8x128x4x256_S8x4x128x128_3_3_1_1_02_02 none (res_main_while0b_v57 V0) (res_main_while0b_v58 V0)) (broadcastInDim S8x4x128x128 ![0, 1, 2, 3] bcast_S1x4x128x128_S8x4x128x128_0_1_2_3 (broadcastInDim S1x4x128x128 ![1, 2, 3] bcast_S4x128x128_S1x4x128x128_1_2_3 (select (broadcastInDim S4x128x128 ![0, 1, 2] bcast_S1x128x128_S4x128x128_0_1_2 (res_main_while0b_v68 V0)) (Host.exp (mulf (broadcastInDim S4x128x128 ![0, 1, 2] bcast_S1x128x128_S4x128x128_0_1_2 (select (res_main_while0b_v68 V0) (broadcastInDim S1x128x128 ![1, 2] bcast_S128x128_S1x128x128_1_2 (res_main_while0b_v65 V0)) (broadcastInDim S1x128x128 ![] bcast_S_S1x128x128 (id (constant S_ .f32 0x00000000#32))))) (broadcastInDim S4x128x128 ![0, 1, 2] bcast_S4x1x1_S4x128x128_0_1_2 (broadcastInDim S4x1x1 ![0] bcast_S4_S4x1x1_0 (V0 (Proc.devRef .tc main_v25_3)))))) (broadcastInDim S4x128x128 ![] bcast_S_S4x128x128 (id (constant S_ .f32 0x00000000#32))))))) : (Proc.devRef .tc main_while0b_v81 : DevRef τ sig).ty.Contents (Elt F)) = Cert.ReferenceIdeal.Step.b47 j s := by
  unfold Cert.ReferenceIdeal.Step.b47
  rw [← al_17 h, ← al_46 h]
  try rfl
set_option maxRecDepth 8192 in
theorem al_48 (h : Holds V0 s j) : (transpose S8x128x4x512 [0, 3, 1, 2] (Host.dotGeneral dot_S8x128x4x512_S8x4x128x128_S8x4x512x128_1_3_3_2_02_01 none (res_main_while0b_v59 V0) (mulf (Host.dotGeneral dot_S8x128x4x256_S8x128x4x256_S8x4x128x128_3_3_1_1_02_02 none (res_main_while0b_v57 V0) (res_main_while0b_v58 V0)) (broadcastInDim S8x4x128x128 ![0, 1, 2, 3] bcast_S1x4x128x128_S8x4x128x128_0_1_2_3 (broadcastInDim S1x4x128x128 ![1, 2, 3] bcast_S4x128x128_S1x4x128x128_1_2_3 (select (broadcastInDim S4x128x128 ![0, 1, 2] bcast_S1x128x128_S4x128x128_0_1_2 (res_main_while0b_v68 V0)) (Host.exp (mulf (broadcastInDim S4x128x128 ![0, 1, 2] bcast_S1x128x128_S4x128x128_0_1_2 (select (res_main_while0b_v68 V0) (broadcastInDim S1x128x128 ![1, 2] bcast_S128x128_S1x128x128_1_2 (res_main_while0b_v65 V0)) (broadcastInDim S1x128x128 ![] bcast_S_S1x128x128 (id (constant S_ .f32 0x00000000#32))))) (broadcastInDim S4x128x128 ![0, 1, 2] bcast_S4x1x1_S4x128x128_0_1_2 (broadcastInDim S4x1x1 ![0] bcast_S4_S4x1x1_0 (V0 (Proc.devRef .tc main_v25_3)))))) (broadcastInDim S4x128x128 ![] bcast_S_S4x128x128 (id (constant S_ .f32 0x00000000#32)))))))) transposes_S8x4x512x128_S8x128x4x512_0_3_1_2 : (Proc.devRef .tc main_while0b_v82 : DevRef τ sig).ty.Contents (Elt F)) = Cert.ReferenceIdeal.Step.b48 j s := by
  unfold Cert.ReferenceIdeal.Step.b48
  rw [← al_47 h]
  try rfl
set_option maxRecDepth 8192 in
theorem al_49 (h : Holds V0 s j) : (broadcastInDim S128x1 ![0] bcast_S128_S128x1_0 (res_main_while0b_v60 V0) : (Proc.devRef .tc main_while0b_v83 : DevRef τ sig).ty.Contents (Elt F)) = Cert.ReferenceIdeal.Step.b49 j s := by
  unfold Cert.ReferenceIdeal.Step.b49
  rw [← al_18 h]
  try rfl
set_option maxRecDepth 8192 in
theorem al_50 (h : Holds V0 s j) : (constant S_ .f32 0x3F800000#32 : (Proc.devRef .tc main_while0b_cst_17 : DevRef τ sig).ty.Contents (Elt F)) = Cert.ReferenceIdeal.Step.b50 j s := by
  unfold Cert.ReferenceIdeal.Step.b50
  rfl
set_option maxRecDepth 8192 in
theorem al_51 (h : Holds V0 s j) : (broadcastInDim S128x1 ![] bcast_S_S128x1 (constant S_ .f32 0x3F800000#32) : (Proc.devRef .tc main_while0b_v84 : DevRef τ sig).ty.Contents (Elt F)) = Cert.ReferenceIdeal.Step.b51 j s := by
  unfold Cert.ReferenceIdeal.Step.b51
  rw [← al_50 h]
  try rfl
set_option maxRecDepth 8192 in
theorem al_52 (h : Holds V0 s j) : (addf (broadcastInDim S128x1 ![0] bcast_S128_S128x1_0 (res_main_while0b_v60 V0)) (broadcastInDim S128x1 ![] bcast_S_S128x1 (constant S_ .f32 0x3F800000#32)) : (Proc.devRef .tc main_while0b_v85 : DevRef τ sig).ty.Contents (Elt F)) = Cert.ReferenceIdeal.Step.b52 j s := by
  unfold Cert.ReferenceIdeal.Step.b52
  rw [← al_49 h, ← al_51 h]
  try rfl
set_option maxRecDepth 8192 in
theorem al_53 (h : Holds V0 s j) : (broadcastInDim S1x4 ![1] bcast_S4_S1x4_1 (V0 (Proc.devRef .tc main_v25_3)) : (Proc.devRef .tc main_while0b_v86 : DevRef τ sig).ty.Contents (Elt F)) = Cert.ReferenceIdeal.Step.b53 j s := by
  unfold Cert.ReferenceIdeal.Step.b53
  rw [h.k_3]
  try rfl
set_option maxRecDepth 8192 in
theorem al_54 (h : Holds V0 s j) : (broadcastInDim S128x4 ![0, 1] bcast_S128x1_S128x4_0_1 (addf (broadcastInDim S128x1 ![0] bcast_S128_S128x1_0 (res_main_while0b_v60 V0)) (broadcastInDim S128x1 ![] bcast_S_S128x1 (constant S_ .f32 0x3F800000#32))) : (Proc.devRef .tc main_while0b_v87 : DevRef τ sig).ty.Contents (Elt F)) = Cert.ReferenceIdeal.Step.b54 j s := by
  unfold Cert.ReferenceIdeal.Step.b54
  rw [← al_52 h]
  try rfl
set_option maxRecDepth 8192 in
theorem al_55 (h : Holds V0 s j) : (broadcastInDim S128x4 ![0, 1] bcast_S1x4_S128x4_0_1 (broadcastInDim S1x4 ![1] bcast_S4_S1x4_1 (V0 (Proc.devRef .tc main_v25_3))) : (Proc.devRef .tc main_while0b_v88 : DevRef τ sig).ty.Contents (Elt F)) = Cert.ReferenceIdeal.Step.b55 j s := by
  unfold Cert.ReferenceIdeal.Step.b55
  rw [← al_53 h]
  try rfl
set_option maxRecDepth 8192 in
theorem al_56 (h : Holds V0 s j) : (mulf (broadcastInDim S128x4 ![0, 1] bcast_S128x1_S128x4_0_1 (addf (broadcastInDim S128x1 ![0] bcast_S128_S128x1_0 (res_main_while0b_v60 V0)) (broadcastInDim S128x1 ![] bcast_S_S128x1 (constant S_ .f32 0x3F800000#32)))) (broadcastInDim S128x4 ![0, 1] bcast_S1x4_S128x4_0_1 (broadcastInDim S1x4 ![1] bcast_S4_S1x4_1 (V0 (Proc.devRef .tc main_v25_3)))) : (Proc.devRef .tc main_while0b_v89 : DevRef τ sig).ty.Contents (Elt F)) = Cert.ReferenceIdeal.Step.b56 j s := by
  unfold Cert.ReferenceIdeal.Step.b56
  rw [← al_54 h, ← al_55 h]
  try rfl
set_option maxRecDepth 8192 in
theorem al_57 (h : Holds V0 s j) : (Host.exp (mulf (broadcastInDim S128x4 ![0, 1] bcast_S128x1_S128x4_0_1 (addf (broadcastInDim S128x1 ![0] bcast_S128_S128x1_0 (res_main_while0b_v60 V0)) (broadcastInDim S128x1 ![] bcast_S_S128x1 (constant S_ .f32 0x3F800000#32)))) (broadcastInDim S128x4 ![0, 1] bcast_S1x4_S128x4_0_1 (broadcastInDim S1x4 ![1] bcast_S4_S1x4_1 (V0 (Proc.devRef .tc main_v25_3))))) : (Proc.devRef .tc main_while0b_v90 : DevRef τ sig).ty.Contents (Elt F)) = Cert.ReferenceIdeal.Step.b57 j s := by
  unfold Cert.ReferenceIdeal.Step.b57
  rw [← al_56 h]
  try rfl
set_option maxRecDepth 8192 in
theorem al_58 (h : Holds V0 s j) : (Host.dotGeneral dot_S8x4x256x512_S8x128x4x256_S8x4x512x128_2_3_3_1_01_02 none (V0 (Proc.devRef .tc main_v25_5)) (res_main_while0b_v57 V0) : (Proc.devRef .tc main_while0b_v91 : DevRef τ sig).ty.Contents (Elt F)) = Cert.ReferenceIdeal.Step.b58 j s := by
  unfold Cert.ReferenceIdeal.Step.b58
  rw [← al_5 h, h.f_5]
  try rfl
set_option maxRecDepth 8192 in
theorem al_59 (h : Holds V0 s j) : (transpose S8x128x4x512 [0, 3, 1, 2] (Host.dotGeneral dot_S8x4x256x512_S8x128x4x256_S8x4x512x128_2_3_3_1_01_02 none (V0 (Proc.devRef .tc main_v25_5)) (res_main_while0b_v57 V0)) transposes_S8x4x512x128_S8x128x4x512_0_3_1_2 : (Proc.devRef .tc main_while0b_v92 : DevRef τ sig).ty.Contents (Elt F)) = Cert.ReferenceIdeal.Step.b59 j s := by
  unfold Cert.ReferenceIdeal.Step.b59
  rw [← al_58 h]
  try rfl
set_option maxRecDepth 8192 in
theorem al_60 (h : Holds V0 s j) : (broadcastInDim S1x128x4x1 ![1, 2] bcast_S128x4_S1x128x4x1_1_2 (Host.exp (mulf (broadcastInDim S128x4 ![0, 1] bcast_S128x1_S128x4_0_1 (addf (broadcastInDim S128x1 ![0] bcast_S128_S128x1_0 (res_main_while0b_v60 V0)) (broadcastInDim S128x1 ![] bcast_S_S128x1 (constant S_ .f32 0x3F800000#32)))) (broadcastInDim S128x4 ![0, 1] bcast_S1x4_S128x4_0_1 (broadcastInDim S1x4 ![1] bcast_S4_S1x4_1 (V0 (Proc.devRef .tc main_v25_3)))))) : (Proc.devRef .tc main_while0b_v93 : DevRef τ sig).ty.Contents (Elt F)) = Cert.ReferenceIdeal.Step.b60 j s := by
  unfold Cert.ReferenceIdeal.Step.b60
  rw [← al_57 h]
  try rfl
set_option maxRecDepth 8192 in
theorem al_61 (h : Holds V0 s j) : (broadcastInDim S8x128x4x512 ![0, 1, 2, 3] bcast_S1x128x4x1_S8x128x4x512_0_1_2_3 (broadcastInDim S1x128x4x1 ![1, 2] bcast_S128x4_S1x128x4x1_1_2 (Host.exp (mulf (broadcastInDim S128x4 ![0, 1] bcast_S128x1_S128x4_0_1 (addf (broadcastInDim S128x1 ![0] bcast_S128_S128x1_0 (res_main_while0b_v60 V0)) (broadcastInDim S128x1 ![] bcast_S_S128x1 (constant S_ .f32 0x3F800000#32)))) (broadcastInDim S128x4 ![0, 1] bcast_S1x4_S128x4_0_1 (broadcastInDim S1x4 ![1] bcast_S4_S1x4_1 (V0 (Proc.devRef .tc main_v25_3))))))) : (Proc.devRef .tc main_while0b_v94 : DevRef τ sig).ty.Contents (Elt F)) = Cert.ReferenceIdeal.Step.b61 j s := by
  unfold Cert.ReferenceIdeal.Step.b61
  rw [← al_60 h]
  try rfl
set_option maxRecDepth 8192 in
theorem al_62 (h : Holds V0 s j) : (mulf (transpose S8x128x4x512 [0, 3, 1, 2] (Host.dotGeneral dot_S8x4x256x512_S8x128x4x256_S8x4x512x128_2_3_3_1_01_02 none (V0 (Proc.devRef .tc main_v25_5)) (res_main_while0b_v57 V0)) transposes_S8x4x512x128_S8x128x4x512_0_3_1_2) (broadcastInDim S8x128x4x512 ![0, 1, 2, 3] bcast_S1x128x4x1_S8x128x4x512_0_1_2_3 (broadcastInDim S1x128x4x1 ![1, 2] bcast_S128x4_S1x128x4x1_1_2 (Host.exp (mulf (broadcastInDim S128x4 ![0, 1] bcast_S128x1_S128x4_0_1 (addf (broadcastInDim S128x1 ![0] bcast_S128_S128x1_0 (res_main_while0b_v60 V0)) (broadcastInDim S128x1 ![] bcast_S_S128x1 (constant S_ .f32 0x3F800000#32)))) (broadcastInDim S128x4 ![0, 1] bcast_S1x4_S128x4_0_1 (broadcastInDim S1x4 ![1] bcast_S4_S1x4_1 (V0 (Proc.devRef .tc main_v25_3)))))))) : (Proc.devRef .tc main_while0b_v95 : DevRef τ sig).ty.Contents (Elt F)) = Cert.ReferenceIdeal.Step.b62 j s := by
  unfold Cert.ReferenceIdeal.Step.b62
  rw [← al_59 h, ← al_61 h]
  try rfl
set_option maxRecDepth 8192 in
theorem al_63 (h : Holds V0 s j) : (constant S_ .f32 0x42FE0000#32 : (Proc.devRef .tc main_while0b_cst_18 : DevRef τ sig).ty.Contents (Elt F)) = Cert.ReferenceIdeal.Step.b63 j s := by
  unfold Cert.ReferenceIdeal.Step.b63
  rfl
set_option maxRecDepth 8192 in
theorem al_64 (h : Holds V0 s j) : (broadcastInDim S128 ![] bcast_S_S128 (constant S_ .f32 0x42FE0000#32) : (Proc.devRef .tc main_while0b_v96 : DevRef τ sig).ty.Contents (Elt F)) = Cert.ReferenceIdeal.Step.b64 j s := by
  unfold Cert.ReferenceIdeal.Step.b64
  rw [← al_63 h]
  try rfl
set_option maxRecDepth 8192 in
theorem al_65 (h : Holds V0 s j) : (subf (broadcastInDim S128 ![] bcast_S_S128 (constant S_ .f32 0x42FE0000#32)) (res_main_while0b_v60 V0) : (Proc.devRef .tc main_while0b_v97 : DevRef τ sig).ty.Contents (Elt F)) = Cert.ReferenceIdeal.Step.b65 j s := by
  unfold Cert.ReferenceIdeal.Step.b65
  rw [← al_64 h, ← al_18 h]
  try rfl
set_option maxRecDepth 8192 in
theorem al_66 (h : Holds V0 s j) : (broadcastInDim S128x1 ![0] bcast_S128_S128x1_0 (subf (broadcastInDim S128 ![] bcast_S_S128 (constant S_ .f32 0x42FE0000#32)) (res_main_while0b_v60 V0)) : (Proc.devRef .tc main_while0b_v98 : DevRef τ sig).ty.Contents (Elt F)) = Cert.ReferenceIdeal.Step.b66 j s := by
  unfold Cert.ReferenceIdeal.Step.b66
  rw [← al_65 h]
  try rfl
set_option maxRecDepth 8192 in
theorem al_67 (h : Holds V0 s j) : (broadcastInDim S1x4 ![1] bcast_S4_S1x4_1 (V0 (Proc.devRef .tc main_v25_3)) : (Proc.devRef .tc main_while0b_v99 : DevRef τ sig).ty.Contents (Elt F)) = Cert.ReferenceIdeal.Step.b67 j s := by
  unfold Cert.ReferenceIdeal.Step.b67
  rw [h.k_3]
  try rfl
set_option maxRecDepth 8192 in
theorem al_68 (h : Holds V0 s j) : (broadcastInDim S128x4 ![0, 1] bcast_S128x1_S128x4_0_1 (broadcastInDim S128x1 ![0] bcast_S128_S128x1_0 (subf (broadcastInDim S128 ![] bcast_S_S128 (constant S_ .f32 0x42FE0000#32)) (res_main_while0b_v60 V0))) : (Proc.devRef .tc main_while0b_v100 : DevRef τ sig).ty.Contents (Elt F)) = Cert.ReferenceIdeal.Step.b68 j s := by
  unfold Cert.ReferenceIdeal.Step.b68
  rw [← al_66 h]
  try rfl
set_option maxRecDepth 8192 in
theorem al_69 (h : Holds V0 s j) : (broadcastInDim S128x4 ![0, 1] bcast_S1x4_S128x4_0_1 (broadcastInDim S1x4 ![1] bcast_S4_S1x4_1 (V0 (Proc.devRef .tc main_v25_3))) : (Proc.devRef .tc main_while0b_v101 : DevRef τ sig).ty.Contents (Elt F)) = Cert.ReferenceIdeal.Step.b69 j s := by
  unfold Cert.ReferenceIdeal.Step.b69
  rw [← al_67 h]
  try rfl
set_option maxRecDepth 8192 in
theorem al_70 (h : Holds V0 s j) : (mulf (broadcastInDim S128x4 ![0, 1] bcast_S128x1_S128x4_0_1 (broadcastInDim S128x1 ![0] bcast_S128_S128x1_0 (subf (broadcastInDim S128 ![] bcast_S_S128 (constant S_ .f32 0x42FE0000#32)) (res_main_while0b_v60 V0)))) (broadcastInDim S128x4 ![0, 1] bcast_S1x4_S128x4_0_1 (broadcastInDim S1x4 ![1] bcast_S4_S1x4_1 (V0 (Proc.devRef .tc main_v25_3)))) : (Proc.devRef .tc main_while0b_v102 : DevRef τ sig).ty.Contents (Elt F)) = Cert.ReferenceIdeal.Step.b70 j s := by
  unfold Cert.ReferenceIdeal.Step.b70
  rw [← al_68 h, ← al_69 h]
  try rfl
set_option maxRecDepth 8192 in
theorem al_71 (h : Holds V0 s j) : (Host.exp (mulf (broadcastInDim S128x4 ![0, 1] bcast_S128x1_S128x4_0_1 (broadcastInDim S128x1 ![0] bcast_S128_S128x1_0 (subf (broadcastInDim S128 ![] bcast_S_S128 (constant S_ .f32 0x42FE0000#32)) (res_main_while0b_v60 V0)))) (broadcastInDim S128x4 ![0, 1] bcast_S1x4_S128x4_0_1 (broadcastInDim S1x4 ![1] bcast_S4_S1x4_1 (V0 (Proc.devRef .tc main_v25_3))))) : (Proc.devRef .tc main_while0b_v103 : DevRef τ sig).ty.Contents (Elt F)) = Cert.ReferenceIdeal.Step.b71 j s := by
  unfold Cert.ReferenceIdeal.Step.b71
  rw [← al_70 h]
  try rfl
set_option maxRecDepth 8192 in
theorem al_72 (h : Holds V0 s j) : (constant S_ .f32 0x43000000#32 : (Proc.devRef .tc main_while0b_cst_19 : DevRef τ sig).ty.Contents (Elt F)) = Cert.ReferenceIdeal.Step.b72 j s := by
  unfold Cert.ReferenceIdeal.Step.b72
  rfl
set_option maxRecDepth 8192 in
theorem al_73 (h : Holds V0 s j) : (broadcastInDim S4 ![] bcast_S_S4 (constant S_ .f32 0x43000000#32) : (Proc.devRef .tc main_while0b_v104 : DevRef τ sig).ty.Contents (Elt F)) = Cert.ReferenceIdeal.Step.b73 j s := by
  unfold Cert.ReferenceIdeal.Step.b73
  rw [← al_72 h]
  try rfl
set_option maxRecDepth 8192 in
theorem al_74 (h : Holds V0 s j) : (mulf (broadcastInDim S4 ![] bcast_S_S4 (constant S_ .f32 0x43000000#32)) (V0 (Proc.devRef .tc main_v25_3)) : (Proc.devRef .tc main_while0b_v105 : DevRef τ sig).ty.Contents (Elt F)) = Cert.ReferenceIdeal.Step.b74 j s := by
  unfold Cert.ReferenceIdeal.Step.b74
  rw [← al_73 h, h.k_3]
  try rfl
set_option maxRecDepth 8192 in
theorem al_75 (h : Holds V0 s j) : (Host.exp (mulf (broadcastInDim S4 ![] bcast_S_S4 (constant S_ .f32 0x43000000#32)) (V0 (Proc.devRef .tc main_v25_3))) : (Proc.devRef .tc main_while0b_v106 : DevRef τ sig).ty.Contents (Elt F)) = Cert.ReferenceIdeal.Step.b75 j s := by
  unfold Cert.ReferenceIdeal.Step.b75
  rw [← al_74 h]
  try rfl
set_option maxRecDepth 8192 in
theorem al_76 (h : Holds V0 s j) : (broadcastInDim S1x4x1x1 ![1] bcast_S4_S1x4x1x1_1 (Host.exp (mulf (broadcastInDim S4 ![] bcast_S_S4 (constant S_ .f32 0x43000000#32)) (V0 (Proc.devRef .tc main_v25_3)))) : (Proc.devRef .tc main_while0b_v107 : DevRef τ sig).ty.Contents (Elt F)) = Cert.ReferenceIdeal.Step.b76 j s := by
  unfold Cert.ReferenceIdeal.Step.b76
  rw [← al_75 h]
  try rfl
set_option maxRecDepth 8192 in
theorem al_77 (h : Holds V0 s j) : (broadcastInDim S8x4x256x512 ![0, 1, 2, 3] bcast_S1x4x1x1_S8x4x256x512_0_1_2_3 (broadcastInDim S1x4x1x1 ![1] bcast_S4_S1x4x1x1_1 (Host.exp (mulf (broadcastInDim S4 ![] bcast_S_S4 (constant S_ .f32 0x43000000#32)) (V0 (Proc.devRef .tc main_v25_3))))) : (Proc.devRef .tc main_while0b_v108 : DevRef τ sig).ty.Contents (Elt F)) = Cert.ReferenceIdeal.Step.b77 j s := by
  unfold Cert.ReferenceIdeal.Step.b77
  rw [← al_76 h]
  try rfl
set_option maxRecDepth 8192 in
theorem al_78 (h : Holds V0 s j) : (mulf (broadcastInDim S8x4x256x512 ![0, 1, 2, 3] bcast_S1x4x1x1_S8x4x256x512_0_1_2_3 (broadcastInDim S1x4x1x1 ![1] bcast_S4_S1x4x1x1_1 (Host.exp (mulf (broadcastInDim S4 ![] bcast_S_S4 (constant S_ .f32 0x43000000#32)) (V0 (Proc.devRef .tc main_v25_3)))))) (V0 (Proc.devRef .tc main_v25_5)) : (Proc.devRef .tc main_while0b_v109 : DevRef τ sig).ty.Contents (Elt F)) = Cert.ReferenceIdeal.Step.b78 j s := by
  unfold Cert.ReferenceIdeal.Step.b78
  rw [← al_77 h, h.f_5]
  try rfl
set_option maxRecDepth 8192 in
theorem al_79 (h : Holds V0 s j) : (broadcastInDim S1x128x4x1 ![1, 2] bcast_S128x4_S1x128x4x1_1_2 (Host.exp (mulf (broadcastInDim S128x4 ![0, 1] bcast_S128x1_S128x4_0_1 (broadcastInDim S128x1 ![0] bcast_S128_S128x1_0 (subf (broadcastInDim S128 ![] bcast_S_S128 (constant S_ .f32 0x42FE0000#32)) (res_main_while0b_v60 V0)))) (broadcastInDim S128x4 ![0, 1] bcast_S1x4_S128x4_0_1 (broadcastInDim S1x4 ![1] bcast_S4_S1x4_1 (V0 (Proc.devRef .tc main_v25_3)))))) : (Proc.devRef .tc main_while0b_v110 : DevRef τ sig).ty.Contents (Elt F)) = Cert.ReferenceIdeal.Step.b79 j s := by
  unfold Cert.ReferenceIdeal.Step.b79
  rw [← al_71 h]
  try rfl
set_option maxRecDepth 8192 in
theorem al_80 (h : Holds V0 s j) : (broadcastInDim S8x128x4x256 ![0, 1, 2, 3] bcast_S1x128x4x1_S8x128x4x256_0_1_2_3 (broadcastInDim S1x128x4x1 ![1, 2] bcast_S128x4_S1x128x4x1_1_2 (Host.exp (mulf (broadcastInDim S128x4 ![0, 1] bcast_S128x1_S128x4_0_1 (broadcastInDim S128x1 ![0] bcast_S128_S128x1_0 (subf (broadcastInDim S128 ![] bcast_S_S128 (constant S_ .f32 0x42FE0000#32)) (res_main_while0b_v60 V0)))) (broadcastInDim S128x4 ![0, 1] bcast_S1x4_S128x4_0_1 (broadcastInDim S1x4 ![1] bcast_S4_S1x4_1 (V0 (Proc.devRef .tc main_v25_3))))))) : (Proc.devRef .tc main_while0b_v111 : DevRef τ sig).ty.Contents (Elt F)) = Cert.ReferenceIdeal.Step.b80 j s := by
  unfold Cert.ReferenceIdeal.Step.b80
  rw [← al_79 h]
  try rfl
set_option maxRecDepth 8192 in
theorem al_81 (h : Holds V0 s j) : (mulf (res_main_while0b_v58 V0) (broadcastInDim S8x128x4x256 ![0, 1, 2, 3] bcast_S1x128x4x1_S8x128x4x256_0_1_2_3 (broadcastInDim S1x128x4x1 ![1, 2] bcast_S128x4_S1x128x4x1_1_2 (Host.exp (mulf (broadcastInDim S128x4 ![0, 1] bcast_S128x1_S128x4_0_1 (broadcastInDim S128x1 ![0] bcast_S128_S128x1_0 (subf (broadcastInDim S128 ![] bcast_S_S128 (constant S_ .f32 0x42FE0000#32)) (res_main_while0b_v60 V0)))) (broadcastInDim S128x4 ![0, 1] bcast_S1x4_S128x4_0_1 (broadcastInDim S1x4 ![1] bcast_S4_S1x4_1 (V0 (Proc.devRef .tc main_v25_3)))))))) : (Proc.devRef .tc main_while0b_v112 : DevRef τ sig).ty.Contents (Elt F)) = Cert.ReferenceIdeal.Step.b81 j s := by
  unfold Cert.ReferenceIdeal.Step.b81
  rw [← al_11 h, ← al_80 h]
  try rfl
set_option maxRecDepth 8192 in
theorem al_82 (h : Holds V0 s j) : (Host.dotGeneral dot_S8x128x4x256_S8x128x4x512_S8x4x256x512_1_1_3_3_02_02 none (mulf (res_main_while0b_v58 V0) (broadcastInDim S8x128x4x256 ![0, 1, 2, 3] bcast_S1x128x4x1_S8x128x4x256_0_1_2_3 (broadcastInDim S1x128x4x1 ![1, 2] bcast_S128x4_S1x128x4x1_1_2 (Host.exp (mulf (broadcastInDim S128x4 ![0, 1] bcast_S128x1_S128x4_0_1 (broadcastInDim S128x1 ![0] bcast_S128_S128x1_0 (subf (broadcastInDim S128 ![] bcast_S_S128 (constant S_ .f32 0x42FE0000#32)) (res_main_while0b_v60 V0)))) (broadcastInDim S128x4 ![0, 1] bcast_S1x4_S128x4_0_1 (broadcastInDim S1x4 ![1] bcast_S4_S1x4_1 (V0 (Proc.devRef .tc main_v25_3))))))))) (res_main_while0b_v59 V0) : (Proc.devRef .tc main_while0b_v113 : DevRef τ sig).ty.Contents (Elt F)) = Cert.ReferenceIdeal.Step.b82 j s := by
  unfold Cert.ReferenceIdeal.Step.b82
  rw [← al_81 h, ← al_17 h]
  try rfl
set_option maxRecDepth 8192 in
theorem al_83 (h : Holds V0 s j) : (addf (mulf (broadcastInDim S8x4x256x512 ![0, 1, 2, 3] bcast_S1x4x1x1_S8x4x256x512_0_1_2_3 (broadcastInDim S1x4x1x1 ![1] bcast_S4_S1x4x1x1_1 (Host.exp (mulf (broadcastInDim S4 ![] bcast_S_S4 (constant S_ .f32 0x43000000#32)) (V0 (Proc.devRef .tc main_v25_3)))))) (V0 (Proc.devRef .tc main_v25_5))) (Host.dotGeneral dot_S8x128x4x256_S8x128x4x512_S8x4x256x512_1_1_3_3_02_02 none (mulf (res_main_while0b_v58 V0) (broadcastInDim S8x128x4x256 ![0, 1, 2, 3] bcast_S1x128x4x1_S8x128x4x256_0_1_2_3 (broadcastInDim S1x128x4x1 ![1, 2] bcast_S128x4_S1x128x4x1_1_2 (Host.exp (mulf (broadcastInDim S128x4 ![0, 1] bcast_S128x1_S128x4_0_1 (broadcastInDim S128x1 ![0] bcast_S128_S128x1_0 (subf (broadcastInDim S128 ![] bcast_S_S128 (constant S_ .f32 0x42FE0000#32)) (res_main_while0b_v60 V0)))) (broadcastInDim S128x4 ![0, 1] bcast_S1x4_S128x4_0_1 (broadcastInDim S1x4 ![1] bcast_S4_S1x4_1 (V0 (Proc.devRef .tc main_v25_3))))))))) (res_main_while0b_v59 V0)) : (Proc.devRef .tc main_while0b_v114 : DevRef τ sig).ty.Contents (Elt F)) = Cert.ReferenceIdeal.Step.b83 j s := by
  unfold Cert.ReferenceIdeal.Step.b83
  rw [← al_78 h, ← al_82 h]
  try rfl
set_option maxRecDepth 8192 in
theorem al_84 (h : Holds V0 s j) : (addf (transpose S8x128x4x512 [0, 3, 1, 2] (Host.dotGeneral dot_S8x128x4x512_S8x4x128x128_S8x4x512x128_1_3_3_2_02_01 none (res_main_while0b_v59 V0) (mulf (Host.dotGeneral dot_S8x128x4x256_S8x128x4x256_S8x4x128x128_3_3_1_1_02_02 none (res_main_while0b_v57 V0) (res_main_while0b_v58 V0)) (broadcastInDim S8x4x128x128 ![0, 1, 2, 3] bcast_S1x4x128x128_S8x4x128x128_0_1_2_3 (broadcastInDim S1x4x128x128 ![1, 2, 3] bcast_S4x128x128_S1x4x128x128_1_2_3 (select (broadcastInDim S4x128x128 ![0, 1, 2] bcast_S1x128x128_S4x128x128_0_1_2 (res_main_while0b_v68 V0)) (Host.exp (mulf (broadcastInDim S4x128x128 ![0, 1, 2] bcast_S1x128x128_S4x128x128_0_1_2 (select (res_main_while0b_v68 V0) (broadcastInDim S1x128x128 ![1, 2] bcast_S128x128_S1x128x128_1_2 (res_main_while0b_v65 V0)) (broadcastInDim S1x128x128 ![] bcast_S_S1x128x128 (id (constant S_ .f32 0x00000000#32))))) (broadcastInDim S4x128x128 ![0, 1, 2] bcast_S4x1x1_S4x128x128_0_1_2 (broadcastInDim S4x1x1 ![0] bcast_S4_S4x1x1_0 (V0 (Proc.devRef .tc main_v25_3)))))) (broadcastInDim S4x128x128 ![] bcast_S_S4x128x128 (id (constant S_ .f32 0x00000000#32)))))))) transposes_S8x4x512x128_S8x128x4x512_0_3_1_2) (mulf (transpose S8x128x4x512 [0, 3, 1, 2] (Host.dotGeneral dot_S8x4x256x512_S8x128x4x256_S8x4x512x128_2_3_3_1_01_02 none (V0 (Proc.devRef .tc main_v25_5)) (res_main_while0b_v57 V0)) transposes_S8x4x512x128_S8x128x4x512_0_3_1_2) (broadcastInDim S8x128x4x512 ![0, 1, 2, 3] bcast_S1x128x4x1_S8x128x4x512_0_1_2_3 (broadcastInDim S1x128x4x1 ![1, 2] bcast_S128x4_S1x128x4x1_1_2 (Host.exp (mulf (broadcastInDim S128x4 ![0, 1] bcast_S128x1_S128x4_0_1 (addf (broadcastInDim S128x1 ![0] bcast_S128_S128x1_0 (res_main_while0b_v60 V0)) (broadcastInDim S128x1 ![] bcast_S_S128x1 (constant S_ .f32 0x3F800000#32)))) (broadcastInDim S128x4 ![0, 1] bcast_S1x4_S128x4_0_1 (broadcastInDim S1x4 ![1] bcast_S4_S1x4_1 (V0 (Proc.devRef .tc main_v25_3))))))))) : (Proc.devRef .tc main_while0b_v115 : DevRef τ sig).ty.Contents (Elt F)) = Cert.ReferenceIdeal.Step.b84 j s := by
  unfold Cert.ReferenceIdeal.Step.b84
  rw [← al_48 h, ← al_62 h]
  try rfl
set_option maxRecDepth 8192 in
theorem al_85 (h : Holds V0 s j) : (broadcastInDim S1x8x128x4x512 ![1, 2, 3, 4] bcast_S8x128x4x512_S1x8x128x4x512_1_2_3_4 (addf (transpose S8x128x4x512 [0, 3, 1, 2] (Host.dotGeneral dot_S8x128x4x512_S8x4x128x128_S8x4x512x128_1_3_3_2_02_01 none (res_main_while0b_v59 V0) (mulf (Host.dotGeneral dot_S8x128x4x256_S8x128x4x256_S8x4x128x128_3_3_1_1_02_02 none (res_main_while0b_v57 V0) (res_main_while0b_v58 V0)) (broadcastInDim S8x4x128x128 ![0, 1, 2, 3] bcast_S1x4x128x128_S8x4x128x128_0_1_2_3 (broadcastInDim S1x4x128x128 ![1, 2, 3] bcast_S4x128x128_S1x4x128x128_1_2_3 (select (broadcastInDim S4x128x128 ![0, 1, 2] bcast_S1x128x128_S4x128x128_0_1_2 (res_main_while0b_v68 V0)) (Host.exp (mulf (broadcastInDim S4x128x128 ![0, 1, 2] bcast_S1x128x128_S4x128x128_0_1_2 (select (res_main_while0b_v68 V0) (broadcastInDim S1x128x128 ![1, 2] bcast_S128x128_S1x128x128_1_2 (res_main_while0b_v65 V0)) (broadcastInDim S1x128x128 ![] bcast_S_S1x128x128 (id (constant S_ .f32 0x00000000#32))))) (broadcastInDim S4x128x128 ![0, 1, 2] bcast_S4x1x1_S4x128x128_0_1_2 (broadcastInDim S4x1x1 ![0] bcast_S4_S4x1x1_0 (V0 (Proc.devRef .tc main_v25_3)))))) (broadcastInDim S4x128x128 ![] bcast_S_S4x128x128 (id (constant S_ .f32 0x00000000#32)))))))) transposes_S8x4x512x128_S8x128x4x512_0_3_1_2) (mulf (transpose S8x128x4x512 [0, 3, 1, 2] (Host.dotGeneral dot_S8x4x256x512_S8x128x4x256_S8x4x512x128_2_3_3_1_01_02 none (V0 (Proc.devRef .tc main_v25_5)) (res_main_while0b_v57 V0)) transposes_S8x4x512x128_S8x128x4x512_0_3_1_2) (broadcastInDim S8x128x4x512 ![0, 1, 2, 3] bcast_S1x128x4x1_S8x128x4x512_0_1_2_3 (broadcastInDim S1x128x4x1 ![1, 2] bcast_S128x4_S1x128x4x1_1_2 (Host.exp (mulf (broadcastInDim S128x4 ![0, 1] bcast_S128x1_S128x4_0_1 (addf (broadcastInDim S128x1 ![0] bcast_S128_S128x1_0 (res_main_while0b_v60 V0)) (broadcastInDim S128x1 ![] bcast_S_S128x1 (constant S_ .f32 0x3F800000#32)))) (broadcastInDim S128x4 ![0, 1] bcast_S1x4_S128x4_0_1 (broadcastInDim S1x4 ![1] bcast_S4_S1x4_1 (V0 (Proc.devRef .tc main_v25_3)))))))))) : (Proc.devRef .tc main_while0b_call5_v0 : DevRef τ sig).ty.Contents (Elt F)) = Cert.ReferenceIdeal.Step.b85 j s := by
  unfold Cert.ReferenceIdeal.Step.b85
  rw [← al_84 h]
  try rfl
set_option maxRecDepth 8192 in
theorem al_86 (h : Holds V0 s j) : (constantI S_ 32 0#32 : (Proc.devRef .tc main_while0b_call5_c : DevRef τ sig).ty.Contents (Elt F)) = Cert.ReferenceIdeal.Step.b86 j s := by
  unfold Cert.ReferenceIdeal.Step.b86
  rfl
set_option maxRecDepth 8192 in
theorem al_87 (h : Holds V0 s j) : (constantI S_ 32 0#32 : (Proc.devRef .tc main_while0b_call5_c_0 : DevRef τ sig).ty.Contents (Elt F)) = Cert.ReferenceIdeal.Step.b87 j s := by
  unfold Cert.ReferenceIdeal.Step.b87
  rfl
set_option maxRecDepth 8192 in
theorem al_88 (h : Holds V0 s j) : (constantI S_ 32 0#32 : (Proc.devRef .tc main_while0b_call5_c_1 : DevRef τ sig).ty.Contents (Elt F)) = Cert.ReferenceIdeal.Step.b88 j s := by
  unfold Cert.ReferenceIdeal.Step.b88
  rfl
set_option maxRecDepth 8192 in
theorem al_89 (h : Holds V0 s j) : (constantI S_ 32 0#32 : (Proc.devRef .tc main_while0b_call5_c_2 : DevRef τ sig).ty.Contents (Elt F)) = Cert.ReferenceIdeal.Step.b89 j s := by
  unfold Cert.ReferenceIdeal.Step.b89
  rfl
set_option maxRecDepth 8192 in
theorem al_90 (h : Holds V0 s j) : (Host.dynamicUpdateSlice (V0 (Proc.devRef .tc main_v25_6)) (broadcastInDim S1x8x128x4x512 ![1, 2, 3, 4] bcast_S8x128x4x512_S1x8x128x4x512_1_2_3_4 (addf (transpose S8x128x4x512 [0, 3, 1, 2] (Host.dotGeneral dot_S8x128x4x512_S8x4x128x128_S8x4x512x128_1_3_3_2_02_01 none (res_main_while0b_v59 V0) (mulf (Host.dotGeneral dot_S8x128x4x256_S8x128x4x256_S8x4x128x128_3_3_1_1_02_02 none (res_main_while0b_v57 V0) (res_main_while0b_v58 V0)) (broadcastInDim S8x4x128x128 ![0, 1, 2, 3] bcast_S1x4x128x128_S8x4x128x128_0_1_2_3 (broadcastInDim S1x4x128x128 ![1, 2, 3] bcast_S4x128x128_S1x4x128x128_1_2_3 (select (broadcastInDim S4x128x128 ![0, 1, 2] bcast_S1x128x128_S4x128x128_0_1_2 (res_main_while0b_v68 V0)) (Host.exp (mulf (broadcastInDim S4x128x128 ![0, 1, 2] bcast_S1x128x128_S4x128x128_0_1_2 (select (res_main_while0b_v68 V0) (broadcastInDim S1x128x128 ![1, 2] bcast_S128x128_S1x128x128_1_2 (res_main_while0b_v65 V0)) (broadcastInDim S1x128x128 ![] bcast_S_S1x128x128 (id (constant S_ .f32 0x00000000#32))))) (broadcastInDim S4x128x128 ![0, 1, 2] bcast_S4x1x1_S4x128x128_0_1_2 (broadcastInDim S4x1x1 ![0] bcast_S4_S4x1x1_0 (V0 (Proc.devRef .tc main_v25_3)))))) (broadcastInDim S4x128x128 ![] bcast_S_S4x128x128 (id (constant S_ .f32 0x00000000#32)))))))) transposes_S8x4x512x128_S8x128x4x512_0_3_1_2) (mulf (transpose S8x128x4x512 [0, 3, 1, 2] (Host.dotGeneral dot_S8x4x256x512_S8x128x4x256_S8x4x512x128_2_3_3_1_01_02 none (V0 (Proc.devRef .tc main_v25_5)) (res_main_while0b_v57 V0)) transposes_S8x4x512x128_S8x128x4x512_0_3_1_2) (broadcastInDim S8x128x4x512 ![0, 1, 2, 3] bcast_S1x128x4x1_S8x128x4x512_0_1_2_3 (broadcastInDim S1x128x4x1 ![1, 2] bcast_S128x4_S1x128x4x1_1_2 (Host.exp (mulf (broadcastInDim S128x4 ![0, 1] bcast_S128x1_S128x4_0_1 (addf (broadcastInDim S128x1 ![0] bcast_S128_S128x1_0 (res_main_while0b_v60 V0)) (broadcastInDim S128x1 ![] bcast_S_S128x1 (constant S_ .f32 0x3F800000#32)))) (broadcastInDim S128x4 ![0, 1] bcast_S1x4_S128x4_0_1 (broadcastInDim S1x4 ![1] bcast_S4_S1x4_1 (V0 (Proc.devRef .tc main_v25_3))))))))))) (fun k => (((![V0 (Proc.devRef .tc main_v25_4), constantI S_ 32 0#32, constantI S_ 32 0#32, constantI S_ 32 0#32, constantI S_ 32 0#32] : Fin 5 → (⟨S_, .i32⟩ : BufTy).Contents (Elt F))) k (Shape.Idx.first h_S_)).toInt) updateFits_S16x8x128x4x512_S1x8x128x4x512 : (Proc.devRef .tc main_while0b_v116 : DevRef τ sig).ty.Contents (Elt F)) = Cert.ReferenceIdeal.Step.b90 j s := by
  unfold Cert.ReferenceIdeal.Step.b90
  rw [← al_85 h, ← al_86 h, ← al_87 h, ← al_88 h, ← al_89 h, h.f_6, h.n_4]
  try rfl

/-! One trip's step of the carried values is `step`, field by field; a counter steps to the next number. -/

theorem step_5 (h : Holds V0 s j) : step_main_v25_5 V0 = (step j s).main_v25_5 := by
  unfold step_main_v25_5 Cert.ReferenceIdeal.Step.step
  show id (addf (mulf (broadcastInDim S8x4x256x512 ![0, 1, 2, 3] bcast_S1x4x1x1_S8x4x256x512_0_1_2_3 (broadcastInDim S1x4x1x1 ![1] bcast_S4_S1x4x1x1_1 (Host.exp (mulf (broadcastInDim S4 ![] bcast_S_S4 (constant S_ .f32 0x43000000#32)) (V0 (Proc.devRef .tc main_v25_3)))))) (V0 (Proc.devRef .tc main_v25_5))) (Host.dotGeneral dot_S8x128x4x256_S8x128x4x512_S8x4x256x512_1_1_3_3_02_02 none (mulf (res_main_while0b_v58 V0) (broadcastInDim S8x128x4x256 ![0, 1, 2, 3] bcast_S1x128x4x1_S8x128x4x256_0_1_2_3 (broadcastInDim S1x128x4x1 ![1, 2] bcast_S128x4_S1x128x4x1_1_2 (Host.exp (mulf (broadcastInDim S128x4 ![0, 1] bcast_S128x1_S128x4_0_1 (broadcastInDim S128x1 ![0] bcast_S128_S128x1_0 (subf (broadcastInDim S128 ![] bcast_S_S128 (constant S_ .f32 0x42FE0000#32)) (res_main_while0b_v60 V0)))) (broadcastInDim S128x4 ![0, 1] bcast_S1x4_S128x4_0_1 (broadcastInDim S1x4 ![1] bcast_S4_S1x4_1 (V0 (Proc.devRef .tc main_v25_3))))))))) (res_main_while0b_v59 V0))) = _
  rw [al_83 h]
  try rfl
theorem step_6 (h : Holds V0 s j) : step_main_v25_6 V0 = (step j s).main_v25_6 :=
  (show step_main_v25_6 V0 = Cert.ReferenceIdeal.Step.b90 j s from al_90 h)
theorem step_4 (h : Holds V0 s j) : step_main_v25_4 V0 = constantI S_ 32 (BitVec.ofNat 32 (j + 1)) := by
  unfold step_main_v25_4
  rw [h.n_4]
  funext i
  show BitVec.ofNat 32 j + 1#32 = BitVec.ofNat 32 (j + 1)
  simp only [BitVec.ofNat_add]

set_option maxRecDepth 8192 in
theorem out_main_v56_holds (h : Holds V0 s j) {x_main_arg1 : (⟨S16384x7168, .bf16⟩ : BufTy).Contents (Elt F)} (h_main_arg1 : V0 (Proc.devRef .tc main_arg1) = x_main_arg1) {x_main_arg2 : (⟨S1x2048, .f32⟩ : BufTy).Contents (Elt F)} (h_main_arg2 : V0 (Proc.devRef .tc main_arg2) = x_main_arg2) : out_main_v56 V0 = Cert.ReferenceIdeal.Step.R_main_v56 s x_main_arg1 x_main_arg2 := by
  unfold out_main_v56 Cert.ReferenceIdeal.Step.R_main_v56
  rw [h.f_6, h_main_arg1, h_main_arg2]
  try rfl

/-- One trip keeps the valuation holding: `step` of the state, the same set-up values, the next number. -/
theorem holds_step (h : Holds V0 s j) : Holds (STEP V0) (step j s) (j + 1) where
  f_5 := (STEP_main_v25_5 V0).trans (step_5 h)
  f_6 := (STEP_main_v25_6 V0).trans (step_6 h)
  n_4 := (STEP_main_v25_4 V0).trans (step_4 h)
  k_3 := (STEP_main_v25_3 V0).trans h.k_3
  f_0 := (STEP_main_v25_0 V0).trans h.f_0
  f_1 := (STEP_main_v25_1 V0).trans h.f_1
  f_2 := (STEP_main_v25_2 V0).trans h.f_2

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1))

variable (m : (ℓ : Loc nD τ sig) → Buf (Elt F) ℓ) (c : Dev nD)

set_option maxRecDepth 65536 in
set_option maxHeartbeats 300000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 16 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v56) = Cert.ReferenceIdeal.Step.R_main_v56 (it c 16) (m ((c.tc : Thread nD τ).loc main_arg1)) (m ((c.tc : Thread nD τ).loc main_arg2))
      ∧ r.2.mem ((c.tc : Thread nD τ).loc main_v25_5) = (it c 16).main_v25_5
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    have hk := holds_iter m c (it c) (h0 c) (hs c) 16
    ⟨(h c).1.trans (out_main_v56_holds hk (iter_main_arg1 m c 16) (iter_main_arg2 m c 16)), (h c).2.1.trans hk.f_5, (h c).2.2.1, (h c).2.2.2.1, (h c).2.2.2.2⟩) (Value.run m ρ)

end Cert.ReferenceIdeal.RetRun

end
-- ==== Proof.Alg.lean ====
module

public import proofs.«01_k».proof.Defs
public import proofs.«01_k».proof.Proof.RetKer
public import proofs.«01_k».proof.Proof.RetRef
public import proofs.«01_k».proof.Proof.RefRun
public import Idealize.ShloMosaic.Lib.Quiescent

@[expose] public section

set_option maxRecDepth 16384

noncomputable section

namespace Cert.RetAlg

open Idealize.ShloMosaic Idealize.ShloMosaic.TcCoe Idealize.SL.Sem
open Cert.RetModel

/-- The reference's first result, the loop run, is the model's. -/
theorem ref_act (x : (⟨ReferenceIdeal.S16384x2048, .bf16⟩ : BufTy).Contents (Elt Ideal)) (y : (⟨ReferenceIdeal.S16384x7168, .bf16⟩ : BufTy).Contents (Elt Ideal))
    (w : (⟨ReferenceIdeal.S1x2048, .f32⟩ : BufTy).Contents (Elt Ideal)) (i : ReferenceIdeal.S16384x2048.Idx) :
    (ReferenceIdeal.Step.R_main_v56 (ReferenceIdeal.Ret.refIter x y 16) y w i : EReal)
      = KernelIdeal.Ret.outV0 (ReferenceIdeal.Ret.fx x) (ReferenceIdeal.Ret.fy y) (ReferenceIdeal.Ret.fw w) (i 0) (i 1) := by
  have h0 : (i 0).val < 16384 := (i 0).isLt
  have h1 : (i 1).val < 2048 := (i 1).isLt
  have hi : i = ix2 (i 0) (i 1) := by
    funext a
    match a with
    | 0 => rfl
    | 1 => rfl
  refine (congrArg (ReferenceIdeal.Step.R_main_v56 (ReferenceIdeal.Ret.refIter x y 16) y w) hi).trans ?_
  refine (ReferenceIdeal.Ret.R_at y w (ReferenceIdeal.Ret.refIter x y 16)
    (fun n b r h e => ret (ReferenceIdeal.Ret.fx x) (ReferenceIdeal.Ret.fy y) b h n (st (ReferenceIdeal.Ret.fx x) (ReferenceIdeal.Ret.fy y) b h n.val) r e)
    (fun n b r h e => ReferenceIdeal.Ret.outs_at x y 16 (le_refl _) n n.isLt b r h e) (i 0) (i 1)).trans ?_
  unfold KernelIdeal.Ret.outV0 act
  have e1 : (⟨(i 0).val % 2048 % 128, by omega⟩ : Fin 128) = ⟨(i 0).val % 128, by omega⟩ := Fin.ext (by dsimp only; omega)
  have e2 : row ⟨(i 0).val / 2048, by omega⟩ ⟨(i 0).val % 2048 / 128, by omega⟩ ⟨(i 0).val % 128, by omega⟩ = i 0 :=
    Fin.ext (by show 2048 * ((i 0).val / 2048) + 128 * ((i 0).val % 2048 / 128) + (i 0).val % 128 = (i 0).val; omega)
  have e3 : colO ⟨(i 1).val / 512, by omega⟩ ⟨(i 1).val % 512, by omega⟩ = i 1 :=
    Fin.ext (by show 512 * ((i 1).val / 512) + (i 1).val % 512 = (i 1).val; omega)
  have e4 : colG ⟨(i 1).val / 512, by omega⟩ ⟨(i 1).val % 512, by omega⟩ = ⟨2048 + (i 1).val, by omega⟩ :=
    Fin.ext (by show 2048 + 512 * ((i 1).val / 512) + (i 1).val % 512 = 2048 + (i 1).val; omega)
  rw [e1, e2, e3, e4]

/-- The reference's second result, the state after the last chunk, is the model's. -/
theorem ref_state (x : (⟨ReferenceIdeal.S16384x2048, .bf16⟩ : BufTy).Contents (Elt Ideal)) (y : (⟨ReferenceIdeal.S16384x7168, .bf16⟩ : BufTy).Contents (Elt Ideal))
    (i : ReferenceIdeal.S8x4x256x512.Idx) :
    ((ReferenceIdeal.Ret.refIter x y 16).main_v25_5 i : EReal) = st (ReferenceIdeal.Ret.fx x) (ReferenceIdeal.Ret.fy y) (i 0) (i 1) 16 (i 2) (i 3) := by
  have hi : i = ix4 (i 0) (i 1) (i 2) (i 3) := by
    funext a
    match a with
    | 0 => rfl
    | 1 => rfl
    | 2 => rfl
    | 3 => rfl
  exact (congrArg (ReferenceIdeal.Ret.refIter x y 16).main_v25_5 hi).trans (ReferenceIdeal.Ret.state_at x y 16 (le_refl _) _ _ _ _)

/-- The reference runs to the end and leaves its arguments. -/
theorem ref_frame : Cert.quiescent_ReferenceIdeal (hReferenceIdeal := Cert.ReferenceIdeal.Gen.facts) := fun m ρ _ =>
  (θ_run Cert.ReferenceIdeal.defs _ _).mono (fun r h => ⟨fun c => (h c).2.2, Idealize.ShloMosaic.sem_eq_zero_of_no_sems (by decide) r.2⟩)
    (Cert.ReferenceIdeal.RetRun.run_iter (F := Ideal) m ρ (fun c => ReferenceIdeal.Ret.refIter _ _) (fun c => rfl) (fun c n => rfl))

/-- Over the extended reals the kernel's two results are the reference's. -/
theorem algebraic : Cert.algebraic_KernelIdeal_ReferenceIdeal (hKernelIdeal := Cert.KernelIdeal.Gen.facts) (hReferenceIdeal := Cert.ReferenceIdeal.Gen.facts) := by
  intro m ρ m' ρ' _ hagree
  refine ⟨fun c => (KernelIdeal.Ret.dats m 0 c).arrAt 9 Cert.KernelIdeal.cfg0.N, fun c => (KernelIdeal.Ret.dats m 0 c).arrAt 10 Cert.KernelIdeal.cfg0.N, ?_, ?_⟩
  · exact (θ_run Cert.KernelIdeal.defs _ _).mono (fun r h c => ⟨(h.1 c).1 9, (h.1 c).1 10, h.2 c⟩)
      (θ_run_and (KernelIdeal.Ret.run_main (F := Ideal) m ρ) (KernelIdeal.Ret.unchanged (F := Ideal) m ρ))
  · refine (θ_run Cert.ReferenceIdeal.defs _ _).mono (fun r h c => ⟨(h c).1.trans ?_, (h c).2.1.trans ?_, (h c).2.2⟩)
      (Cert.ReferenceIdeal.RetRun.run_iter (F := Ideal) m' ρ' (fun c => ReferenceIdeal.Ret.refIter _ _) (fun c => rfl) (fun c n => rfl))
    · refine Eq.trans ?_ (KernelIdeal.Ret.arr_act m c).symm
      funext i
      refine (ref_act _ _ _ i).trans ?_
      rw [(hagree c).1, (hagree c).2.1, (hagree c).2.2]
    · refine Eq.trans ?_ (KernelIdeal.Ret.arr_state m c).symm
      funext i
      refine (ref_state _ _ i).trans ?_
      rw [(hagree c).1, (hagree c).2.1]

end Cert.RetAlg

end
-- ==== Proof.ProjKer.lean ====
module

public import proofs.«01_k».proof.Proof.Gen.Kernel3Ideal.Frame
public import Idealize.ShloMosaic.Lib.StableHlo.ReadAt
public import Idealize.ShloMosaic.Lib.Pipeline.Value
public import Idealize.ShloMosaic.Lib.Pointwise
public import Idealize.ShloMosaic.Lib.Pipeline.ValueKit.Geometry

@[expose] public section

set_option maxRecDepth 16384

noncomputable section

namespace Cert.Kernel3Ideal.Proj

open Idealize.ShloMosaic Idealize.ShloMosaic.TcCoe Idealize.SL.Sem
open Cert.Kernel3Ideal.Gen

/-- Entry `(i, j)` of the product of `X` with the leading columns of `W`. -/
def prod (X : Fin 16384 → Fin 1024 → EReal) (W : Fin 1024 → Fin 10240 → EReal) (i : Fin 16384) (j : Fin 7168) : EReal :=
  ∑ k : Fin 1024, X i k * W k ⟨j.val, by omega⟩

variable (m : (ℓ : Loc nD τ sig) → Buf (Elt Ideal) ℓ)

/-- The product of a point's two blocks, entry by entry. -/
theorem pay_at (x0 : Vec Ideal S1024x1024 .bf16) (x1 : Vec Ideal S1024x1792 .bf16) (r : Fin 1024) (e : Fin 1792) :
    (k0_pay1 x0 x1 (ix2 r e) : EReal) = ∑ k : Fin 1024, x0 (ix2 r k) * x1 (ix2 k e) := by
  pointwise [k0_pay1]

theorem zeros : (![0, 0] : Fin 2 → ℕ) = fun _ => 0 := by decide

theorem outs_eq (c : Dev nD) (t : Fin cfg0.N) : outsAt0 m c t = k0_pay1 (iblk m c 0 t) (X0_1 m c t) := by
  unfold outsAt0 out0_A_2 kernelRun0_A
  simp only [View.readAt_eq_ld, Memref.IsWhole.read_unread]
  rw [View.read_writes_junk_eq_canon]
  refine (View.canon_unit_zero zeros _ _).trans ?_
  exact congrArg₂ (k0_pay1 (F := Ideal)) (View.ld_unit_zero zeros _ _) (View.ld_unit_zero zeros _ _)

/-- Grid point `t`'s tile of rows. -/
abbrev gi (t : Fin cfg0.N) : Fin 16 := cfg0.grid.coords t 0
/-- Grid point `t`'s tile of columns. -/
abbrev gj (t : Fin cfg0.N) : Fin 4 := cfg0.grid.coords t 1

theorem idx_0 (t : Fin cfg0.N) : (cfg0.win 0).index t = ![(gi t).val, 0] := by revert t; decide +kernel
theorem idx_1 (t : Fin cfg0.N) : (cfg0.win 1).index t = ![0, (gj t).val] := by revert t; decide +kernel
theorem idx_2 (t : Fin cfg0.N) : (cfg0.win 2).index t = ![(gi t).val, (gj t).val] := by revert t; decide +kernel

theorem iblk_x (c : Dev nD) (t : Fin cfg0.N) (r k : Fin 1024) :
    iblk m c 0 t (ix2 r k) = m ((c.tc : Thread nD τ).loc main_arg0) (ix2 (⟨1024 * (gi t).val + r.val, by omega⟩ : Fin 16384) k) := by
  rw [← V_main_arg0 m c]
  blk_ext [iblk, idx_0 t]

theorem X_w (c : Dev nD) (t : Fin cfg0.N) (k : Fin 1024) (e : Fin 1792) :
    X0_1 m c t (ix2 k e) = m ((c.tc : Thread nD τ).loc main_arg1) (ix2 k (⟨1792 * (gj t).val + e.val, by omega⟩ : Fin 10240)) := by
  rw [← V_main_arg1 m c]
  unfold X0_1 Pipeline.Window.fill
  rw [dif_pos (moved0_1 t _)]
  blk_ext [iblk, idx_1 t]

theorem out_at (c : Dev nD) (t : Fin cfg0.N) (y : S1024x1792.Idx) :
    (outsAt0 m c t y : EReal) = prod (fun i j => m ((c.tc : Thread nD τ).loc main_arg0) (ix2 i j)) (fun i j => m ((c.tc : Thread nD τ).loc main_arg1) (ix2 i j))
      ⟨1024 * (gi t).val + (y 0).val, by have h1 := (gi t).isLt; have h2 : (y 0).val < 1024 := (y 0).isLt; omega⟩
      ⟨1792 * (gj t).val + (y 1).val, by have h1 := (gj t).isLt; have h2 : (y 1).val < 1792 := (y 1).isLt; omega⟩ := by
  have hy : y = ix2 (y 0) (y 1) := by
    funext a
    match a with
    | 0 => rfl
    | 1 => rfl
  rw [outs_eq]
  refine Eq.trans (congrArg (k0_pay1 (iblk m c 0 t) (X0_1 m c t)) hy) ((pay_at _ _ (y 0) (y 1)).trans ?_)
  exact Finset.sum_congr rfl fun k _ => congrArg₂ (· * ·) (iblk_x m c t (y 0) k) (X_w m c t k (y 1))

theorem arr_out (c : Dev nD) : (dats m 0 c).arrAt 2 cfg0.N = fun y => prod (fun i j => m ((c.tc : Thread nD τ).loc main_arg0) (ix2 i j)) (fun i j => m ((c.tc : Thread nD τ).loc main_arg1) (ix2 i j)) (y 0) (y 1) := by
  refine (dats m 0 c).arrAt_eq_of_covers 2 _ (by decide +kernel) fun t hf y => ?_
  blk_simp
  rw [after0_2]
  refine (out_at m c t y).trans (congrArg₂ (prod _ _) (Fin.ext ?_) (Fin.ext ?_))
  · blk_simp [idx_2 t]
    show 1024 * (gi t).val + (y 0).val = (gi t).val * 1024 + (y 0).val
    omega
  · blk_simp [idx_2 t]
    show 1792 * (gj t).val + (y 1).val = (gj t).val * 1792 + (y 1).val
    omega

end Cert.Kernel3Ideal.Proj

end
-- ==== Proof.ProjAlg.lean ====
module

public import proofs.«01_k».proof.Defs
public import proofs.«01_k».proof.Proof.ProjKer
public import proofs.«01_k».proof.Proof.Gen.Reference3Ideal.Run
public import Idealize.ShloMosaic.Lib.Quiescent

@[expose] public section

set_option maxRecDepth 16384

noncomputable section

namespace Cert.ProjAlg

open Idealize.ShloMosaic Idealize.ShloMosaic.TcCoe Idealize.SL.Sem
open Cert.Reference3Ideal Cert.Reference3Ideal.Gen

/-- The reference's result. -/
def refOut (x : FVec Ideal S16384x1024 .bf16) (w : FVec Ideal S1024x10240 .bf16) : FVec Ideal S16384x7168 .bf16 :=
  truncf .bf16 (Host.dotGeneral dot_S16384x1024_S1024x7168_S16384x7168_1_0_0_1_n_n none (extf .f32 x bitsLt_bf16_f32) (extf .f32 (extractStridedSlice S1024x7168 ![0, 0] w slices_S1024x10240_S1024x7168_0_0) bitsLt_bf16_f32)) bitsLt_bf16_f32

/-- Read entry by entry. -/
theorem ref_at (x : FVec Ideal S16384x1024 .bf16) (w : FVec Ideal S1024x10240 .bf16) (i : Fin 16384) (j : Fin 7168) :
    (refOut x w (ix2 i j) : EReal) = Kernel3Ideal.Proj.prod (fun i j => x (ix2 i j)) (fun i j => w (ix2 i j)) i j := by
  pointwise [refOut]
  rfl

theorem ref_frame : Cert.quiescent_Reference3Ideal (hReference3Ideal := Cert.Reference3Ideal.Gen.facts) := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

/-- Over the extended reals the product kernel's result is the reference's. -/
theorem algebraic : Cert.algebraic_Kernel3Ideal_Reference3Ideal (hKernel3Ideal := Cert.Kernel3Ideal.Gen.facts) (hReference3Ideal := Cert.Reference3Ideal.Gen.facts) := by
  intro m ρ m' ρ' _ hagree
  refine ⟨fun c => (Kernel3Ideal.Gen.dats m 0 c).arrAt 2 Cert.Kernel3Ideal.cfg0.N, ?_, ?_⟩
  · exact (θ_run Cert.Kernel3Ideal.defs _ _).mono (fun r h c => ⟨(h.1 c).1 2, h.2 c⟩)
      (θ_run_and (Kernel3Ideal.Gen.run_main (F := Ideal) m ρ) (Kernel3Ideal.Gen.unchanged (F := Ideal) m ρ))
  · refine (θ_run Cert.Reference3Ideal.defs _ _).mono (fun r h c => ⟨(h c).1.trans ?_, (h c).2⟩)
      (Cert.Reference3Ideal.Value.run (F := Ideal) m' ρ')
    refine Eq.trans ?_ (Kernel3Ideal.Proj.arr_out m c).symm
    funext i
    have hi : i = ix2 (i 0) (i 1) := by
      funext a
      match a with
      | 0 => rfl
      | 1 => rfl
    rw [(hagree c).1, (hagree c).2]
    exact (congrArg (refOut _ _) hi).trans (ref_at _ _ (i 0) (i 1))

end Cert.ProjAlg

end
-- ==== Proof.FinModel.lean ====
module

public import Idealize.ShloMosaic.Lib.Pointwise

@[expose] public section

noncomputable section

namespace Cert.FinModel

open Idealize.ShloMosaic

/-- A row of the layer's finish: its own entries and those of the two branches, the gates and the embedding. -/
structure Row where
  x : Fin 1024 → EReal
  ar : Fin 2048 → EReal
  am : Fin 1024 → EReal
  ga : Fin 1024 → EReal
  gb : Fin 1024 → EReal
  p : Fin 256 → EReal

/-- The weights. -/
structure Wts where
  wr : Fin 2048 → Fin 1024 → EReal
  wm : Fin 1024 → Fin 1024 → EReal
  wo : Fin 1024 → Fin 1024 → EReal
  wg : Fin 1024 → Fin 1024 → EReal
  wp : Fin 256 → Fin 1024 → EReal
  f : Fin 1024 → EReal

/-- The row after the merged branches are added. -/
def mid (R : Row) (W : Wts) (e : Fin 1024) : EReal :=
  R.x e + ∑ k : Fin 1024, (Ideal.logistic (R.ga k) * (∑ j : Fin 2048, R.ar j * W.wr j k) + Ideal.logistic (R.gb k) * (∑ j : Fin 1024, R.am j * W.wm j k)) * W.wo k e

/-- The row after the embedding term is added. -/
def full (R : Row) (W : Wts) (e : Fin 1024) : EReal :=
  mid R W e + Ideal.logistic (∑ k : Fin 1024, mid R W k * W.wg k e) * (∑ k : Fin 256, R.p k * W.wp k e)

/-- A row divided by its root mean square, times the weight. -/
def rms (y f : Fin 1024 → EReal) (e : Fin 1024) : EReal :=
  y e * Ideal.rsqrt (Ideal.div (∑ k : Fin 1024, y k * y k) (Ideal.ofBits FTy.f32 1149239296#32) + Ideal.ofBits FTy.f32 897988541#32) * f e

/-- The finished row. -/
def fin (R : Row) (W : Wts) (e : Fin 1024) : EReal := rms (full R W) W.f e

end Cert.FinModel

end
-- ==== Proof.FinKer.lean ====
module

public import proofs.«01_k».proof.Proof.FinModel
public import proofs.«01_k».proof.Proof.Gen.Kernel4Ideal.Frame
public import Idealize.ShloMosaic.Lib.StableHlo.ReadAt
public import Idealize.ShloMosaic.Lib.Pipeline.Value
public import Idealize.ShloMosaic.Lib.Pipeline.ValueKit.Geometry

@[expose] public section

set_option maxRecDepth 16384

noncomputable section

namespace Cert.Kernel4Ideal.Fnl

open Idealize.ShloMosaic Idealize.ShloMosaic.TcCoe Idealize.SL.Sem
open Cert.Kernel4Ideal.Gen Cert.FinModel

/-- Row `r` of a point's blocks. -/
def brow (x0 : Vec Ideal S512x1024 .f32) (x1 : Vec Ideal S512x2048 .bf16) (x2 x3 x4 : Vec Ideal S512x1024 .bf16) (x5 : Vec Ideal S512x256 .f32) (r : Fin 512) : Row :=
  ⟨fun k => x0 (ix2 r k), fun k => x1 (ix2 r k), fun k => x2 (ix2 r k), fun k => x3 (ix2 r k), fun k => x4 (ix2 r k), fun k => x5 (ix2 r k)⟩

/-- The weights as a point reads them. -/
def bwts (x6 : Vec Ideal S2048x1024 .bf16) (x7 x8 x9 : Vec Ideal S1024x1024 .bf16) (x10 : Vec Ideal S256x1024 .bf16) (x11 : Vec Ideal S1x1024 .f32) : Wts :=
  ⟨fun j k => x6 (ix2 j k), fun j k => x7 (ix2 j k), fun j k => x8 (ix2 j k), fun j k => x9 (ix2 j k), fun j k => x10 (ix2 j k), fun k => x11 (ix2 0 k)⟩

theorem pay2_at (x0 : Vec Ideal S512x1024 .f32) (x1 : Vec Ideal S512x2048 .bf16) (x2 x3 x4 : Vec Ideal S512x1024 .bf16) (x5 : Vec Ideal S512x256 .f32)
    (x6 : Vec Ideal S2048x1024 .bf16) (x7 x8 x9 : Vec Ideal S1024x1024 .bf16) (x10 : Vec Ideal S256x1024 .bf16) (x11 : Vec Ideal S1x1024 .f32) (r : Fin 512) (e : Fin 1024) :
    (k0_pay2 x1 x6 x2 x7 x3 x4 x0 x8 x9 x5 x10 (ix2 r e) : EReal) = full (brow x0 x1 x2 x3 x4 x5 r) (bwts x6 x7 x8 x9 x10 x11) e := by
  pointwise [k0_pay2]
  rfl

theorem pay1_at (v : Vec Ideal S512x1024 .f32) (x : Vec Ideal S1x1024 .f32) (r : Fin 512) (e : Fin 1024) :
    (k0_pay1 v x (ix2 r e) : EReal) = rms (fun k => v (ix2 r k)) (fun k => x (ix2 0 k)) e := by
  pointwise [k0_pay1]
  rfl

theorem zeros : (![0, 0] : Fin 2 → ℕ) = fun _ => 0 := by decide

theorem out_at (x0 : Vec Ideal S512x1024 .f32) (x1 : Vec Ideal S512x2048 .bf16) (x2 x3 x4 : Vec Ideal S512x1024 .bf16) (x5 : Vec Ideal S512x256 .f32)
    (x6 : Vec Ideal S2048x1024 .bf16) (x7 x8 x9 : Vec Ideal S1024x1024 .bf16) (x10 : Vec Ideal S256x1024 .bf16) (x11 : Vec Ideal S1x1024 .f32) (r : Fin 512) (e : Fin 1024) :
    (out0_12 x0 x1 x2 x3 x4 x5 x6 x7 x8 x9 x10 x11 (ix2 r e) : EReal) = fin (brow x0 x1 x2 x3 x4 x5 r) (bwts x6 x7 x8 x9 x10 x11) e := by
  unfold out0_12
  rw [View.canon_unit_zero zeros]
  repeat rw [View.ld_unit_zero zeros]
  rw [pay1_at]
  unfold fin
  exact congrArg (fun y => rms y _ e) (funext fun k => pay2_at x0 x1 x2 x3 x4 x5 x6 x7 x8 x9 x10 x11 r k)

variable (m : (ℓ : Loc nD τ sig) → Buf (Elt Ideal) ℓ)

/-- Row `i` of the arguments. -/
def arow (c : Dev nD) (i : Fin 16384) : Row :=
  ⟨fun k => m ((c.tc : Thread nD τ).loc main_arg0) (ix2 i k), fun k => m ((c.tc : Thread nD τ).loc main_arg1) (ix2 i k), fun k => m ((c.tc : Thread nD τ).loc main_arg2) (ix2 i k), fun k => m ((c.tc : Thread nD τ).loc main_arg3) (ix2 i (⟨5120 + k.val, by omega⟩ : Fin 7168)), fun k => m ((c.tc : Thread nD τ).loc main_arg3) (ix2 i (⟨6144 + k.val, by omega⟩ : Fin 7168)), fun k => m ((c.tc : Thread nD τ).loc main_arg4) (ix2 i k)⟩

/-- The weights among the arguments. -/
def awts (c : Dev nD) : Wts :=
  ⟨fun j k => m ((c.tc : Thread nD τ).loc main_arg5) (ix2 j k), fun j k => m ((c.tc : Thread nD τ).loc main_arg6) (ix2 j k), fun j k => m ((c.tc : Thread nD τ).loc main_arg7) (ix2 j k), fun j k => m ((c.tc : Thread nD τ).loc main_arg8) (ix2 j k), fun j k => m ((c.tc : Thread nD τ).loc main_arg9) (ix2 j k), fun k => m ((c.tc : Thread nD τ).loc main_arg10) (ix2 0 k)⟩

/-- Row `r` of grid point `t`, in the array. -/
def gr (t : Fin cfg0.N) (r : Fin 512) : Fin 16384 := ⟨512 * t.val + r.val, by have : t.val < 32 := t.isLt; omega⟩

theorem idx_0 (t : Fin cfg0.N) : (cfg0.win 0).index t = ![t.val, 0] := by revert t; decide +kernel
theorem idx_1 (t : Fin cfg0.N) : (cfg0.win 1).index t = ![t.val, 0] := by revert t; decide +kernel
theorem idx_2 (t : Fin cfg0.N) : (cfg0.win 2).index t = ![t.val, 0] := by revert t; decide +kernel
theorem idx_3 (t : Fin cfg0.N) : (cfg0.win 3).index t = ![t.val, 5] := by revert t; decide +kernel
theorem idx_4 (t : Fin cfg0.N) : (cfg0.win 4).index t = ![t.val, 6] := by revert t; decide +kernel
theorem idx_5 (t : Fin cfg0.N) : (cfg0.win 5).index t = ![t.val, 0] := by revert t; decide +kernel
theorem idx_6 (t : Fin cfg0.N) : (cfg0.win 6).index t = ![0, 0] := by revert t; decide +kernel
theorem idx_7 (t : Fin cfg0.N) : (cfg0.win 7).index t = ![0, 0] := by revert t; decide +kernel
theorem idx_8 (t : Fin cfg0.N) : (cfg0.win 8).index t = ![0, 0] := by revert t; decide +kernel
theorem idx_9 (t : Fin cfg0.N) : (cfg0.win 9).index t = ![0, 0] := by revert t; decide +kernel
theorem idx_10 (t : Fin cfg0.N) : (cfg0.win 10).index t = ![0, 0] := by revert t; decide +kernel
theorem idx_11 (t : Fin cfg0.N) : (cfg0.win 11).index t = ![0, 0] := by revert t; decide +kernel
theorem idx_12 (t : Fin cfg0.N) : (cfg0.win 12).index t = ![t.val, 0] := by revert t; decide +kernel

theorem iblk_0 (c : Dev nD) (t : Fin cfg0.N) (r : Fin 512) (k : Fin 1024) :
    iblk m c 0 t (ix2 r k) = m ((c.tc : Thread nD τ).loc main_arg0) (ix2 (gr t r) k) := by
  rw [← V_main_arg0 m c]
  blk_ext [iblk, idx_0 t, gr]

theorem iblk_1 (c : Dev nD) (t : Fin cfg0.N) (r : Fin 512) (k : Fin 2048) :
    iblk m c 1 t (ix2 r k) = m ((c.tc : Thread nD τ).loc main_arg1) (ix2 (gr t r) k) := by
  rw [← V_main_arg1 m c]
  blk_ext [iblk, idx_1 t, gr]

theorem iblk_2 (c : Dev nD) (t : Fin cfg0.N) (r : Fin 512) (k : Fin 1024) :
    iblk m c 2 t (ix2 r k) = m ((c.tc : Thread nD τ).loc main_arg2) (ix2 (gr t r) k) := by
  rw [← V_main_arg2 m c]
  blk_ext [iblk, idx_2 t, gr]

theorem iblk_3 (c : Dev nD) (t : Fin cfg0.N) (r : Fin 512) (k : Fin 1024) :
    iblk m c 3 t (ix2 r k) = m ((c.tc : Thread nD τ).loc main_arg3) (ix2 (gr t r) (⟨5120 + k.val, by omega⟩ : Fin 7168)) := by
  rw [← V_main_arg3 m c]
  blk_ext [iblk, idx_3 t, gr]

theorem iblk_4 (c : Dev nD) (t : Fin cfg0.N) (r : Fin 512) (k : Fin 1024) :
    iblk m c 4 t (ix2 r k) = m ((c.tc : Thread nD τ).loc main_arg3) (ix2 (gr t r) (⟨6144 + k.val, by omega⟩ : Fin 7168)) := by
  rw [← V_main_arg3 m c]
  blk_ext [iblk, idx_4 t, gr]

theorem iblk_5 (c : Dev nD) (t : Fin cfg0.N) (r : Fin 512) (k : Fin 256) :
    iblk m c 5 t (ix2 r k) = m ((c.tc : Thread nD τ).loc main_arg4) (ix2 (gr t r) k) := by
  rw [← V_main_arg4 m c]
  blk_ext [iblk, idx_5 t, gr]

theorem iblk_6 (c : Dev nD) (t : Fin cfg0.N) (j : Fin 2048) (k : Fin 1024) :
    iblk m c 6 t (ix2 j k) = m ((c.tc : Thread nD τ).loc main_arg5) (ix2 j k) := by
  rw [← V_main_arg5 m c]
  blk_ext [iblk, idx_6 t]

theorem iblk_7 (c : Dev nD) (t : Fin cfg0.N) (j : Fin 1024) (k : Fin 1024) :
    iblk m c 7 t (ix2 j k) = m ((c.tc : Thread nD τ).loc main_arg6) (ix2 j k) := by
  rw [← V_main_arg6 m c]
  blk_ext [iblk, idx_7 t]

theorem iblk_8 (c : Dev nD) (t : Fin cfg0.N) (j : Fin 1024) (k : Fin 1024) :
    iblk m c 8 t (ix2 j k) = m ((c.tc : Thread nD τ).loc main_arg7) (ix2 j k) := by
  rw [← V_main_arg7 m c]
  blk_ext [iblk, idx_8 t]

theorem iblk_9 (c : Dev nD) (t : Fin cfg0.N) (j : Fin 1024) (k : Fin 1024) :
    iblk m c 9 t (ix2 j k) = m ((c.tc : Thread nD τ).loc main_arg8) (ix2 j k) := by
  rw [← V_main_arg8 m c]
  blk_ext [iblk, idx_9 t]

theorem iblk_10 (c : Dev nD) (t : Fin cfg0.N) (j : Fin 256) (k : Fin 1024) :
    iblk m c 10 t (ix2 j k) = m ((c.tc : Thread nD τ).loc main_arg9) (ix2 j k) := by
  rw [← V_main_arg9 m c]
  blk_ext [iblk, idx_10 t]

theorem iblk_11 (c : Dev nD) (t : Fin cfg0.N) (k : Fin 1024) :
    iblk m c 11 t (ix2 0 k) = m ((c.tc : Thread nD τ).loc main_arg10) (ix2 0 k) := by
  rw [← V_main_arg10 m c]
  blk_ext [iblk, idx_11 t]

theorem brow_eq (c : Dev nD) (t : Fin cfg0.N) (r : Fin 512) :
    brow (iblk m c 0 t) (iblk m c 1 t) (iblk m c 2 t) (iblk m c 3 t) (iblk m c 4 t) (iblk m c 5 t) r = arow m c (gr t r) := by
  unfold brow arow
  congr 1
  · exact funext fun k => iblk_0 m c t r k
  · exact funext fun k => iblk_1 m c t r k
  · exact funext fun k => iblk_2 m c t r k
  · exact funext fun k => iblk_3 m c t r k
  · exact funext fun k => iblk_4 m c t r k
  · exact funext fun k => iblk_5 m c t r k

theorem bwts_eq (c : Dev nD) (t : Fin cfg0.N) :
    bwts (iblk m c 6 t) (iblk m c 7 t) (iblk m c 8 t) (iblk m c 9 t) (iblk m c 10 t) (iblk m c 11 t) = awts m c := by
  unfold bwts awts
  congr 1
  · exact funext fun j => funext fun k => iblk_6 m c t j k
  · exact funext fun j => funext fun k => iblk_7 m c t j k
  · exact funext fun j => funext fun k => iblk_8 m c t j k
  · exact funext fun j => funext fun k => iblk_9 m c t j k
  · exact funext fun j => funext fun k => iblk_10 m c t j k
  · exact funext fun k => iblk_11 m c t k

theorem arr_out (c : Dev nD) : (dats m 0 c).arrAt 12 cfg0.N = fun y => fin (arow m c (y 0)) (awts m c) (y 1) := by
  refine (dats m 0 c).arrAt_eq_of_covers 12 _ (by decide +kernel) fun t hf y => ?_
  blk_simp
  rw [after0_12]
  have hy : y = ix2 (y 0) (y 1) := by
    funext a
    match a with
    | 0 => rfl
    | 1 => rfl
  refine Eq.trans (congrArg (out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) hy) ((out_at _ _ _ _ _ _ _ _ _ _ _ _ (y 0) (y 1)).trans ?_)
  refine (congrArg₂ (fun R W => fin R W (y 1)) (brow_eq m c t (y 0)) (bwts_eq m c t)).trans ?_
  refine congrArg₂ (fun i e => fin (arow m c i) (awts m c) e) (Fin.ext ?_) (Fin.ext ?_)
  · blk_simp [idx_12 t]
    show 512 * t.val + (y 0).val = t.val * 512 + (y 0).val
    omega
  · blk_simp [idx_12 t]

end Cert.Kernel4Ideal.Fnl

end
-- ==== Proof.FinAlg.lean ====
module

public import proofs.«01_k».proof.Defs
public import proofs.«01_k».proof.Proof.FinKer
public import proofs.«01_k».proof.Proof.Gen.Reference4Ideal.Run
public import Idealize.ShloMosaic.Lib.Quiescent

@[expose] public section

set_option maxRecDepth 16384

noncomputable section

namespace Cert.FinAlg

open Idealize.ShloMosaic Idealize.ShloMosaic.TcCoe Idealize.SL.Sem
open Cert.FinModel

section Ref

open Cert.Reference4Ideal Cert.Reference4Ideal.Gen Cert.Reference4Ideal.Value

variable (m : (ℓ : Loc nD τ sig) → Buf (Elt Ideal) ℓ)

/-- Row `i` of the reference's arguments. -/
def rrow (c : Dev nD) (i : Fin 16384) : Row :=
  ⟨fun k => m ((c.tc : Thread nD τ).loc main_arg0) (ix2 i k), fun k => m ((c.tc : Thread nD τ).loc main_arg1) (ix2 i k), fun k => m ((c.tc : Thread nD τ).loc main_arg2) (ix2 i k), fun k => m ((c.tc : Thread nD τ).loc main_arg3) (ix2 i (⟨5120 + k.val, by omega⟩ : Fin 7168)), fun k => m ((c.tc : Thread nD τ).loc main_arg3) (ix2 i (⟨6144 + k.val, by omega⟩ : Fin 7168)), fun k => m ((c.tc : Thread nD τ).loc main_arg4) (ix2 i k)⟩

/-- The weights among the reference's arguments. -/
def rwts (c : Dev nD) : Wts :=
  ⟨fun j k => m ((c.tc : Thread nD τ).loc main_arg5) (ix2 j k), fun j k => m ((c.tc : Thread nD τ).loc main_arg6) (ix2 j k), fun j k => m ((c.tc : Thread nD τ).loc main_arg7) (ix2 j k), fun j k => m ((c.tc : Thread nD τ).loc main_arg8) (ix2 j k), fun j k => m ((c.tc : Thread nD τ).loc main_arg9) (ix2 j k), fun k => m ((c.tc : Thread nD τ).loc main_arg10) (ix2 0 k)⟩

/-- The reference's result, entry by entry. -/
theorem ref_at (c : Dev nD) (i : Fin 16384) (e : Fin 1024) :
    (res_main_v51 m c (ix2 i e) : EReal) = fin (rrow m c i) (rwts m c) e := by
  pointwise [res_main_v51]
  rfl

end Ref

theorem ref_frame : Cert.quiescent_Reference4Ideal (hReference4Ideal := Cert.Reference4Ideal.Gen.facts) := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

/-- Over the extended reals the finish kernel's result is the reference's. -/
theorem algebraic : Cert.algebraic_Kernel4Ideal_Reference4Ideal (hKernel4Ideal := Cert.Kernel4Ideal.Gen.facts) (hReference4Ideal := Cert.Reference4Ideal.Gen.facts) := by
  intro m ρ m' ρ' _ hagree
  refine ⟨fun c => (Kernel4Ideal.Gen.dats m 0 c).arrAt 12 Cert.Kernel4Ideal.cfg0.N, ?_, ?_⟩
  · exact (θ_run Cert.Kernel4Ideal.defs _ _).mono (fun r h c => ⟨(h.1 c).1 12, h.2 c⟩)
      (θ_run_and (Kernel4Ideal.Gen.run_main (F := Ideal) m ρ) (Kernel4Ideal.Gen.unchanged (F := Ideal) m ρ))
  · refine (θ_run Cert.Reference4Ideal.defs _ _).mono (fun r h c => ⟨(h c).1.trans ?_, (h c).2⟩)
      (Cert.Reference4Ideal.Value.run (F := Ideal) m' ρ')
    refine Eq.trans ?_ (Kernel4Ideal.Fnl.arr_out m c).symm
    funext i
    have hi : i = ix2 (i 0) (i 1) := by
      funext a
      match a with
      | 0 => rfl
      | 1 => rfl
    obtain ⟨h0, h1, h2, h3, h4, h5, h6, h7, h8, h9, h10⟩ := hagree c
    refine (congrArg (Cert.Reference4Ideal.Value.res_main_v51 m' c) hi).trans ((ref_at m' c (i 0) (i 1)).trans ?_)
    unfold rrow rwts Kernel4Ideal.Fnl.arow Kernel4Ideal.Fnl.awts
    rw [h0, h1, h2, h3, h4, h5, h6, h7, h8, h9, h10]

end Cert.FinAlg

end
-- ==== Proof.FinSKer.lean ====
module

public import proofs.«01_k».proof.Proof.FinModel
public import proofs.«01_k».proof.Proof.Gen.Kernel5Ideal.Frame
public import Idealize.ShloMosaic.Lib.StableHlo.ReadAt
public import Idealize.ShloMosaic.Lib.Pipeline.Value
public import Idealize.ShloMosaic.Lib.Pipeline.ValueKit.Geometry

@[expose] public section

set_option maxRecDepth 16384

noncomputable section

namespace Cert.Kernel5Ideal.Fnl

open Idealize.ShloMosaic Idealize.ShloMosaic.TcCoe Idealize.SL.Sem
open Cert.Kernel5Ideal.Gen Cert.FinModel

/-- Row `r` of a point's blocks. -/
def brow (x0 : Vec Ideal S512x1024 .f32) (x1 : Vec Ideal S512x2048 .bf16) (x2 x3 x4 : Vec Ideal S512x1024 .bf16) (x5 : Vec Ideal S512x256 .f32) (r : Fin 512) : Row :=
  ⟨fun k => x0 (ix2 r k), fun k => x1 (ix2 r k), fun k => x2 (ix2 r k), fun k => x3 (ix2 r k), fun k => x4 (ix2 r k), fun k => x5 (ix2 r k)⟩

/-- The weights as a point reads them. -/
def bwts (x6 : Vec Ideal S2048x1024 .bf16) (x7 x8 x9 : Vec Ideal S1024x1024 .bf16) (x10 : Vec Ideal S256x1024 .bf16) (x11 : Vec Ideal S1x1024 .f32) : Wts :=
  ⟨fun j k => x6 (ix2 j k), fun j k => x7 (ix2 j k), fun j k => x8 (ix2 j k), fun j k => x9 (ix2 j k), fun j k => x10 (ix2 j k), fun k => x11 (ix2 0 k)⟩

theorem pay2_at (x0 : Vec Ideal S512x1024 .f32) (x1 : Vec Ideal S512x2048 .bf16) (x2 x3 x4 : Vec Ideal S512x1024 .bf16) (x5 : Vec Ideal S512x256 .f32)
    (x6 : Vec Ideal S2048x1024 .bf16) (x7 x8 x9 : Vec Ideal S1024x1024 .bf16) (x10 : Vec Ideal S256x1024 .bf16) (x11 : Vec Ideal S1x1024 .f32) (r : Fin 512) (e : Fin 1024) :
    (k0_pay2 x1 x6 x2 x7 x3 x4 x0 x8 x9 x5 x10 (ix2 r e) : EReal) = full (brow x0 x1 x2 x3 x4 x5 r) (bwts x6 x7 x8 x9 x10 x11) e := by
  pointwise [k0_pay2]
  rfl

theorem pay1_at (v : Vec Ideal S512x1024 .f32) (x : Vec Ideal S1x1024 .f32) (r : Fin 512) (e : Fin 1024) :
    (k0_pay1 v x (ix2 r e) : EReal) = rms (fun k => v (ix2 r k)) (fun k => x (ix2 0 k)) e := by
  pointwise [k0_pay1]
  rfl

theorem zeros : (![0, 0] : Fin 2 → ℕ) = fun _ => 0 := by decide

theorem out_at (x0 : Vec Ideal S512x1024 .f32) (x1 : Vec Ideal S512x2048 .bf16) (x2 x3 x4 : Vec Ideal S512x1024 .bf16) (x5 : Vec Ideal S512x256 .f32)
    (x6 : Vec Ideal S2048x1024 .bf16) (x7 x8 x9 : Vec Ideal S1024x1024 .bf16) (x10 : Vec Ideal S256x1024 .bf16) (x11 : Vec Ideal S1x1024 .f32) (r : Fin 512) (e : Fin 1024) :
    (out0_12 x0 x1 x2 x3 x4 x5 x6 x7 x8 x9 x10 x11 (ix2 r e) : EReal) = fin (brow x0 x1 x2 x3 x4 x5 r) (bwts x6 x7 x8 x9 x10 x11) e := by
  unfold out0_12
  rw [View.canon_unit_zero zeros]
  repeat rw [View.ld_unit_zero zeros]
  rw [pay1_at]
  unfold fin
  exact congrArg (fun y => rms y _ e) (funext fun k => pay2_at x0 x1 x2 x3 x4 x5 x6 x7 x8 x9 x10 x11 r k)

variable (m : (ℓ : Loc nD τ sig) → Buf (Elt Ideal) ℓ)

/-- Row `i` of the arguments. -/
def arow (c : Dev nD) (i : Fin 512) : Row :=
  ⟨fun k => m ((c.tc : Thread nD τ).loc main_arg0) (ix2 i k), fun k => m ((c.tc : Thread nD τ).loc main_arg1) (ix2 i k), fun k => m ((c.tc : Thread nD τ).loc main_arg2) (ix2 i k), fun k => m ((c.tc : Thread nD τ).loc main_arg3) (ix2 i (⟨5120 + k.val, by omega⟩ : Fin 7168)), fun k => m ((c.tc : Thread nD τ).loc main_arg3) (ix2 i (⟨6144 + k.val, by omega⟩ : Fin 7168)), fun k => m ((c.tc : Thread nD τ).loc main_arg4) (ix2 i k)⟩

/-- The weights among the arguments. -/
def awts (c : Dev nD) : Wts :=
  ⟨fun j k => m ((c.tc : Thread nD τ).loc main_arg5) (ix2 j k), fun j k => m ((c.tc : Thread nD τ).loc main_arg6) (ix2 j k), fun j k => m ((c.tc : Thread nD τ).loc main_arg7) (ix2 j k), fun j k => m ((c.tc : Thread nD τ).loc main_arg8) (ix2 j k), fun j k => m ((c.tc : Thread nD τ).loc main_arg9) (ix2 j k), fun k => m ((c.tc : Thread nD τ).loc main_arg10) (ix2 0 k)⟩

/-- Row `r` of grid point `t`, in the array. -/
def gr (t : Fin cfg0.N) (r : Fin 512) : Fin 512 := ⟨512 * t.val + r.val, by have : t.val < 1 := t.isLt; omega⟩

theorem idx_0 (t : Fin cfg0.N) : (cfg0.win 0).index t = ![t.val, 0] := by revert t; decide +kernel
theorem idx_1 (t : Fin cfg0.N) : (cfg0.win 1).index t = ![t.val, 0] := by revert t; decide +kernel
theorem idx_2 (t : Fin cfg0.N) : (cfg0.win 2).index t = ![t.val, 0] := by revert t; decide +kernel
theorem idx_3 (t : Fin cfg0.N) : (cfg0.win 3).index t = ![t.val, 5] := by revert t; decide +kernel
theorem idx_4 (t : Fin cfg0.N) : (cfg0.win 4).index t = ![t.val, 6] := by revert t; decide +kernel
theorem idx_5 (t : Fin cfg0.N) : (cfg0.win 5).index t = ![t.val, 0] := by revert t; decide +kernel
theorem idx_6 (t : Fin cfg0.N) : (cfg0.win 6).index t = ![0, 0] := by revert t; decide +kernel
theorem idx_7 (t : Fin cfg0.N) : (cfg0.win 7).index t = ![0, 0] := by revert t; decide +kernel
theorem idx_8 (t : Fin cfg0.N) : (cfg0.win 8).index t = ![0, 0] := by revert t; decide +kernel
theorem idx_9 (t : Fin cfg0.N) : (cfg0.win 9).index t = ![0, 0] := by revert t; decide +kernel
theorem idx_10 (t : Fin cfg0.N) : (cfg0.win 10).index t = ![0, 0] := by revert t; decide +kernel
theorem idx_11 (t : Fin cfg0.N) : (cfg0.win 11).index t = ![0, 0] := by revert t; decide +kernel
theorem idx_12 (t : Fin cfg0.N) : (cfg0.win 12).index t = ![t.val, 0] := by revert t; decide +kernel

theorem iblk_0 (c : Dev nD) (t : Fin cfg0.N) (r : Fin 512) (k : Fin 1024) :
    iblk m c 0 t (ix2 r k) = m ((c.tc : Thread nD τ).loc main_arg0) (ix2 (gr t r) k) := by
  rw [← V_main_arg0 m c]
  blk_ext [iblk, idx_0 t, gr]

theorem iblk_1 (c : Dev nD) (t : Fin cfg0.N) (r : Fin 512) (k : Fin 2048) :
    iblk m c 1 t (ix2 r k) = m ((c.tc : Thread nD τ).loc main_arg1) (ix2 (gr t r) k) := by
  rw [← V_main_arg1 m c]
  blk_ext [iblk, idx_1 t, gr]

theorem iblk_2 (c : Dev nD) (t : Fin cfg0.N) (r : Fin 512) (k : Fin 1024) :
    iblk m c 2 t (ix2 r k) = m ((c.tc : Thread nD τ).loc main_arg2) (ix2 (gr t r) k) := by
  rw [← V_main_arg2 m c]
  blk_ext [iblk, idx_2 t, gr]

theorem iblk_3 (c : Dev nD) (t : Fin cfg0.N) (r : Fin 512) (k : Fin 1024) :
    iblk m c 3 t (ix2 r k) = m ((c.tc : Thread nD τ).loc main_arg3) (ix2 (gr t r) (⟨5120 + k.val, by omega⟩ : Fin 7168)) := by
  rw [← V_main_arg3 m c]
  blk_ext [iblk, idx_3 t, gr]

theorem iblk_4 (c : Dev nD) (t : Fin cfg0.N) (r : Fin 512) (k : Fin 1024) :
    iblk m c 4 t (ix2 r k) = m ((c.tc : Thread nD τ).loc main_arg3) (ix2 (gr t r) (⟨6144 + k.val, by omega⟩ : Fin 7168)) := by
  rw [← V_main_arg3 m c]
  blk_ext [iblk, idx_4 t, gr]

theorem iblk_5 (c : Dev nD) (t : Fin cfg0.N) (r : Fin 512) (k : Fin 256) :
    iblk m c 5 t (ix2 r k) = m ((c.tc : Thread nD τ).loc main_arg4) (ix2 (gr t r) k) := by
  rw [← V_main_arg4 m c]
  blk_ext [iblk, idx_5 t, gr]

theorem iblk_6 (c : Dev nD) (t : Fin cfg0.N) (j : Fin 2048) (k : Fin 1024) :
    iblk m c 6 t (ix2 j k) = m ((c.tc : Thread nD τ).loc main_arg5) (ix2 j k) := by
  rw [← V_main_arg5 m c]
  blk_ext [iblk, idx_6 t]

theorem iblk_7 (c : Dev nD) (t : Fin cfg0.N) (j : Fin 1024) (k : Fin 1024) :
    iblk m c 7 t (ix2 j k) = m ((c.tc : Thread nD τ).loc main_arg6) (ix2 j k) := by
  rw [← V_main_arg6 m c]
  blk_ext [iblk, idx_7 t]

theorem iblk_8 (c : Dev nD) (t : Fin cfg0.N) (j : Fin 1024) (k : Fin 1024) :
    iblk m c 8 t (ix2 j k) = m ((c.tc : Thread nD τ).loc main_arg7) (ix2 j k) := by
  rw [← V_main_arg7 m c]
  blk_ext [iblk, idx_8 t]

theorem iblk_9 (c : Dev nD) (t : Fin cfg0.N) (j : Fin 1024) (k : Fin 1024) :
    iblk m c 9 t (ix2 j k) = m ((c.tc : Thread nD τ).loc main_arg8) (ix2 j k) := by
  rw [← V_main_arg8 m c]
  blk_ext [iblk, idx_9 t]

theorem iblk_10 (c : Dev nD) (t : Fin cfg0.N) (j : Fin 256) (k : Fin 1024) :
    iblk m c 10 t (ix2 j k) = m ((c.tc : Thread nD τ).loc main_arg9) (ix2 j k) := by
  rw [← V_main_arg9 m c]
  blk_ext [iblk, idx_10 t]

theorem iblk_11 (c : Dev nD) (t : Fin cfg0.N) (k : Fin 1024) :
    iblk m c 11 t (ix2 0 k) = m ((c.tc : Thread nD τ).loc main_arg10) (ix2 0 k) := by
  rw [← V_main_arg10 m c]
  blk_ext [iblk, idx_11 t]

theorem brow_eq (c : Dev nD) (t : Fin cfg0.N) (r : Fin 512) :
    brow (iblk m c 0 t) (iblk m c 1 t) (iblk m c 2 t) (iblk m c 3 t) (iblk m c 4 t) (iblk m c 5 t) r = arow m c (gr t r) := by
  unfold brow arow
  congr 1
  · exact funext fun k => iblk_0 m c t r k
  · exact funext fun k => iblk_1 m c t r k
  · exact funext fun k => iblk_2 m c t r k
  · exact funext fun k => iblk_3 m c t r k
  · exact funext fun k => iblk_4 m c t r k
  · exact funext fun k => iblk_5 m c t r k

theorem bwts_eq (c : Dev nD) (t : Fin cfg0.N) :
    bwts (iblk m c 6 t) (iblk m c 7 t) (iblk m c 8 t) (iblk m c 9 t) (iblk m c 10 t) (iblk m c 11 t) = awts m c := by
  unfold bwts awts
  congr 1
  · exact funext fun j => funext fun k => iblk_6 m c t j k
  · exact funext fun j => funext fun k => iblk_7 m c t j k
  · exact funext fun j => funext fun k => iblk_8 m c t j k
  · exact funext fun j => funext fun k => iblk_9 m c t j k
  · exact funext fun j => funext fun k => iblk_10 m c t j k
  · exact funext fun k => iblk_11 m c t k

theorem arr_out (c : Dev nD) : (dats m 0 c).arrAt 12 cfg0.N = fun y => fin (arow m c (y 0)) (awts m c) (y 1) := by
  refine (dats m 0 c).arrAt_eq_of_covers 12 _ (by decide +kernel) fun t hf y => ?_
  blk_simp
  rw [after0_12]
  have hy : y = ix2 (y 0) (y 1) := by
    funext a
    match a with
    | 0 => rfl
    | 1 => rfl
  refine Eq.trans (congrArg (out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) hy) ((out_at _ _ _ _ _ _ _ _ _ _ _ _ (y 0) (y 1)).trans ?_)
  refine (congrArg₂ (fun R W => fin R W (y 1)) (brow_eq m c t (y 0)) (bwts_eq m c t)).trans ?_
  refine congrArg₂ (fun i e => fin (arow m c i) (awts m c) e) (Fin.ext ?_) (Fin.ext ?_)
  · blk_simp [idx_12 t]
    have : t.val < 1 := t.isLt
    show 512 * t.val + (y 0).val = (y 0).val
    omega
  · blk_simp [idx_12 t]

end Cert.Kernel5Ideal.Fnl

end
-- ==== Proof.FinSAlg.lean ====
module

public import proofs.«01_k».proof.Defs
public import proofs.«01_k».proof.Proof.FinSKer
public import proofs.«01_k».proof.Proof.Gen.Reference5Ideal.Run
public import Idealize.ShloMosaic.Lib.Quiescent

@[expose] public section

set_option maxRecDepth 16384

noncomputable section

namespace Cert.FinSAlg

open Idealize.ShloMosaic Idealize.ShloMosaic.TcCoe Idealize.SL.Sem
open Cert.FinModel

section Ref

open Cert.Reference5Ideal Cert.Reference5Ideal.Gen Cert.Reference5Ideal.Value

variable (m : (ℓ : Loc nD τ sig) → Buf (Elt Ideal) ℓ)

/-- Row `i` of the reference's arguments. -/
def rrow (c : Dev nD) (i : Fin 512) : Row :=
  ⟨fun k => m ((c.tc : Thread nD τ).loc main_arg0) (ix2 i k), fun k => m ((c.tc : Thread nD τ).loc main_arg1) (ix2 i k), fun k => m ((c.tc : Thread nD τ).loc main_arg2) (ix2 i k), fun k => m ((c.tc : Thread nD τ).loc main_arg3) (ix2 i (⟨5120 + k.val, by omega⟩ : Fin 7168)), fun k => m ((c.tc : Thread nD τ).loc main_arg3) (ix2 i (⟨6144 + k.val, by omega⟩ : Fin 7168)), fun k => m ((c.tc : Thread nD τ).loc main_arg4) (ix2 i k)⟩

/-- The weights among the reference's arguments. -/
def rwts (c : Dev nD) : Wts :=
  ⟨fun j k => m ((c.tc : Thread nD τ).loc main_arg5) (ix2 j k), fun j k => m ((c.tc : Thread nD τ).loc main_arg6) (ix2 j k), fun j k => m ((c.tc : Thread nD τ).loc main_arg7) (ix2 j k), fun j k => m ((c.tc : Thread nD τ).loc main_arg8) (ix2 j k), fun j k => m ((c.tc : Thread nD τ).loc main_arg9) (ix2 j k), fun k => m ((c.tc : Thread nD τ).loc main_arg10) (ix2 0 k)⟩

/-- The reference's result, entry by entry. -/
theorem ref_at (c : Dev nD) (i : Fin 512) (e : Fin 1024) :
    (res_main_v51 m c (ix2 i e) : EReal) = fin (rrow m c i) (rwts m c) e := by
  pointwise [res_main_v51]
  rfl

end Ref

theorem ref_frame : Cert.quiescent_Reference5Ideal (hReference5Ideal := Cert.Reference5Ideal.Gen.facts) := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)

/-- Over the extended reals the samples' finish kernel's result is the reference's. -/
theorem algebraic : Cert.algebraic_Kernel5Ideal_Reference5Ideal (hKernel5Ideal := Cert.Kernel5Ideal.Gen.facts) (hReference5Ideal := Cert.Reference5Ideal.Gen.facts) := by
  intro m ρ m' ρ' _ hagree
  refine ⟨fun c => (Kernel5Ideal.Gen.dats m 0 c).arrAt 12 Cert.Kernel5Ideal.cfg0.N, ?_, ?_⟩
  · exact (θ_run Cert.Kernel5Ideal.defs _ _).mono (fun r h c => ⟨(h.1 c).1 12, h.2 c⟩)
      (θ_run_and (Kernel5Ideal.Gen.run_main (F := Ideal) m ρ) (Kernel5Ideal.Gen.unchanged (F := Ideal) m ρ))
  · refine (θ_run Cert.Reference5Ideal.defs _ _).mono (fun r h c => ⟨(h c).1.trans ?_, (h c).2⟩)
      (Cert.Reference5Ideal.Value.run (F := Ideal) m' ρ')
    refine Eq.trans ?_ (Kernel5Ideal.Fnl.arr_out m c).symm
    funext i
    have hi : i = ix2 (i 0) (i 1) := by
      funext a
      match a with
      | 0 => rfl
      | 1 => rfl
    obtain ⟨h0, h1, h2, h3, h4, h5, h6, h7, h8, h9, h10⟩ := hagree c
    refine (congrArg (Cert.Reference5Ideal.Value.res_main_v51 m' c) hi).trans ((ref_at m' c (i 0) (i 1)).trans ?_)
    unfold rrow rwts Kernel5Ideal.Fnl.arow Kernel5Ideal.Fnl.awts
    rw [h0, h1, h2, h3, h4, h5, h6, h7, h8, h9, h10]

end Cert.FinSAlg

end
-- ==== Proof.ProjSKer.lean ====
module

public import proofs.«01_k».proof.Proof.Gen.Kernel6Ideal.Frame
public import Idealize.ShloMosaic.Lib.StableHlo.ReadAt
public import Idealize.ShloMosaic.Lib.Pipeline.Value
public import Idealize.ShloMosaic.Lib.Pointwise
public import Idealize.ShloMosaic.Lib.Pipeline.ValueKit.Geometry

@[expose] public section

set_option maxRecDepth 16384

noncomputable section

namespace Cert.Kernel6Ideal.Proj

open Idealize.ShloMosaic Idealize.ShloMosaic.TcCoe Idealize.SL.Sem
open Cert.Kernel6Ideal.Gen

/-- Entry `(i, j)` of the product of `X` with the leading columns of `W`. -/
def prod (X : Fin 512 → Fin 1024 → EReal) (W : Fin 1024 → Fin 10240 → EReal) (i : Fin 512) (j : Fin 7168) : EReal :=
  ∑ k : Fin 1024, X i k * W k ⟨j.val, by omega⟩

variable (m : (ℓ : Loc nD τ sig) → Buf (Elt Ideal) ℓ)

/-- The product of a point's two blocks, entry by entry. -/
theorem pay_at (x0 : Vec Ideal S512x1024 .bf16) (x1 : Vec Ideal S1024x1792 .bf16) (r : Fin 512) (e : Fin 1792) :
    (k0_pay1 x0 x1 (ix2 r e) : EReal) = ∑ k : Fin 1024, x0 (ix2 r k) * x1 (ix2 k e) := by
  pointwise [k0_pay1]

theorem zeros : (![0, 0] : Fin 2 → ℕ) = fun _ => 0 := by decide

theorem outs_eq (c : Dev nD) (t : Fin cfg0.N) : outsAt0 m c t = k0_pay1 (iblk m c 0 t) (X0_1 m c t) := by
  unfold outsAt0 out0_A_2 kernelRun0_A
  simp only [View.readAt_eq_ld, Memref.IsWhole.read_unread]
  rw [View.read_writes_junk_eq_canon]
  refine (View.canon_unit_zero zeros _ _).trans ?_
  exact congrArg₂ (k0_pay1 (F := Ideal)) (View.ld_unit_zero zeros _ _) (View.ld_unit_zero zeros _ _)

/-- Grid point `t`'s tile of rows. -/
abbrev gi (t : Fin cfg0.N) : Fin 1 := cfg0.grid.coords t 0
/-- Grid point `t`'s tile of columns. -/
abbrev gj (t : Fin cfg0.N) : Fin 4 := cfg0.grid.coords t 1

theorem idx_0 (t : Fin cfg0.N) : (cfg0.win 0).index t = ![(gi t).val, 0] := by revert t; decide +kernel
theorem idx_1 (t : Fin cfg0.N) : (cfg0.win 1).index t = ![0, (gj t).val] := by revert t; decide +kernel
theorem idx_2 (t : Fin cfg0.N) : (cfg0.win 2).index t = ![(gi t).val, (gj t).val] := by revert t; decide +kernel

theorem iblk_x (c : Dev nD) (t : Fin cfg0.N) (r : Fin 512) (k : Fin 1024) :
    iblk m c 0 t (ix2 r k) = m ((c.tc : Thread nD τ).loc main_arg0) (ix2 (⟨512 * (gi t).val + r.val, by omega⟩ : Fin 512) k) := by
  rw [← V_main_arg0 m c]
  blk_ext [iblk, idx_0 t]

theorem X_w (c : Dev nD) (t : Fin cfg0.N) (k : Fin 1024) (e : Fin 1792) :
    X0_1 m c t (ix2 k e) = m ((c.tc : Thread nD τ).loc main_arg1) (ix2 k (⟨1792 * (gj t).val + e.val, by omega⟩ : Fin 10240)) := by
  rw [← V_main_arg1 m c]
  unfold X0_1 Pipeline.Window.fill
  rw [dif_pos (moved0_1 t _)]
  blk_ext [iblk, idx_1 t]

theorem out_at (c : Dev nD) (t : Fin cfg0.N) (y : S512x1792.Idx) :
    (outsAt0 m c t y : EReal) = prod (fun i j => m ((c.tc : Thread nD τ).loc main_arg0) (ix2 i j)) (fun i j => m ((c.tc : Thread nD τ).loc main_arg1) (ix2 i j))
      ⟨512 * (gi t).val + (y 0).val, by have h1 := (gi t).isLt; have h2 : (y 0).val < 512 := (y 0).isLt; omega⟩
      ⟨1792 * (gj t).val + (y 1).val, by have h1 := (gj t).isLt; have h2 : (y 1).val < 1792 := (y 1).isLt; omega⟩ := by
  have hy : y = ix2 (y 0) (y 1) := by
    funext a
    match a with
    | 0 => rfl
    | 1 => rfl
  rw [outs_eq]
  refine Eq.trans (congrArg (k0_pay1 (iblk m c 0 t) (X0_1 m c t)) hy) ((pay_at _ _ (y 0) (y 1)).trans ?_)
  exact Finset.sum_congr rfl fun k _ => congrArg₂ (· * ·) (iblk_x m c t (y 0) k) (X_w m c t k (y 1))

theorem arr_out (c : Dev nD) : (dats m 0 c).arrAt 2 cfg0.N = fun y => prod (fun i j => m ((c.tc : Thread nD τ).loc main_arg0) (ix2 i j)) (fun i j => m ((c.tc : Thread nD τ).loc main_arg1) (ix2 i j)) (y 0) (y 1) := by
  refine (dats m 0 c).arrAt_eq_of_covers 2 _ (by decide +kernel) fun t hf y => ?_
  blk_simp
  rw [after0_2]
  refine (out_at m c t y).trans (congrArg₂ (prod _ _) (Fin.ext ?_) (Fin.ext ?_))
  · blk_simp [idx_2 t]
    show 512 * 0 + (y 0).val = (y 0).val
    omega
  · blk_simp [idx_2 t]
    show 1792 * (gj t).val + (y 1).val = (gj t).val * 1792 + (y 1).val
    omega

end Cert.Kernel6Ideal.Proj

end
-- ==== Proof.ProjSAlg.lean ====
module

public import proofs.«01_k».proof.Defs
public import proofs.«01_k».proof.Proof.ProjSKer
public import proofs.«01_k».proof.Proof.Gen.Reference6Ideal.Run
public import Idealize.ShloMosaic.Lib.Quiescent

@[expose] public section

set_option maxRecDepth 16384

noncomputable section

namespace Cert.ProjSAlg

open Idealize.ShloMosaic Idealize.ShloMosaic.TcCoe Idealize.SL.Sem
open Cert.Reference6Ideal Cert.Reference6Ideal.Gen

/-- The reference's result. -/
def refOut (x : FVec Ideal S512x1024 .bf16) (w : FVec Ideal S1024x10240 .bf16) : FVec Ideal S512x7168 .bf16 :=
  truncf .bf16 (Host.dotGeneral dot_S512x1024_S1024x7168_S512x7168_1_0_0_1_n_n none (extf .f32 x bitsLt_bf16_f32) (extf .f32 (extractStridedSlice S1024x7168 ![0, 0] w slices_S1024x10240_S1024x7168_0_0) bitsLt_bf16_f32)) bitsLt_bf16_f32

/-- Read entry by entry. -/
theorem ref_at (x : FVec Ideal S512x1024 .bf16) (w : FVec Ideal S1024x10240 .bf16) (i : Fin 512) (j : Fin 7168) :
    (refOut x w (ix2 i j) : EReal) = Kernel6Ideal.Proj.prod (fun i j => x (ix2 i j)) (fun i j => w (ix2 i j)) i j := by
  pointwise [refOut]
  rfl

theorem ref_frame : Cert.quiescent_Reference6Ideal (hReference6Ideal := Cert.Reference6Ideal.Gen.facts) := fun m ρ _ =>
  (θ_run Cert.Reference6Ideal.defs _ _).mono (fun r h => ⟨fun c => (h c).2, Idealize.ShloMosaic.sem_eq_zero_of_no_sems (by decide) r.2⟩)
    (Cert.Reference6Ideal.Value.run (F := Ideal) m ρ)

/-- Over the extended reals the samples' product kernel's result is the reference's. -/
theorem algebraic : Cert.algebraic_Kernel6Ideal_Reference6Ideal (hKernel6Ideal := Cert.Kernel6Ideal.Gen.facts) (hReference6Ideal := Cert.Reference6Ideal.Gen.facts) := by
  intro m ρ m' ρ' _ hagree
  refine ⟨fun c => (Kernel6Ideal.Gen.dats m 0 c).arrAt 2 Cert.Kernel6Ideal.cfg0.N, ?_, ?_⟩
  · exact (θ_run Cert.Kernel6Ideal.defs _ _).mono (fun r h c => ⟨(h.1 c).1 2, h.2 c⟩)
      (θ_run_and (Kernel6Ideal.Gen.run_main (F := Ideal) m ρ) (Kernel6Ideal.Gen.unchanged (F := Ideal) m ρ))
  · refine (θ_run Cert.Reference6Ideal.defs _ _).mono (fun r h c => ⟨(h c).1.trans ?_, (h c).2⟩)
      (Cert.Reference6Ideal.Value.run (F := Ideal) m' ρ')
    refine Eq.trans ?_ (Kernel6Ideal.Proj.arr_out m c).symm
    funext i
    have hi : i = ix2 (i 0) (i 1) := by
      funext a
      match a with
      | 0 => rfl
      | 1 => rfl
    rw [(hagree c).1, (hagree c).2]
    exact (congrArg (refOut _ _) hi).trans (ref_at _ _ (i 0) (i 1))

end Cert.ProjSAlg

end
-- ==== Proof.MlaModel.lean ====
module

public import Idealize.ShloMosaic.Lib.Pointwise

@[expose] public section

noncomputable section

namespace Cert.MlaModel

open Idealize.ShloMosaic

/-- The scale of the queries. -/
def Q : EReal := Ideal.ofBits FTy.f32 1037384597#32

/-- The angle of position `p` and frequency `k`. -/
def angle (p k : ℕ) : EReal :=
  (FloatOps.sitofp (F := Ideal) FTy.f32 (BitVec.ofNat 32 p) : EReal) *
    Ideal.pow (Ideal.ofBits FTy.f32 1176256512#32) (Ideal.div (-(FloatOps.sitofp (F := Ideal) FTy.f32 (BitVec.ofNat 32 k) : EReal)) (Ideal.ofBits FTy.f32 1107296256#32))

/-- A row of any length divided by its root mean square, times the weight. -/
def nrm {n : ℕ} (d : EReal) (y f : Fin n → EReal) (e : Fin n) : EReal :=
  y e * Ideal.rsqrt (Ideal.div (∑ k : Fin n, y k * y k) d + Ideal.ofBits FTy.f32 897988541#32) * f e

/-! ## The kernel's row: products with rearranged weights -/

/-- What one row of the kernel reads. -/
structure Blk where
  x : Fin 1024 → EReal
  wc : Fin 1024 → Fin 896 → EReal
  fq : Fin 384 → EReal
  wa : Fin 384 → Fin 2048 → EReal
  wb : Fin 384 → Fin 1024 → EReal
  fk : Fin 256 → EReal
  cs : Fin 128 → EReal
  sn : Fin 128 → EReal
  wkv : Fin 256 → Fin 2048 → EReal

def bz (B : Blk) (k : Fin 896) : EReal := ∑ j : Fin 1024, B.x j * B.wc j k

def bq (B : Blk) : Fin 384 → EReal := nrm (Ideal.ofBits FTy.f32 1136656384#32) (fun k => bz B ⟨k.val, by omega⟩) B.fq

def bqa (B : Blk) (p : Fin 2048) : EReal := ∑ j : Fin 384, bq B j * B.wa j p

def bqb (B : Blk) (p : Fin 1024) : EReal := ∑ j : Fin 384, bq B j * B.wb j p

/-- One entry of the queries from the two products and the scaled tables. -/
def pick (a : Fin 2048 → EReal) (b : Fin 1024 → EReal) (c s : Fin 128 → EReal) (p : Fin 2048) : EReal :=
  if p.val % 256 < 128 then a p * Q
  else a p * c ⟨p.val % 128, by omega⟩ + b ⟨128 * (p.val / 256) + p.val % 128, by omega⟩ * s ⟨p.val % 128, by omega⟩

def bout (B : Blk) : Fin 2048 → EReal := pick (bqa B) (bqb B) (fun l => B.cs l * Q) (fun l => B.sn l * Q)

def bck (B : Blk) : Fin 256 → EReal := nrm (Ideal.ofBits FTy.f32 1132462080#32) (fun k => bz B ⟨384 + k.val, by omega⟩) B.fk

def bkr (B : Blk) (l : Fin 128) : EReal := bz B ⟨640 + l.val, by omega⟩ * B.cs l + bz B ⟨768 + l.val, by omega⟩ * B.sn l

def bkv (B : Blk) (e : Fin 2048) : EReal := ∑ j : Fin 256, bck B j * B.wkv j e

/-! ## The row as it is written down -/

/-- A row of the arguments with the weights. -/
structure Arg where
  x : Fin 1024 → EReal
  w : Fin 1024 → Fin 10240 → EReal
  fq : Fin 384 → EReal
  uq : Fin 384 → Fin 1536 → EReal
  fk : Fin 256 → EReal
  wkv : Fin 256 → Fin 2048 → EReal
  c : Fin 32 → EReal
  s : Fin 32 → EReal

def az (A : Arg) (k : Fin 704) : EReal := ∑ j : Fin 1024, A.x j * A.w j ⟨9216 + k.val, by omega⟩

def aq (A : Arg) : Fin 384 → EReal := nrm (Ideal.ofBits FTy.f32 1136656384#32) (fun k => az A ⟨k.val, by omega⟩) A.fq

def ah (A : Arg) (p : Fin 1536) : EReal := ∑ j : Fin 384, aq A j * A.uq j p

/-- The rotation of 64 entries by 32 angles. -/
def rot (c s : Fin 32 → EReal) (a : Fin 64 → EReal) (l : Fin 64) : EReal :=
  if h : l.val < 32 then a l * c ⟨l.val, h⟩ - a ⟨l.val + 32, by omega⟩ * s ⟨l.val, h⟩
  else a l * c ⟨l.val - 32, by omega⟩ + a ⟨l.val - 32, by omega⟩ * s ⟨l.val - 32, by omega⟩

def aout (A : Arg) (p : Fin 2048) : EReal :=
  if h : p.val % 256 < 128 then ah A ⟨192 * (p.val / 256) + p.val % 256, by omega⟩ * Q
  else if h : p.val % 256 < 192 then
    rot A.c A.s (fun l => ah A ⟨192 * (p.val / 256) + (128 + l.val), by omega⟩) ⟨p.val % 256 - 128, by omega⟩ * Q
  else 0

def ack (A : Arg) : Fin 256 → EReal := nrm (Ideal.ofBits FTy.f32 1132462080#32) (fun k => az A ⟨384 + k.val, by omega⟩) A.fk

def akr (A : Arg) : Fin 64 → EReal := rot A.c A.s (fun l => az A ⟨640 + l.val, by omega⟩)

def akrp (A : Arg) (l : Fin 128) : EReal := if h : l.val < 64 then akr A ⟨l.val, h⟩ else 0

def akv (A : Arg) (e : Fin 2048) : EReal := ∑ j : Fin 256, ack A j * A.wkv j e

/-! ## Real numbers among the extended ones -/

def Re (x : EReal) : Prop := ∃ r : ℝ, x = (r : EReal)

theorem re_zero : Re 0 := ⟨0, rfl⟩

theorem re_add {x y : EReal} : Re x → Re y → Re (x + y) := by
  rintro ⟨a, rfl⟩ ⟨b, rfl⟩
  exact ⟨a + b, rfl⟩

theorem re_mul {x y : EReal} : Re x → Re y → Re (x * y) := by
  rintro ⟨a, rfl⟩ ⟨b, rfl⟩
  exact ⟨a * b, rfl⟩

theorem re_neg {x : EReal} : Re x → Re (-x) := by
  rintro ⟨a, rfl⟩
  exact ⟨-a, rfl⟩

theorem re_sum {ι : Type} (s : Finset ι) (f : ι → EReal) (h : ∀ i, Re (f i)) : Re (∑ i ∈ s, f i) := by
  classical
  induction s using Finset.induction_on with
  | empty => exact re_zero
  | insert a s ha ih => rw [Finset.sum_insert ha]; exact re_add (h a) ih

theorem neg_add_re {x y : EReal} : Re x → Re y → -(x + y) = -x + -y := by
  rintro ⟨a, rfl⟩ ⟨b, rfl⟩
  exact (congrArg (fun r : ℝ => (r : EReal)) (neg_add a b))

/-- A product with negated real weights is the negative of the product. -/
theorem sum_mul_neg {ι : Type} (s : Finset ι) (f g : ι → EReal) (hf : ∀ i, Re (f i)) (hg : ∀ i, Re (g i)) :
    ∑ i ∈ s, f i * -(g i) = -∑ i ∈ s, f i * g i := by
  classical
  induction s using Finset.induction_on with
  | empty => simp
  | insert a s ha ih =>
    rw [Finset.sum_insert ha, Finset.sum_insert ha, ih, neg_add_re (re_mul (hf a) (hg a)) (re_sum s _ fun i => re_mul (hf i) (hg i)), mul_neg]

theorem ofBits_pos (b : BitVec 32) (hs : (b.extractLsb' (8 + 23) 1 == 1#1) = false) (h1 : (b.extractLsb' 23 8).toNat ≠ 2 ^ 8 - 1)
    (h0 : (b.extractLsb' 23 8).toNat ≠ 0) : ∃ r : ℝ, 0 < r ∧ Ideal.ofBits FTy.f32 b = (r : EReal) := by
  refine ⟨1 * (2 ^ 23 + (b.extractLsb' 0 23).toNat : ℕ) * (2 : ℝ) ^ (((b.extractLsb' 23 8).toNat : Int) - (2 ^ (8 - 1) - 1) - 23), by positivity, ?_⟩
  show Ideal.ieee 8 23 b = _
  unfold Ideal.ieee
  rw [hs]
  simp only [if_neg h1, if_neg h0]
  rfl

theorem Q_pos : ∃ r : ℝ, 0 < r ∧ Q = (r : EReal) := ofBits_pos _ (by decide) (by decide) (by decide)

theorem add_mul_Q (x y : EReal) : (x + y) * Q = x * Q + y * Q := by
  obtain ⟨r, h, e⟩ := Q_pos
  rw [e]
  exact EReal.right_distrib_of_nonneg_of_ne_top (EReal.coe_nonneg.2 h.le) (EReal.coe_ne_top r) x y

theorem sq_sum_re {n : ℕ} (y : Fin n → EReal) (h : ∀ k, Re (y k)) : ∃ r : ℝ, 0 ≤ r ∧ ∑ k : Fin n, y k * y k = (r : EReal) := by
  obtain ⟨r, e⟩ := re_sum Finset.univ (fun k => y k * y k) fun k => re_mul (h k) (h k)
  refine ⟨r, ?_, e⟩
  have : (0 : EReal) ≤ ∑ k : Fin n, y k * y k := Finset.sum_nonneg fun k _ => by
    obtain ⟨a, ha⟩ := h k
    rw [ha]
    exact EReal.coe_nonneg.2 (mul_self_nonneg a)
  rw [e] at this
  exact EReal.coe_nonneg.1 this

/-- A real row stays real under the norm. -/
theorem nrm_re {n : ℕ} (b : BitVec 32) (hb : ∃ r : ℝ, 0 < r ∧ Ideal.ofBits FTy.f32 b = (r : EReal)) (y f : Fin n → EReal)
    (hy : ∀ k, Re (y k)) (hf : ∀ k, Re (f k)) (e : Fin n) : Re (nrm (Ideal.ofBits FTy.f32 b) y f e) := by
  obtain ⟨d, hd, ed⟩ := hb
  obtain ⟨u, hu, eu⟩ := ofBits_pos 897988541#32 (by decide) (by decide) (by decide)
  obtain ⟨q, hq, eq⟩ := sq_sum_re y hy
  refine re_mul (re_mul (hy e) ?_) (hf e)
  rw [ed, eu, eq]
  have h1 : Ideal.div (q : EReal) (d : EReal) + (u : EReal) = ((q * d⁻¹ + u : ℝ) : EReal) := by
    unfold Ideal.div
    rw [if_neg (by exact_mod_cast hd.ne')]
    rw [← EReal.coe_inv]
    rfl
  have h2 : 0 < q * d⁻¹ + u := by positivity
  rw [h1]
  show Re (if q * d⁻¹ + u < 0 then ⊥ else if q * d⁻¹ + u = 0 then ⊤ else (((Real.sqrt (q * d⁻¹ + u))⁻¹ : ℝ) : EReal))
  rw [if_neg (not_lt.2 h2.le), if_neg h2.ne']
  exact ⟨_, rfl⟩

/-! ## The two rows agree -/

/-- How the kernel's rearranged weights and tables come from the arguments. -/
structure Laid (B : Blk) (A : Arg) : Prop where
  x : B.x = A.x
  fq : B.fq = A.fq
  fk : B.fk = A.fk
  wkv : B.wkv = A.wkv
  wc : ∀ j (k : Fin 704), B.wc j ⟨k.val, by omega⟩ = A.w j ⟨9216 + k.val, by omega⟩
  wc_pad : ∀ j (k : Fin 64), B.wc j ⟨704 + k.val, by omega⟩ = 0
  wc_neg : ∀ j (k : Fin 32), B.wc j ⟨768 + k.val, by omega⟩ = -(A.w j ⟨9888 + k.val, by omega⟩)
  wc_pos : ∀ j (k : Fin 32), B.wc j ⟨800 + k.val, by omega⟩ = A.w j ⟨9856 + k.val, by omega⟩
  wc_end : ∀ j (k : Fin 64), B.wc j ⟨832 + k.val, by omega⟩ = 0
  wa : ∀ j (h : Fin 8) (n : Fin 192), B.wa j ⟨256 * h.val + n.val, by omega⟩ = A.uq j ⟨192 * h.val + n.val, by omega⟩
  wa_pad : ∀ j (h : Fin 8) (n : Fin 64), B.wa j ⟨256 * h.val + (192 + n.val), by omega⟩ = 0
  wb_neg : ∀ j (h : Fin 8) (n : Fin 32), B.wb j ⟨128 * h.val + n.val, by omega⟩ = -(A.uq j ⟨192 * h.val + (160 + n.val), by omega⟩)
  wb_pos : ∀ j (h : Fin 8) (n : Fin 32), B.wb j ⟨128 * h.val + (32 + n.val), by omega⟩ = A.uq j ⟨192 * h.val + (128 + n.val), by omega⟩
  cs_lo : ∀ k : Fin 32, B.cs ⟨k.val, by omega⟩ = A.c k
  cs_hi : ∀ k : Fin 32, B.cs ⟨32 + k.val, by omega⟩ = A.c k
  cs_end : ∀ k : Fin 64, B.cs ⟨64 + k.val, by omega⟩ = 0
  sn_lo : ∀ k : Fin 32, B.sn ⟨k.val, by omega⟩ = A.s k
  sn_hi : ∀ k : Fin 32, B.sn ⟨32 + k.val, by omega⟩ = A.s k
  sn_end : ∀ k : Fin 64, B.sn ⟨64 + k.val, by omega⟩ = 0

/-- The entries whose sums are negated are real. -/
structure Fine (A : Arg) : Prop where
  x : ∀ j, Re (A.x j)
  w : ∀ j k, Re (A.w j k)
  fq : ∀ k, Re (A.fq k)
  uq : ∀ j k, Re (A.uq j k)

section

variable {B : Blk} {A : Arg} (L : Laid B A)

include L

theorem bz_eq (k : Fin 704) : bz B ⟨k.val, by omega⟩ = az A k := by
  unfold bz az
  rw [L.x]
  exact Finset.sum_congr rfl fun j _ => by rw [L.wc j k]

theorem bq_eq : bq B = aq A := by
  unfold bq aq
  rw [L.fq]
  exact congrArg (fun y => nrm _ y A.fq) (funext fun k => bz_eq L ⟨k.val, by omega⟩)

theorem bck_eq : bck B = ack A := by
  unfold bck ack
  rw [L.fk]
  exact congrArg (fun y => nrm _ y A.fk) (funext fun k => bz_eq L ⟨384 + k.val, by omega⟩)

theorem bkv_eq (e : Fin 2048) : bkv B e = akv A e := by
  unfold bkv akv
  rw [bck_eq L, L.wkv]

theorem bz_neg (F : Fine A) (k : Fin 32) : bz B ⟨768 + k.val, by omega⟩ = -(az A ⟨672 + k.val, by omega⟩) := by
  unfold bz az
  rw [← sum_mul_neg Finset.univ _ _ F.x fun j => F.w j _, L.x]
  refine Finset.sum_congr rfl fun j _ => ?_
  rw [L.wc_neg j k]
  exact congrArg (fun i => A.x j * -(A.w j i)) (Fin.ext (by show 9888 + k.val = 9216 + (672 + k.val); omega))

theorem bz_pos (k : Fin 32) : bz B ⟨800 + k.val, by omega⟩ = az A ⟨640 + k.val, by omega⟩ := by
  unfold bz az
  rw [L.x]
  refine Finset.sum_congr rfl fun j _ => ?_
  rw [L.wc_pos j k]
  exact congrArg (fun i => A.x j * A.w j i) (Fin.ext (by show 9856 + k.val = 9216 + (640 + k.val); omega))

theorem bkr_eq (F : Fine A) (l : Fin 64) : bkr B ⟨l.val, by omega⟩ = akr A l := by
  unfold bkr akr rot
  by_cases h : l.val < 32
  · rw [dif_pos h]
    have e1 := bz_eq L ⟨640 + l.val, by omega⟩
    have e2 := bz_neg L F ⟨l.val, h⟩
    have e3 := L.cs_lo ⟨l.val, h⟩
    have e4 := L.sn_lo ⟨l.val, h⟩
    simp only at e1 e2 e3 e4
    show bz B ⟨640 + l.val, _⟩ * B.cs ⟨l.val, _⟩ + bz B ⟨768 + l.val, _⟩ * B.sn ⟨l.val, _⟩ = _
    rw [e1, e2, e3, e4, EReal.neg_mul, sub_eq_add_neg]
    exact congrArg (fun i => _ + -(az A i * _)) (Fin.ext (by show 672 + l.val = 640 + (l.val + 32); omega))
  · rw [dif_neg h]
    obtain ⟨n, hn⟩ : ∃ n : Fin 32, l.val = 32 + n.val := ⟨⟨l.val - 32, by omega⟩, by show l.val = 32 + (l.val - 32); omega⟩
    have e1 := bz_eq L ⟨640 + l.val, by omega⟩
    have e2 := bz_pos L n
    have e3 := L.cs_hi n
    have e4 := L.sn_hi n
    have i1 : (⟨l.val, by omega⟩ : Fin 128) = ⟨32 + n.val, by omega⟩ := Fin.ext hn
    have i2 : (⟨768 + l.val, by omega⟩ : Fin 896) = ⟨800 + n.val, by omega⟩ := Fin.ext (by show 768 + l.val = 800 + n.val; omega)
    have i3 : (⟨l.val - 32, by omega⟩ : Fin 32) = n := Fin.ext (by show l.val - 32 = n.val; omega)
    show bz B ⟨640 + l.val, _⟩ * B.cs ⟨l.val, _⟩ + bz B ⟨768 + l.val, _⟩ * B.sn ⟨l.val, _⟩ = _
    rw [e1, i2, i1, e2, e3, e4, i3]
    exact congrArg (fun i => _ + az A i * _) (Fin.ext (by show 640 + n.val = 640 + (l.val - 32); omega))

theorem bkrp_eq (F : Fine A) (l : Fin 128) : bkr B l = akrp A l := by
  unfold akrp
  by_cases h : l.val < 64
  · rw [dif_pos h]
    exact bkr_eq L F ⟨l.val, h⟩
  · rw [dif_neg h]
    have i1 : l = ⟨64 + (l.val - 64), by omega⟩ := Fin.ext (by show l.val = 64 + (l.val - 64); omega)
    have e3 := L.cs_end ⟨l.val - 64, by omega⟩
    have e4 := L.sn_end ⟨l.val - 64, by omega⟩
    unfold bkr
    rw [i1]
    simp only at e3 e4
    rw [e3, e4, mul_zero, mul_zero, add_zero]

theorem bqa_eq (h : Fin 8) (n : Fin 192) : bqa B ⟨256 * h.val + n.val, by omega⟩ = ah A ⟨192 * h.val + n.val, by omega⟩ := by
  unfold bqa ah
  rw [bq_eq L]
  exact Finset.sum_congr rfl fun j _ => by rw [L.wa j h n]

theorem aq_re (F : Fine A) (k : Fin 384) : Re (aq A k) :=
  nrm_re _ (ofBits_pos _ (by decide) (by decide) (by decide)) _ _ (fun k => re_sum _ _ fun j => re_mul (F.x j) (F.w j _)) F.fq k

theorem bqb_neg (F : Fine A) (h : Fin 8) (n : Fin 32) : bqb B ⟨128 * h.val + n.val, by omega⟩ = -(ah A ⟨192 * h.val + (160 + n.val), by omega⟩) := by
  unfold bqb ah
  rw [← sum_mul_neg Finset.univ _ _ (aq_re L F) fun j => F.uq j _, bq_eq L]
  exact Finset.sum_congr rfl fun j _ => by rw [L.wb_neg j h n]

theorem bqb_pos (h : Fin 8) (n : Fin 32) : bqb B ⟨128 * h.val + (32 + n.val), by omega⟩ = ah A ⟨192 * h.val + (128 + n.val), by omega⟩ := by
  unfold bqb ah
  rw [bq_eq L]
  exact Finset.sum_congr rfl fun j _ => by rw [L.wb_pos j h n]

/-- One head's entry, by its place in the head. -/
theorem bout_eq (F : Fine A) (p : Fin 2048) : bout B p = aout A p := by
  obtain ⟨h, hh⟩ : ∃ h : Fin 8, h.val = p.val / 256 := ⟨⟨p.val / 256, by omega⟩, rfl⟩
  unfold bout pick aout
  by_cases h1 : p.val % 256 < 128
  · rw [if_pos h1, dif_pos h1]
    have e := bqa_eq L h ⟨p.val % 256, by omega⟩
    have i1 : p = ⟨256 * h.val + p.val % 256, by omega⟩ := Fin.ext (by show p.val = 256 * h.val + p.val % 256; omega)
    refine congrArg (fun a => a * Q) ((congrArg (bqa B) i1).trans (e.trans (congrArg (ah A) (Fin.ext ?_))))
    show 192 * h.val + p.val % 256 = 192 * (p.val / 256) + p.val % 256
    rw [hh]
  · rw [if_neg h1, dif_neg h1]
    by_cases h2 : p.val % 256 < 160
    · obtain ⟨n, hn⟩ : ∃ n : Fin 32, n.val = p.val % 256 - 128 := ⟨⟨p.val % 256 - 128, by omega⟩, rfl⟩
      rw [dif_pos (show p.val % 256 < 192 by omega)]
      unfold rot
      rw [dif_pos (show p.val % 256 - 128 < 32 by omega)]
      have i1 : p = ⟨256 * h.val + (128 + n.val), by omega⟩ := Fin.ext (by show p.val = 256 * h.val + (128 + n.val); omega)
      have ea := (congrArg (bqa B) i1).trans (bqa_eq L h ⟨128 + n.val, by omega⟩)
      have eb := bqb_neg L F h n
      have i2 : (⟨128 * (p.val / 256) + p.val % 128, by omega⟩ : Fin 1024) = ⟨128 * h.val + n.val, by omega⟩ := Fin.ext (by show 128 * (p.val / 256) + p.val % 128 = 128 * h.val + n.val; omega)
      have i3 : (⟨p.val % 128, by omega⟩ : Fin 128) = ⟨n.val, by omega⟩ := Fin.ext (by show p.val % 128 = n.val; omega)
      have i4 : (⟨p.val % 256 - 128, by omega⟩ : Fin 32) = n := Fin.ext hn.symm
      have i5 : (⟨192 * (p.val / 256) + (128 + (p.val % 256 - 128)), by omega⟩ : Fin 1536) = ⟨192 * h.val + (128 + n.val), by omega⟩ := Fin.ext (by show 192 * (p.val / 256) + (128 + (p.val % 256 - 128)) = 192 * h.val + (128 + n.val); omega)
      have i6 : (⟨192 * (p.val / 256) + (128 + (p.val % 256 - 128 + 32)), by omega⟩ : Fin 1536) = ⟨192 * h.val + (160 + n.val), by omega⟩ := Fin.ext (by show 192 * (p.val / 256) + (128 + (p.val % 256 - 128 + 32)) = 192 * h.val + (160 + n.val); omega)
      simp only [i2, i3, i4, i5, i6]
      rw [ea, eb, L.cs_lo n, L.sn_lo n, sub_eq_add_neg, add_mul_Q, EReal.neg_mul, EReal.neg_mul, mul_assoc, mul_assoc]
    · by_cases h3 : p.val % 256 < 192
      · obtain ⟨n, hn⟩ : ∃ n : Fin 32, n.val = p.val % 256 - 160 := ⟨⟨p.val % 256 - 160, by omega⟩, rfl⟩
        rw [dif_pos h3]
        unfold rot
        rw [dif_neg (show ¬ p.val % 256 - 128 < 32 by omega)]
        have i1 : p = ⟨256 * h.val + (160 + n.val), by omega⟩ := Fin.ext (by show p.val = 256 * h.val + (160 + n.val); omega)
        have ea := (congrArg (bqa B) i1).trans (bqa_eq L h ⟨160 + n.val, by omega⟩)
        have eb := bqb_pos L h n
        have i2 : (⟨128 * (p.val / 256) + p.val % 128, by omega⟩ : Fin 1024) = ⟨128 * h.val + (32 + n.val), by omega⟩ := Fin.ext (by show 128 * (p.val / 256) + p.val % 128 = 128 * h.val + (32 + n.val); omega)
        have i3 : (⟨p.val % 128, by omega⟩ : Fin 128) = ⟨32 + n.val, by omega⟩ := Fin.ext (by show p.val % 128 = 32 + n.val; omega)
        have i4 : (⟨p.val % 256 - 128 - 32, by omega⟩ : Fin 32) = n := Fin.ext (by show p.val % 256 - 128 - 32 = n.val; omega)
        have i5 : (⟨192 * (p.val / 256) + (128 + (p.val % 256 - 128)), by omega⟩ : Fin 1536) = ⟨192 * h.val + (160 + n.val), by omega⟩ := Fin.ext (by show 192 * (p.val / 256) + (128 + (p.val % 256 - 128)) = 192 * h.val + (160 + n.val); omega)
        have i6 : (⟨192 * (p.val / 256) + (128 + (p.val % 256 - 128 - 32)), by omega⟩ : Fin 1536) = ⟨192 * h.val + (128 + n.val), by omega⟩ := Fin.ext (by show 192 * (p.val / 256) + (128 + (p.val % 256 - 128 - 32)) = 192 * h.val + (128 + n.val); omega)
        simp only [i2, i3, i4, i5, i6]
        rw [ea, eb, L.cs_hi n, L.sn_hi n, add_mul_Q, mul_assoc, mul_assoc]
      · rw [dif_neg h3]
        have e3 := L.cs_end ⟨p.val % 128 - 64, by omega⟩
        have e4 := L.sn_end ⟨p.val % 128 - 64, by omega⟩
        have i3 : (⟨p.val % 128, by omega⟩ : Fin 128) = ⟨64 + (p.val % 128 - 64), by omega⟩ := Fin.ext (by show p.val % 128 = 64 + (p.val % 128 - 64); omega)
        simp only [i3]
        simp only at e3 e4
        rw [e3, e4, zero_mul, mul_zero, mul_zero, add_zero]

end

end Cert.MlaModel

end
-- ==== Proof.MlaKer.lean ====
module

public import proofs.«01_k».proof.Proof.MlaModel
public import proofs.«01_k».proof.Proof.Gen.Kernel7Ideal.Frame
public import Idealize.ShloMosaic.Lib.StableHlo.ReadAt
public import Idealize.ShloMosaic.Lib.Pipeline.Value
public import Idealize.ShloMosaic.Lib.Pipeline.ValueKit.Geometry

@[expose] public section

set_option maxRecDepth 16384

noncomputable section

namespace Cert.Kernel7Ideal.Mla

open Idealize.ShloMosaic Idealize.ShloMosaic.TcCoe Idealize.SL.Sem
open Cert.Kernel7Ideal.Gen Cert.MlaModel

/-- Row `r` of a point's blocks. -/
def brow (x0 : Vec Ideal S512x1024 .bf16) (x1 : Vec Ideal S1024x896 .bf16) (x2 : Vec Ideal S1x384 .f32) (x3 : Vec Ideal S384x2048 .bf16) (x4 : Vec Ideal S384x1024 .bf16) (x5 : Vec Ideal S1x256 .f32) (x6 : Vec Ideal S512x128 .f32) (x7 : Vec Ideal S512x128 .f32) (x8 : Vec Ideal S256x2048 .bf16) (r : Fin 512) : Blk :=
  ⟨fun k => x0 (ix2 r k), fun j k => x1 (ix2 j k), fun k => x2 (ix2 0 k), fun j k => x3 (ix2 j k), fun j k => x4 (ix2 j k), fun k => x5 (ix2 0 k), fun k => x6 (ix2 r k), fun k => x7 (ix2 r k), fun j k => x8 (ix2 j k)⟩

theorem zeros : (![0, 0] : Fin 2 → ℕ) = fun _ => 0 := by decide

section

variable (x0 : Vec Ideal S512x1024 .bf16) (x1 : Vec Ideal S1024x896 .bf16) (x2 : Vec Ideal S1x384 .f32) (x3 : Vec Ideal S384x2048 .bf16) (x4 : Vec Ideal S384x1024 .bf16) (x5 : Vec Ideal S1x256 .f32) (x6 : Vec Ideal S512x128 .f32) (x7 : Vec Ideal S512x128 .f32) (x8 : Vec Ideal S256x2048 .bf16)

theorem pay3_at (r : Fin 512) (k : Fin 896) : (k0_pay3 x0 x1 (ix2 r k) : EReal) = bz (brow x0 x1 x2 x3 x4 x5 x6 x7 x8 r) k := by
  pointwise [k0_pay3]
  rfl

theorem pay6_at (r : Fin 512) (k : Fin 384) : (k0_pay6 x0 x1 x2 (ix2 r k) : EReal) = bq (brow x0 x1 x2 x3 x4 x5 x6 x7 x8 r) k := by
  pointwise [k0_pay6, k0_pay3]
  rfl

theorem pay7_at (r : Fin 512) (k : Fin 2048) : (k0_pay7 x0 x1 x2 x3 (ix2 r k) : EReal) = bqa (brow x0 x1 x2 x3 x4 x5 x6 x7 x8 r) k := by
  pointwise [k0_pay7, k0_pay6, k0_pay3]
  rfl

theorem pay8_at (r : Fin 512) (k : Fin 1024) : (k0_pay8 x0 x1 x2 x4 (ix2 r k) : EReal) = bqb (brow x0 x1 x2 x3 x4 x5 x6 x7 x8 r) k := by
  pointwise [k0_pay8, k0_pay6, k0_pay3]
  rfl

theorem pay29_at (r : Fin 512) (k : Fin 256) : (k0_pay29 (k0_pay3 x0 x1) x5 (ix2 r k) : EReal) = bck (brow x0 x1 x2 x3 x4 x5 x6 x7 x8 r) k := by
  pointwise [k0_pay29, k0_pay3]
  rfl

theorem pay30_at (r : Fin 512) (k : Fin 128) : (k0_pay30 (k0_pay3 x0 x1) (k0_pay4 x6) (k0_pay5 x7) (ix2 r k) : EReal) = bkr (brow x0 x1 x2 x3 x4 x5 x6 x7 x8 r) k := by
  pointwise [k0_pay30, k0_pay3, k0_pay4, k0_pay5]
  rfl

theorem pay31_at (r : Fin 512) (k : Fin 64) : (k0_pay31 (k0_pay3 x0 x1) (k0_pay4 x6) (k0_pay5 x7) (ix2 r k) : EReal) = bkr (brow x0 x1 x2 x3 x4 x5 x6 x7 x8 r) ⟨0 + k.val, by omega⟩ := by
  pointwise [k0_pay31, k0_pay30, k0_pay3, k0_pay4, k0_pay5]
  rfl

theorem pay2_at (r : Fin 512) (e : Fin 2048) : (k0_pay2 (k0_pay29 (k0_pay3 x0 x1) x5) x8 (ix2 r e) : EReal) = bkv (brow x0 x1 x2 x3 x4 x5 x6 x7 x8 r) e := by
  pointwise [k0_pay2, k0_pay29, k0_pay3]
  rfl

end

/-- The queries' block from the two products and the scaled tables. -/
def qarr (a : FVec Ideal S512x2048 .f32) (b : FVec Ideal S512x1024 .f32) (c s : FVec Ideal S512x128 .f32) (y : S512x2048.Idx) : EReal :=
  pick (fun p => a (ix2 (y 0) p)) (fun p => b (ix2 (y 0) p)) (fun l => c (ix2 (y 0) l)) (fun l => s (ix2 (y 0) l)) (y 1)

theorem pick_lo (a : Fin 2048 → EReal) (b : Fin 1024 → EReal) (c s : Fin 128 → EReal) (h : ℕ) (l : Fin 128) (hp : 256 * h + l.val < 2048) :
    pick a b c s ⟨256 * h + l.val, hp⟩ = a ⟨256 * h + l.val, hp⟩ * Q := by
  unfold pick
  rw [if_pos (by show (256 * h + l.val) % 256 < 128; omega)]

theorem pick_hi (a : Fin 2048 → EReal) (b : Fin 1024 → EReal) (c s : Fin 128 → EReal) (h : ℕ) (l : Fin 128) (hp : 256 * h + 128 + l.val < 2048) :
    pick a b c s ⟨256 * h + 128 + l.val, hp⟩ = a ⟨256 * h + 128 + l.val, hp⟩ * c l + b ⟨128 * h + l.val, by omega⟩ * s l := by
  unfold pick
  rw [if_neg (by show ¬ (256 * h + 128 + l.val) % 256 < 128; omega)]
  have i1 : (⟨(256 * h + 128 + l.val) % 128, by omega⟩ : Fin 128) = l := Fin.ext (by show (256 * h + 128 + l.val) % 128 = l.val; omega)
  have i2 : (⟨128 * ((256 * h + 128 + l.val) / 256) + (256 * h + 128 + l.val) % 128, by omega⟩ : Fin 1024) = ⟨128 * h + l.val, by omega⟩ := Fin.ext (by show 128 * ((256 * h + 128 + l.val) / 256) + (256 * h + 128 + l.val) % 128 = 128 * h + l.val; omega)
  simp only [i1, i2]

section

variable (a : FVec Ideal S512x2048 .f32) (b : FVec Ideal S512x1024 .f32) (c s : FVec Ideal S512x128 .f32)

theorem hi_0 (r : Fin 512) (l : Fin 128) : (k0_pay13 a b c s (ix2 r l) : EReal) = a (ix2 r (⟨128 + l.val, by omega⟩ : Fin 2048)) * c (ix2 r l) + b (ix2 r (⟨0 + l.val, by omega⟩ : Fin 1024)) * s (ix2 r l) := by
  pointwise [k0_pay13]

theorem lo_1 (r : Fin 512) (l : Fin 128) : (k0_pay14 a (ix2 r l) : EReal) = a (ix2 r (⟨256 + l.val, by omega⟩ : Fin 2048)) * Q := by
  pointwise [k0_pay14]
  rfl

theorem hi_1 (r : Fin 512) (l : Fin 128) : (k0_pay15 a b c s (ix2 r l) : EReal) = a (ix2 r (⟨384 + l.val, by omega⟩ : Fin 2048)) * c (ix2 r l) + b (ix2 r (⟨128 + l.val, by omega⟩ : Fin 1024)) * s (ix2 r l) := by
  pointwise [k0_pay15]

theorem lo_2 (r : Fin 512) (l : Fin 128) : (k0_pay16 a (ix2 r l) : EReal) = a (ix2 r (⟨512 + l.val, by omega⟩ : Fin 2048)) * Q := by
  pointwise [k0_pay16]
  rfl

theorem hi_2 (r : Fin 512) (l : Fin 128) : (k0_pay17 a b c s (ix2 r l) : EReal) = a (ix2 r (⟨640 + l.val, by omega⟩ : Fin 2048)) * c (ix2 r l) + b (ix2 r (⟨256 + l.val, by omega⟩ : Fin 1024)) * s (ix2 r l) := by
  pointwise [k0_pay17]

theorem lo_3 (r : Fin 512) (l : Fin 128) : (k0_pay18 a (ix2 r l) : EReal) = a (ix2 r (⟨768 + l.val, by omega⟩ : Fin 2048)) * Q := by
  pointwise [k0_pay18]
  rfl

theorem hi_3 (r : Fin 512) (l : Fin 128) : (k0_pay19 a b c s (ix2 r l) : EReal) = a (ix2 r (⟨896 + l.val, by omega⟩ : Fin 2048)) * c (ix2 r l) + b (ix2 r (⟨384 + l.val, by omega⟩ : Fin 1024)) * s (ix2 r l) := by
  pointwise [k0_pay19]

theorem lo_4 (r : Fin 512) (l : Fin 128) : (k0_pay20 a (ix2 r l) : EReal) = a (ix2 r (⟨1024 + l.val, by omega⟩ : Fin 2048)) * Q := by
  pointwise [k0_pay20]
  rfl

theorem hi_4 (r : Fin 512) (l : Fin 128) : (k0_pay21 a b c s (ix2 r l) : EReal) = a (ix2 r (⟨1152 + l.val, by omega⟩ : Fin 2048)) * c (ix2 r l) + b (ix2 r (⟨512 + l.val, by omega⟩ : Fin 1024)) * s (ix2 r l) := by
  pointwise [k0_pay21]

theorem lo_5 (r : Fin 512) (l : Fin 128) : (k0_pay22 a (ix2 r l) : EReal) = a (ix2 r (⟨1280 + l.val, by omega⟩ : Fin 2048)) * Q := by
  pointwise [k0_pay22]
  rfl

theorem hi_5 (r : Fin 512) (l : Fin 128) : (k0_pay23 a b c s (ix2 r l) : EReal) = a (ix2 r (⟨1408 + l.val, by omega⟩ : Fin 2048)) * c (ix2 r l) + b (ix2 r (⟨640 + l.val, by omega⟩ : Fin 1024)) * s (ix2 r l) := by
  pointwise [k0_pay23]

theorem lo_6 (r : Fin 512) (l : Fin 128) : (k0_pay24 a (ix2 r l) : EReal) = a (ix2 r (⟨1536 + l.val, by omega⟩ : Fin 2048)) * Q := by
  pointwise [k0_pay24]
  rfl

theorem hi_6 (r : Fin 512) (l : Fin 128) : (k0_pay26 b c s (k0_pay25 a) (ix2 r l) : EReal) = a (ix2 r (⟨1664 + l.val, by omega⟩ : Fin 2048)) * c (ix2 r l) + b (ix2 r (⟨768 + l.val, by omega⟩ : Fin 1024)) * s (ix2 r l) := by
  pointwise [k0_pay26, k0_pay25]

theorem lo_7 (r : Fin 512) (l : Fin 128) : (k0_pay27 a (ix2 r l) : EReal) = a (ix2 r (⟨1792 + l.val, by omega⟩ : Fin 2048)) * Q := by
  pointwise [k0_pay27]
  rfl

theorem hi_7 (r : Fin 512) (l : Fin 128) : (k0_pay28 a b c s (ix2 r l) : EReal) = a (ix2 r (⟨1920 + l.val, by omega⟩ : Fin 2048)) * c (ix2 r l) + b (ix2 r (⟨896 + l.val, by omega⟩ : Fin 1024)) * s (ix2 r l) := by
  pointwise [k0_pay28]

theorem ix_eta {p q : ℕ} (x : (⟨2, ![p, q]⟩ : Shape).Idx) : x = ix2 (x 0) (x 1) := by
  funext a
  match a with
  | 0 => rfl
  | 1 => rfl

theorem emb_0 (x : S512x128.Idx) : r0_6.emb x = ix2 (x 0) (⟨0 + (x 1).val, by have : (x 1).val < 128 := (x 1).isLt; omega⟩ : Fin 2048) := by
  funext a
  match a with
  | 0 => exact Fin.ext (by show 0 + 1 * (x 0).val = (x 0).val; omega)
  | 1 => exact Fin.ext (by show 0 + 1 * (x 1).val = 0 + (x 1).val; omega)

theorem emb_1 (x : S512x128.Idx) : r0_7.emb x = ix2 (x 0) (⟨128 + (x 1).val, by have : (x 1).val < 128 := (x 1).isLt; omega⟩ : Fin 2048) := by
  funext a
  match a with
  | 0 => exact Fin.ext (by show 0 + 1 * (x 0).val = (x 0).val; omega)
  | 1 => exact Fin.ext (by show 128 + 1 * (x 1).val = 128 + (x 1).val; omega)

theorem emb_2 (x : S512x128.Idx) : r0_8.emb x = ix2 (x 0) (⟨256 + (x 1).val, by have : (x 1).val < 128 := (x 1).isLt; omega⟩ : Fin 2048) := by
  funext a
  match a with
  | 0 => exact Fin.ext (by show 0 + 1 * (x 0).val = (x 0).val; omega)
  | 1 => exact Fin.ext (by show 256 + 1 * (x 1).val = 256 + (x 1).val; omega)

theorem emb_3 (x : S512x128.Idx) : r0_9.emb x = ix2 (x 0) (⟨384 + (x 1).val, by have : (x 1).val < 128 := (x 1).isLt; omega⟩ : Fin 2048) := by
  funext a
  match a with
  | 0 => exact Fin.ext (by show 0 + 1 * (x 0).val = (x 0).val; omega)
  | 1 => exact Fin.ext (by show 384 + 1 * (x 1).val = 384 + (x 1).val; omega)

theorem emb_4 (x : S512x128.Idx) : r0_10.emb x = ix2 (x 0) (⟨512 + (x 1).val, by have : (x 1).val < 128 := (x 1).isLt; omega⟩ : Fin 2048) := by
  funext a
  match a with
  | 0 => exact Fin.ext (by show 0 + 1 * (x 0).val = (x 0).val; omega)
  | 1 => exact Fin.ext (by show 512 + 1 * (x 1).val = 512 + (x 1).val; omega)

theorem emb_5 (x : S512x128.Idx) : r0_11.emb x = ix2 (x 0) (⟨640 + (x 1).val, by have : (x 1).val < 128 := (x 1).isLt; omega⟩ : Fin 2048) := by
  funext a
  match a with
  | 0 => exact Fin.ext (by show 0 + 1 * (x 0).val = (x 0).val; omega)
  | 1 => exact Fin.ext (by show 640 + 1 * (x 1).val = 640 + (x 1).val; omega)

theorem emb_6 (x : S512x128.Idx) : r0_12.emb x = ix2 (x 0) (⟨768 + (x 1).val, by have : (x 1).val < 128 := (x 1).isLt; omega⟩ : Fin 2048) := by
  funext a
  match a with
  | 0 => exact Fin.ext (by show 0 + 1 * (x 0).val = (x 0).val; omega)
  | 1 => exact Fin.ext (by show 768 + 1 * (x 1).val = 768 + (x 1).val; omega)

theorem emb_7 (x : S512x128.Idx) : r0_13.emb x = ix2 (x 0) (⟨896 + (x 1).val, by have : (x 1).val < 128 := (x 1).isLt; omega⟩ : Fin 2048) := by
  funext a
  match a with
  | 0 => exact Fin.ext (by show 0 + 1 * (x 0).val = (x 0).val; omega)
  | 1 => exact Fin.ext (by show 896 + 1 * (x 1).val = 896 + (x 1).val; omega)

theorem emb_8 (x : S512x128.Idx) : r0_14.emb x = ix2 (x 0) (⟨1024 + (x 1).val, by have : (x 1).val < 128 := (x 1).isLt; omega⟩ : Fin 2048) := by
  funext a
  match a with
  | 0 => exact Fin.ext (by show 0 + 1 * (x 0).val = (x 0).val; omega)
  | 1 => exact Fin.ext (by show 1024 + 1 * (x 1).val = 1024 + (x 1).val; omega)

theorem emb_9 (x : S512x128.Idx) : r0_15.emb x = ix2 (x 0) (⟨1152 + (x 1).val, by have : (x 1).val < 128 := (x 1).isLt; omega⟩ : Fin 2048) := by
  funext a
  match a with
  | 0 => exact Fin.ext (by show 0 + 1 * (x 0).val = (x 0).val; omega)
  | 1 => exact Fin.ext (by show 1152 + 1 * (x 1).val = 1152 + (x 1).val; omega)

theorem emb_10 (x : S512x128.Idx) : r0_16.emb x = ix2 (x 0) (⟨1280 + (x 1).val, by have : (x 1).val < 128 := (x 1).isLt; omega⟩ : Fin 2048) := by
  funext a
  match a with
  | 0 => exact Fin.ext (by show 0 + 1 * (x 0).val = (x 0).val; omega)
  | 1 => exact Fin.ext (by show 1280 + 1 * (x 1).val = 1280 + (x 1).val; omega)

theorem emb_11 (x : S512x128.Idx) : r0_17.emb x = ix2 (x 0) (⟨1408 + (x 1).val, by have : (x 1).val < 128 := (x 1).isLt; omega⟩ : Fin 2048) := by
  funext a
  match a with
  | 0 => exact Fin.ext (by show 0 + 1 * (x 0).val = (x 0).val; omega)
  | 1 => exact Fin.ext (by show 1408 + 1 * (x 1).val = 1408 + (x 1).val; omega)

theorem emb_12 (x : S512x128.Idx) : r0_18.emb x = ix2 (x 0) (⟨1536 + (x 1).val, by have : (x 1).val < 128 := (x 1).isLt; omega⟩ : Fin 2048) := by
  funext a
  match a with
  | 0 => exact Fin.ext (by show 0 + 1 * (x 0).val = (x 0).val; omega)
  | 1 => exact Fin.ext (by show 1536 + 1 * (x 1).val = 1536 + (x 1).val; omega)

theorem emb_13 (x : S512x128.Idx) : r0_19.emb x = ix2 (x 0) (⟨1664 + (x 1).val, by have : (x 1).val < 128 := (x 1).isLt; omega⟩ : Fin 2048) := by
  funext a
  match a with
  | 0 => exact Fin.ext (by show 0 + 1 * (x 0).val = (x 0).val; omega)
  | 1 => exact Fin.ext (by show 1664 + 1 * (x 1).val = 1664 + (x 1).val; omega)

theorem emb_14 (x : S512x128.Idx) : r0_20.emb x = ix2 (x 0) (⟨1792 + (x 1).val, by have : (x 1).val < 128 := (x 1).isLt; omega⟩ : Fin 2048) := by
  funext a
  match a with
  | 0 => exact Fin.ext (by show 0 + 1 * (x 0).val = (x 0).val; omega)
  | 1 => exact Fin.ext (by show 1792 + 1 * (x 1).val = 1792 + (x 1).val; omega)

theorem emb_15 (x : S512x128.Idx) : r0_21.emb x = ix2 (x 0) (⟨1920 + (x 1).val, by have : (x 1).val < 128 := (x 1).isLt; omega⟩ : Fin 2048) := by
  funext a
  match a with
  | 0 => exact Fin.ext (by show 0 + 1 * (x 0).val = (x 0).val; omega)
  | 1 => exact Fin.ext (by show 1920 + 1 * (x 1).val = 1920 + (x 1).val; omega)

theorem phi_0 (x : S512x128.Idx) : (k0_pay13 a b c s x : EReal) = qarr a b c s (r0_7.emb x) := by
  rw [emb_1]
  refine (congrArg (k0_pay13 a b c s) (ix_eta x)).trans ((hi_0 a b c s (x 0) (x 1)).trans ?_)
  exact (pick_hi (fun p => a (ix2 (x 0) p)) (fun p => b (ix2 (x 0) p)) (fun l => c (ix2 (x 0) l)) (fun l => s (ix2 (x 0) l)) 0 (x 1) _).symm

theorem plo_1 (x : S512x128.Idx) : (k0_pay14 a x : EReal) = qarr a b c s (r0_8.emb x) := by
  rw [emb_2]
  refine (congrArg (k0_pay14 a) (ix_eta x)).trans ((lo_1 a (x 0) (x 1)).trans ?_)
  exact (pick_lo (fun p => a (ix2 (x 0) p)) (fun p => b (ix2 (x 0) p)) (fun l => c (ix2 (x 0) l)) (fun l => s (ix2 (x 0) l)) 1 (x 1) _).symm

theorem phi_1 (x : S512x128.Idx) : (k0_pay15 a b c s x : EReal) = qarr a b c s (r0_9.emb x) := by
  rw [emb_3]
  refine (congrArg (k0_pay15 a b c s) (ix_eta x)).trans ((hi_1 a b c s (x 0) (x 1)).trans ?_)
  exact (pick_hi (fun p => a (ix2 (x 0) p)) (fun p => b (ix2 (x 0) p)) (fun l => c (ix2 (x 0) l)) (fun l => s (ix2 (x 0) l)) 1 (x 1) _).symm

theorem plo_2 (x : S512x128.Idx) : (k0_pay16 a x : EReal) = qarr a b c s (r0_10.emb x) := by
  rw [emb_4]
  refine (congrArg (k0_pay16 a) (ix_eta x)).trans ((lo_2 a (x 0) (x 1)).trans ?_)
  exact (pick_lo (fun p => a (ix2 (x 0) p)) (fun p => b (ix2 (x 0) p)) (fun l => c (ix2 (x 0) l)) (fun l => s (ix2 (x 0) l)) 2 (x 1) _).symm

theorem phi_2 (x : S512x128.Idx) : (k0_pay17 a b c s x : EReal) = qarr a b c s (r0_11.emb x) := by
  rw [emb_5]
  refine (congrArg (k0_pay17 a b c s) (ix_eta x)).trans ((hi_2 a b c s (x 0) (x 1)).trans ?_)
  exact (pick_hi (fun p => a (ix2 (x 0) p)) (fun p => b (ix2 (x 0) p)) (fun l => c (ix2 (x 0) l)) (fun l => s (ix2 (x 0) l)) 2 (x 1) _).symm

theorem plo_3 (x : S512x128.Idx) : (k0_pay18 a x : EReal) = qarr a b c s (r0_12.emb x) := by
  rw [emb_6]
  refine (congrArg (k0_pay18 a) (ix_eta x)).trans ((lo_3 a (x 0) (x 1)).trans ?_)
  exact (pick_lo (fun p => a (ix2 (x 0) p)) (fun p => b (ix2 (x 0) p)) (fun l => c (ix2 (x 0) l)) (fun l => s (ix2 (x 0) l)) 3 (x 1) _).symm

theorem phi_3 (x : S512x128.Idx) : (k0_pay19 a b c s x : EReal) = qarr a b c s (r0_13.emb x) := by
  rw [emb_7]
  refine (congrArg (k0_pay19 a b c s) (ix_eta x)).trans ((hi_3 a b c s (x 0) (x 1)).trans ?_)
  exact (pick_hi (fun p => a (ix2 (x 0) p)) (fun p => b (ix2 (x 0) p)) (fun l => c (ix2 (x 0) l)) (fun l => s (ix2 (x 0) l)) 3 (x 1) _).symm

theorem plo_4 (x : S512x128.Idx) : (k0_pay20 a x : EReal) = qarr a b c s (r0_14.emb x) := by
  rw [emb_8]
  refine (congrArg (k0_pay20 a) (ix_eta x)).trans ((lo_4 a (x 0) (x 1)).trans ?_)
  exact (pick_lo (fun p => a (ix2 (x 0) p)) (fun p => b (ix2 (x 0) p)) (fun l => c (ix2 (x 0) l)) (fun l => s (ix2 (x 0) l)) 4 (x 1) _).symm

theorem phi_4 (x : S512x128.Idx) : (k0_pay21 a b c s x : EReal) = qarr a b c s (r0_15.emb x) := by
  rw [emb_9]
  refine (congrArg (k0_pay21 a b c s) (ix_eta x)).trans ((hi_4 a b c s (x 0) (x 1)).trans ?_)
  exact (pick_hi (fun p => a (ix2 (x 0) p)) (fun p => b (ix2 (x 0) p)) (fun l => c (ix2 (x 0) l)) (fun l => s (ix2 (x 0) l)) 4 (x 1) _).symm

theorem plo_5 (x : S512x128.Idx) : (k0_pay22 a x : EReal) = qarr a b c s (r0_16.emb x) := by
  rw [emb_10]
  refine (congrArg (k0_pay22 a) (ix_eta x)).trans ((lo_5 a (x 0) (x 1)).trans ?_)
  exact (pick_lo (fun p => a (ix2 (x 0) p)) (fun p => b (ix2 (x 0) p)) (fun l => c (ix2 (x 0) l)) (fun l => s (ix2 (x 0) l)) 5 (x 1) _).symm

theorem phi_5 (x : S512x128.Idx) : (k0_pay23 a b c s x : EReal) = qarr a b c s (r0_17.emb x) := by
  rw [emb_11]
  refine (congrArg (k0_pay23 a b c s) (ix_eta x)).trans ((hi_5 a b c s (x 0) (x 1)).trans ?_)
  exact (pick_hi (fun p => a (ix2 (x 0) p)) (fun p => b (ix2 (x 0) p)) (fun l => c (ix2 (x 0) l)) (fun l => s (ix2 (x 0) l)) 5 (x 1) _).symm

theorem plo_6 (x : S512x128.Idx) : (k0_pay24 a x : EReal) = qarr a b c s (r0_18.emb x) := by
  rw [emb_12]
  refine (congrArg (k0_pay24 a) (ix_eta x)).trans ((lo_6 a (x 0) (x 1)).trans ?_)
  exact (pick_lo (fun p => a (ix2 (x 0) p)) (fun p => b (ix2 (x 0) p)) (fun l => c (ix2 (x 0) l)) (fun l => s (ix2 (x 0) l)) 6 (x 1) _).symm

theorem phi_6 (x : S512x128.Idx) : (k0_pay26 b c s (k0_pay25 a) x : EReal) = qarr a b c s (r0_19.emb x) := by
  rw [emb_13]
  refine (congrArg (k0_pay26 b c s (k0_pay25 a)) (ix_eta x)).trans ((hi_6 a b c s (x 0) (x 1)).trans ?_)
  exact (pick_hi (fun p => a (ix2 (x 0) p)) (fun p => b (ix2 (x 0) p)) (fun l => c (ix2 (x 0) l)) (fun l => s (ix2 (x 0) l)) 6 (x 1) _).symm

theorem plo_7 (x : S512x128.Idx) : (k0_pay27 a x : EReal) = qarr a b c s (r0_20.emb x) := by
  rw [emb_14]
  refine (congrArg (k0_pay27 a) (ix_eta x)).trans ((lo_7 a (x 0) (x 1)).trans ?_)
  exact (pick_lo (fun p => a (ix2 (x 0) p)) (fun p => b (ix2 (x 0) p)) (fun l => c (ix2 (x 0) l)) (fun l => s (ix2 (x 0) l)) 7 (x 1) _).symm

theorem phi_7 (x : S512x128.Idx) : (k0_pay28 a b c s x : EReal) = qarr a b c s (r0_21.emb x) := by
  rw [emb_15]
  refine (congrArg (k0_pay28 a b c s) (ix_eta x)).trans ((hi_7 a b c s (x 0) (x 1)).trans ?_)
  exact (pick_hi (fun p => a (ix2 (x 0) p)) (fun p => b (ix2 (x 0) p)) (fun l => c (ix2 (x 0) l)) (fun l => s (ix2 (x 0) l)) 7 (x 1) _).symm

end

section

variable (x0 : Vec Ideal S512x1024 .bf16) (x1 : Vec Ideal S1024x896 .bf16) (x2 : Vec Ideal S1x384 .f32) (x3 : Vec Ideal S384x2048 .bf16) (x4 : Vec Ideal S384x1024 .bf16) (x5 : Vec Ideal S1x256 .f32) (x6 : Vec Ideal S512x128 .f32) (x7 : Vec Ideal S512x128 .f32) (x8 : Vec Ideal S256x2048 .bf16)

theorem plo_0 (b : FVec Ideal S512x1024 .f32) (c s : FVec Ideal S512x128 .f32) (x : S512x128.Idx) : (k0_pay12 (k0_pay11 x0 x1 x2 x3) x : EReal) = qarr (k0_pay7 x0 x1 x2 x3) b c s (r0_6.emb x) := by
  rw [emb_0]
  refine (congrArg (k0_pay12 (k0_pay11 x0 x1 x2 x3)) (ix_eta x)).trans ?_
  refine Eq.trans ?_ (pick_lo (fun p => k0_pay7 x0 x1 x2 x3 (ix2 (x 0) p)) (fun p => b (ix2 (x 0) p)) (fun l => c (ix2 (x 0) l)) (fun l => s (ix2 (x 0) l)) 0 (x 1) _).symm
  pointwise [k0_pay12, k0_pay11]
  rfl

theorem out9_at (r : Fin 512) (p : Fin 2048) : (out0_9 x0 x1 x2 x3 x4 x5 x6 x7 x8 (ix2 r p) : EReal) = bout (brow x0 x1 x2 x3 x4 x5 x6 x7 x8 r) p := by
  unfold out0_9 k0_pay35 k0_pay36 k0_pay37 k0_pay38
  repeat rw [View.ld_unit_zero zeros]
  refine (View.canon_apply_of_pieces (Val := Elt Ideal) (qarr (k0_pay7 x0 x1 x2 x3) (k0_pay8 x0 x1 x2 x4) (k0_pay9 x6) (k0_pay10 x7)) _ ?_ (ix2 r p) (cover0_9 _ _ _ _ _ _ _ _ _ _ _ _ _ _ _ _ _)).trans ?_
  · simp only [List.forall_mem_cons]
    refine ⟨fun x => phi_7 _ _ _ _ x, fun x => plo_7 _ _ _ _ x, fun x => phi_6 _ _ _ _ x, fun x => plo_6 _ _ _ _ x, fun x => phi_5 _ _ _ _ x, fun x => plo_5 _ _ _ _ x, fun x => phi_4 _ _ _ _ x, fun x => plo_4 _ _ _ _ x, fun x => phi_3 _ _ _ _ x, fun x => plo_3 _ _ _ _ x, fun x => phi_2 _ _ _ _ x, fun x => plo_2 _ _ _ _ x, fun x => phi_1 _ _ _ _ x, fun x => plo_1 _ _ _ _ x, fun x => phi_0 _ _ _ _ x, fun x => plo_0 x0 x1 x2 x3 _ _ _ x, fun _ h => absurd h (List.not_mem_nil)⟩
  · unfold qarr bout
    refine congrFun (congr (congr (congr (congrArg pick (funext fun k => pay7_at x0 x1 x2 x3 x4 x5 x6 x7 x8 r k)) (funext fun k => pay8_at x0 x1 x2 x3 x4 x5 x6 x7 x8 r k)) (funext fun l => ?_)) (funext fun l => ?_)) p
    · pointwise [k0_pay9, k0_pay4]
      rfl
    · pointwise [k0_pay10, k0_pay5]
      rfl

theorem out10_at (r : Fin 512) (e : Fin 256) : (out0_10 x0 x1 x2 x3 x4 x5 x6 x7 x8 (ix2 r e) : EReal) = bck (brow x0 x1 x2 x3 x4 x5 x6 x7 x8 r) e := by
  unfold out0_10 k0_pay32
  rw [View.canon_unit_zero zeros]
  repeat rw [View.ld_unit_zero zeros]
  exact pay29_at x0 x1 x2 x3 x4 x5 x6 x7 x8 r e

theorem out11_at (r : Fin 512) (e : Fin 64) : (out0_11 x0 x1 x2 x3 x4 x5 x6 x7 x8 (ix2 r e) : EReal) = bkr (brow x0 x1 x2 x3 x4 x5 x6 x7 x8 r) ⟨0 + e.val, by omega⟩ := by
  unfold out0_11 k0_pay32 k0_pay33 k0_pay34
  rw [View.canon_unit_zero zeros]
  repeat rw [View.ld_unit_zero zeros]
  exact pay31_at x0 x1 x2 x3 x4 x5 x6 x7 x8 r e

theorem out12_at (r : Fin 512) (e : Fin 128) : (out0_12 x0 x1 x2 x3 x4 x5 x6 x7 x8 (ix2 r e) : EReal) = bkr (brow x0 x1 x2 x3 x4 x5 x6 x7 x8 r) e := by
  unfold out0_12 k0_pay32 k0_pay33 k0_pay34
  rw [View.canon_unit_zero zeros]
  repeat rw [View.ld_unit_zero zeros]
  exact (show (k0_pay1 (k0_pay30 (k0_pay3 x0 x1) (k0_pay4 x6) (k0_pay5 x7)) (ix2 r e) : EReal) = k0_pay30 (k0_pay3 x0 x1) (k0_pay4 x6) (k0_pay5 x7) (ix2 r e) from by pointwise [k0_pay1]).trans (pay30_at x0 x1 x2 x3 x4 x5 x6 x7 x8 r e)

theorem out13_at (r : Fin 512) (e : Fin 2048) : (out0_13 x0 x1 x2 x3 x4 x5 x6 x7 x8 (ix2 r e) : EReal) = bkv (brow x0 x1 x2 x3 x4 x5 x6 x7 x8 r) e := by
  unfold out0_13 k0_pay32
  rw [View.canon_unit_zero zeros]
  repeat rw [View.ld_unit_zero zeros]
  exact pay2_at x0 x1 x2 x3 x4 x5 x6 x7 x8 r e

end

section

variable (m : (ℓ : Loc nD τ sig) → Buf (Elt Ideal) ℓ)

/-! ## What the host prepares -/

theorem wc_at (c : Dev nD) (j : Fin 1024) (k : Fin 704) : (V m c main_v7 (ix2 j (⟨k.val, by omega⟩ : Fin 896)) : EReal) = m ((c.tc : Thread nD τ).loc main_arg1) (ix2 j (⟨9216 + k.val, by omega⟩ : Fin 10240)) := by
  unfold V
  after_reads_at
  after_reads_at

theorem wc_pad (c : Dev nD) (j : Fin 1024) (k : Fin 64) : (V m c main_v7 (ix2 j (⟨704 + k.val, by omega⟩ : Fin 896)) : EReal) = (0 : EReal) := by
  unfold V
  after_reads_at
  after_reads_at

theorem wc_neg (c : Dev nD) (j : Fin 1024) (k : Fin 32) : (V m c main_v7 (ix2 j (⟨768 + k.val, by omega⟩ : Fin 896)) : EReal) = Neg.neg (α := EReal) (m ((c.tc : Thread nD τ).loc main_arg1) (ix2 j (⟨9888 + k.val, by omega⟩ : Fin 10240))) := by
  unfold V
  after_reads_at
  after_reads_at
  rw [dif_neg (show ¬ 768 + k.val < 704 by omega)]
  rw [dif_neg (show ¬ 768 + k.val - 704 < 64 by omega)]
  rw [dif_pos (show 768 + k.val - 704 - 64 < 64 by omega)]
  rw [dif_pos (show 768 + k.val - 704 - 64 < 32 by omega)]
  exact congrArg (fun i => Neg.neg (α := EReal) (m ((c.tc : Thread nD τ).loc main_arg1) (ix2 j i))) (Fin.ext (by show 9216 + (640 + (32 + (768 + k.val - 704 - 64))) = 9888 + k.val; omega))

theorem wc_pos (c : Dev nD) (j : Fin 1024) (k : Fin 32) : (V m c main_v7 (ix2 j (⟨800 + k.val, by omega⟩ : Fin 896)) : EReal) = m ((c.tc : Thread nD τ).loc main_arg1) (ix2 j (⟨9856 + k.val, by omega⟩ : Fin 10240)) := by
  unfold V
  after_reads_at
  after_reads_at
  rw [dif_neg (show ¬ 800 + k.val < 704 by omega)]
  rw [dif_neg (show ¬ 800 + k.val - 704 < 64 by omega)]
  rw [dif_pos (show 800 + k.val - 704 - 64 < 64 by omega)]
  rw [dif_neg (show ¬ 800 + k.val - 704 - 64 < 32 by omega)]
  exact congrArg (fun i => (m ((c.tc : Thread nD τ).loc main_arg1) (ix2 j i))) (Fin.ext (by show 9216 + (640 + (800 + k.val - 704 - 64 - 32)) = 9856 + k.val; omega))

theorem wc_end (c : Dev nD) (j : Fin 1024) (k : Fin 64) : (V m c main_v7 (ix2 j (⟨832 + k.val, by omega⟩ : Fin 896)) : EReal) = (0 : EReal) := by
  unfold V
  after_reads_at
  after_reads_at
  rw [dif_neg (show ¬ 832 + k.val < 704 by omega)]
  rw [dif_neg (show ¬ 832 + k.val - 704 < 64 by omega)]
  rw [dif_neg (show ¬ 832 + k.val - 704 - 64 < 64 by omega)]

theorem wa_at (c : Dev nD) (j : Fin 384) (h : Fin 8) (n : Fin 192) : (V m c main_v13 (ix2 j (⟨256 * h.val + n.val, by omega⟩ : Fin 2048)) : EReal) = m ((c.tc : Thread nD τ).loc main_arg3) (ix2 j (⟨192 * h.val + n.val, by omega⟩ : Fin 1536)) := by
  unfold V
  after_reads_at
  rw [dif_pos (show (256 * h.val + n.val) % 256 < 192 by omega)]
  after_reads_at
  exact congrArg (fun i => m ((c.tc : Thread nD τ).loc main_arg3) (ix2 j i)) (Fin.ext (by show (256 * h.val + n.val) / 256 * 192 + (256 * h.val + n.val) % 256 = 192 * h.val + n.val; omega))

theorem wa_pad (c : Dev nD) (j : Fin 384) (h : Fin 8) (n : Fin 64) : (V m c main_v13 (ix2 j (⟨256 * h.val + (192 + n.val), by omega⟩ : Fin 2048)) : EReal) = (0 : EReal) := by
  unfold V
  after_reads_at
  rw [dif_neg (show ¬ (256 * h.val + (192 + n.val)) % 256 < 192 by omega)]
  after_reads_at

theorem wb_neg (c : Dev nD) (j : Fin 384) (h : Fin 8) (n : Fin 32) : (V m c main_v20 (ix2 j (⟨128 * h.val + n.val, by omega⟩ : Fin 1024)) : EReal) = Neg.neg (α := EReal) (m ((c.tc : Thread nD τ).loc main_arg3) (ix2 j (⟨192 * h.val + (160 + n.val), by omega⟩ : Fin 1536))) := by
  unfold V
  after_reads_at
  rw [dif_pos (show (128 * h.val + n.val) % 128 < 64 by omega)]
  after_reads_at
  rw [dif_pos (show (128 * h.val + n.val) % 128 < 32 by omega)]
  exact congrArg (fun i => Neg.neg (α := EReal) (m ((c.tc : Thread nD τ).loc main_arg3) (ix2 j i))) (Fin.ext (by show (128 * h.val + n.val) / 128 * 192 + (128 + (32 + (128 * h.val + n.val) % 128)) = 192 * h.val + (160 + n.val); omega))

theorem wb_pos (c : Dev nD) (j : Fin 384) (h : Fin 8) (n : Fin 32) : (V m c main_v20 (ix2 j (⟨128 * h.val + (32 + n.val), by omega⟩ : Fin 1024)) : EReal) = m ((c.tc : Thread nD τ).loc main_arg3) (ix2 j (⟨192 * h.val + (128 + n.val), by omega⟩ : Fin 1536)) := by
  unfold V
  after_reads_at
  rw [dif_pos (show (128 * h.val + (32 + n.val)) % 128 < 64 by omega)]
  after_reads_at
  rw [dif_neg (show ¬ (128 * h.val + (32 + n.val)) % 128 < 32 by omega)]
  exact congrArg (fun i => (m ((c.tc : Thread nD τ).loc main_arg3) (ix2 j i) : EReal)) (Fin.ext (by show (128 * h.val + (32 + n.val)) / 128 * 192 + (128 + ((128 * h.val + (32 + n.val)) % 128 - 32)) = 192 * h.val + (128 + n.val); omega))

theorem cs_lo (c : Dev nD) (j : Fin 2048) (k : Fin 32) : (V m c main_v37 (ix2 j (⟨k.val, by omega⟩ : Fin 128)) : EReal) = Ideal.cos (angle j.val k.val) := by
  unfold V
  after_reads_at
  after_reads_at
  rfl

theorem cs_hi (c : Dev nD) (j : Fin 2048) (k : Fin 32) : (V m c main_v37 (ix2 j (⟨32 + k.val, by omega⟩ : Fin 128)) : EReal) = Ideal.cos (angle j.val k.val) := by
  unfold V
  after_reads_at
  after_reads_at
  rfl

theorem cs_end (c : Dev nD) (j : Fin 2048) (k : Fin 64) : (V m c main_v37 (ix2 j (⟨64 + k.val, by omega⟩ : Fin 128)) : EReal) = (0 : EReal) := by
  unfold V
  after_reads_at
  after_reads_at
  rw [dif_neg (show ¬ 64 + k.val < 32 by omega)]
  rw [dif_neg (show ¬ 64 + k.val - 32 < 32 by omega)]

theorem sn_lo (c : Dev nD) (j : Fin 2048) (k : Fin 32) : (V m c main_v38 (ix2 j (⟨k.val, by omega⟩ : Fin 128)) : EReal) = Ideal.sin (angle j.val k.val) := by
  unfold V
  after_reads_at
  after_reads_at
  rfl

theorem sn_hi (c : Dev nD) (j : Fin 2048) (k : Fin 32) : (V m c main_v38 (ix2 j (⟨32 + k.val, by omega⟩ : Fin 128)) : EReal) = Ideal.sin (angle j.val k.val) := by
  unfold V
  after_reads_at
  after_reads_at
  rfl

theorem sn_end (c : Dev nD) (j : Fin 2048) (k : Fin 64) : (V m c main_v38 (ix2 j (⟨64 + k.val, by omega⟩ : Fin 128)) : EReal) = (0 : EReal) := by
  unfold V
  after_reads_at
  after_reads_at
  rw [dif_neg (show ¬ 64 + k.val < 32 by omega)]
  rw [dif_neg (show ¬ 64 + k.val - 32 < 32 by omega)]

theorem wkv_at (c : Dev nD) (j : Fin 256) (k : Fin 2048) : (V m c main_v21 (ix2 j k) : EReal) = m ((c.tc : Thread nD τ).loc main_arg5) (ix2 j k) := by
  unfold V
  after_reads_at

theorem idx_0 (t : Fin cfg0.N) : (cfg0.win 0).index t = ![t.val, 0] := by revert t; decide +kernel
theorem idx_1 (t : Fin cfg0.N) : (cfg0.win 1).index t = ![0, 0] := by revert t; decide +kernel
theorem idx_2 (t : Fin cfg0.N) : (cfg0.win 2).index t = ![0, 0] := by revert t; decide +kernel
theorem idx_3 (t : Fin cfg0.N) : (cfg0.win 3).index t = ![0, 0] := by revert t; decide +kernel
theorem idx_4 (t : Fin cfg0.N) : (cfg0.win 4).index t = ![0, 0] := by revert t; decide +kernel
theorem idx_5 (t : Fin cfg0.N) : (cfg0.win 5).index t = ![0, 0] := by revert t; decide +kernel
theorem idx_6 (t : Fin cfg0.N) : (cfg0.win 6).index t = ![t.val % 4, 0] := by revert t; decide +kernel
theorem idx_7 (t : Fin cfg0.N) : (cfg0.win 7).index t = ![t.val % 4, 0] := by revert t; decide +kernel
theorem idx_8 (t : Fin cfg0.N) : (cfg0.win 8).index t = ![0, 0] := by revert t; decide +kernel
theorem idx_9 (t : Fin cfg0.N) : (cfg0.win 9).index t = ![t.val, 0] := by revert t; decide +kernel
theorem idx_10 (t : Fin cfg0.N) : (cfg0.win 10).index t = ![t.val, 0] := by revert t; decide +kernel
theorem idx_11 (t : Fin cfg0.N) : (cfg0.win 11).index t = ![t.val, 0] := by revert t; decide +kernel
theorem idx_12 (t : Fin cfg0.N) : (cfg0.win 12).index t = ![t.val, 0] := by revert t; decide +kernel
theorem idx_13 (t : Fin cfg0.N) : (cfg0.win 13).index t = ![t.val, 0] := by revert t; decide +kernel

/-- Row `r` of grid point `t`, in the array. -/
def gr (t : Fin cfg0.N) (r : Fin 512) : Fin 16384 := ⟨512 * t.val + r.val, by have : t.val < 32 := t.isLt; omega⟩

/-- Row `r` of grid point `t`, in the tables. -/
def gp (t : Fin cfg0.N) (r : Fin 512) : Fin 2048 := ⟨512 * (t.val % 4) + r.val, by omega⟩

theorem iblk_0 (c : Dev nD) (t : Fin cfg0.N) (r : Fin 512) (k : Fin 1024) : iblk m c 0 t (ix2 r k) = m ((c.tc : Thread nD τ).loc main_arg0) (ix2 (gr t r) k) := by
  rw [← V_main_arg0 m c]
  blk_ext [iblk, idx_0 t, gr]

theorem iblk_1 (c : Dev nD) (t : Fin cfg0.N) (j : Fin 1024) (k : Fin 896) : iblk m c 1 t (ix2 j k) = V m c main_v7 (ix2 j k) := by
  blk_ext [iblk, idx_1 t]

theorem iblk_2 (c : Dev nD) (t : Fin cfg0.N) (k : Fin 384) : iblk m c 2 t (ix2 0 k) = m ((c.tc : Thread nD τ).loc main_arg2) (ix2 0 k) := by
  rw [← V_main_arg2 m c]
  blk_ext [iblk, idx_2 t]

theorem iblk_3 (c : Dev nD) (t : Fin cfg0.N) (j : Fin 384) (k : Fin 2048) : iblk m c 3 t (ix2 j k) = V m c main_v13 (ix2 j k) := by
  blk_ext [iblk, idx_3 t]

theorem iblk_4 (c : Dev nD) (t : Fin cfg0.N) (j : Fin 384) (k : Fin 1024) : iblk m c 4 t (ix2 j k) = V m c main_v20 (ix2 j k) := by
  blk_ext [iblk, idx_4 t]

theorem iblk_5 (c : Dev nD) (t : Fin cfg0.N) (k : Fin 256) : iblk m c 5 t (ix2 0 k) = m ((c.tc : Thread nD τ).loc main_arg4) (ix2 0 k) := by
  rw [← V_main_arg4 m c]
  blk_ext [iblk, idx_5 t]

theorem iblk_6 (c : Dev nD) (t : Fin cfg0.N) (r : Fin 512) (k : Fin 128) : iblk m c 6 t (ix2 r k) = V m c main_v37 (ix2 (gp t r) k) := by
  blk_ext [iblk, idx_6 t, gp]

theorem iblk_7 (c : Dev nD) (t : Fin cfg0.N) (r : Fin 512) (k : Fin 128) : iblk m c 7 t (ix2 r k) = V m c main_v38 (ix2 (gp t r) k) := by
  blk_ext [iblk, idx_7 t, gp]

theorem iblk_8 (c : Dev nD) (t : Fin cfg0.N) (j : Fin 256) (k : Fin 2048) : iblk m c 8 t (ix2 j k) = V m c main_v21 (ix2 j k) := by
  blk_ext [iblk, idx_8 t]

/-- Row `i` of the arguments, with the weights. -/
def aarg (c : Dev nD) (i : Fin 16384) : Arg :=
  ⟨fun k => m ((c.tc : Thread nD τ).loc main_arg0) (ix2 i k), fun j k => m ((c.tc : Thread nD τ).loc main_arg1) (ix2 j k), fun k => m ((c.tc : Thread nD τ).loc main_arg2) (ix2 0 k), fun j k => m ((c.tc : Thread nD τ).loc main_arg3) (ix2 j k), fun k => m ((c.tc : Thread nD τ).loc main_arg4) (ix2 0 k), fun j k => m ((c.tc : Thread nD τ).loc main_arg5) (ix2 j k), fun k => Ideal.cos (angle (i.val % 2048) k.val), fun k => Ideal.sin (angle (i.val % 2048) k.val)⟩

/-- Row `r` of the blocks of grid point `t`. -/
def trow (c : Dev nD) (t : Fin cfg0.N) (r : Fin 512) : Blk :=
  brow (iblk m c 0 t) (iblk m c 1 t) (iblk m c 2 t) (iblk m c 3 t) (iblk m c 4 t) (iblk m c 5 t) (iblk m c 6 t) (iblk m c 7 t) (iblk m c 8 t) r

theorem gp_eq (t : Fin cfg0.N) (r : Fin 512) : (gp t r).val = (gr t r).val % 2048 := by
  show 512 * (t.val % 4) + r.val = (512 * t.val + r.val) % 2048
  omega

theorem t_wc (c : Dev nD) (t : Fin cfg0.N) (r : Fin 512) (j : Fin 1024) (k : Fin 896) : (trow m c t r).wc j k = V m c main_v7 (ix2 j k) := iblk_1 m c t j k

theorem t_wa (c : Dev nD) (t : Fin cfg0.N) (r : Fin 512) (j : Fin 384) (k : Fin 2048) : (trow m c t r).wa j k = V m c main_v13 (ix2 j k) := iblk_3 m c t j k

theorem t_wb (c : Dev nD) (t : Fin cfg0.N) (r : Fin 512) (j : Fin 384) (k : Fin 1024) : (trow m c t r).wb j k = V m c main_v20 (ix2 j k) := iblk_4 m c t j k

theorem t_cs (c : Dev nD) (t : Fin cfg0.N) (r : Fin 512) (k : Fin 128) : (trow m c t r).cs k = V m c main_v37 (ix2 (gp t r) k) := iblk_6 m c t r k

theorem t_sn (c : Dev nD) (t : Fin cfg0.N) (r : Fin 512) (k : Fin 128) : (trow m c t r).sn k = V m c main_v38 (ix2 (gp t r) k) := iblk_7 m c t r k

theorem l_x (c : Dev nD) (t : Fin cfg0.N) (r : Fin 512) : (trow m c t r).x = (aarg m c (gr t r)).x :=
  funext fun k => iblk_0 m c t r k

theorem l_fq (c : Dev nD) (t : Fin cfg0.N) (r : Fin 512) : (trow m c t r).fq = (aarg m c (gr t r)).fq :=
  funext fun k => iblk_2 m c t k

theorem l_fk (c : Dev nD) (t : Fin cfg0.N) (r : Fin 512) : (trow m c t r).fk = (aarg m c (gr t r)).fk :=
  funext fun k => iblk_5 m c t k

theorem l_wkv (c : Dev nD) (t : Fin cfg0.N) (r : Fin 512) : (trow m c t r).wkv = (aarg m c (gr t r)).wkv :=
  funext fun j => funext fun k => (iblk_8 m c t j k).trans (wkv_at m c j k)

theorem l_wc (c : Dev nD) (t : Fin cfg0.N) (r : Fin 512) : ∀ j (k : Fin 704), (trow m c t r).wc j ⟨k.val, by omega⟩ = (aarg m c (gr t r)).w j ⟨9216 + k.val, by omega⟩ :=
  fun j k => (t_wc m c t r j _).trans (wc_at m c j k)

theorem l_wc_pad (c : Dev nD) (t : Fin cfg0.N) (r : Fin 512) : ∀ j (k : Fin 64), (trow m c t r).wc j ⟨704 + k.val, by omega⟩ = 0 :=
  fun j k => (t_wc m c t r j _).trans (wc_pad m c j k)

theorem l_wc_neg (c : Dev nD) (t : Fin cfg0.N) (r : Fin 512) : ∀ j (k : Fin 32), (trow m c t r).wc j ⟨768 + k.val, by omega⟩ = -((aarg m c (gr t r)).w j ⟨9888 + k.val, by omega⟩) :=
  fun j k => (t_wc m c t r j _).trans (wc_neg m c j k)

theorem l_wc_pos (c : Dev nD) (t : Fin cfg0.N) (r : Fin 512) : ∀ j (k : Fin 32), (trow m c t r).wc j ⟨800 + k.val, by omega⟩ = (aarg m c (gr t r)).w j ⟨9856 + k.val, by omega⟩ :=
  fun j k => (t_wc m c t r j _).trans (wc_pos m c j k)

theorem l_wc_end (c : Dev nD) (t : Fin cfg0.N) (r : Fin 512) : ∀ j (k : Fin 64), (trow m c t r).wc j ⟨832 + k.val, by omega⟩ = 0 :=
  fun j k => (t_wc m c t r j _).trans (wc_end m c j k)

theorem l_wa (c : Dev nD) (t : Fin cfg0.N) (r : Fin 512) : ∀ j (h : Fin 8) (n : Fin 192), (trow m c t r).wa j ⟨256 * h.val + n.val, by omega⟩ = (aarg m c (gr t r)).uq j ⟨192 * h.val + n.val, by omega⟩ :=
  fun j h n => (t_wa m c t r j _).trans (wa_at m c j h n)

theorem l_wa_pad (c : Dev nD) (t : Fin cfg0.N) (r : Fin 512) : ∀ j (h : Fin 8) (n : Fin 64), (trow m c t r).wa j ⟨256 * h.val + (192 + n.val), by omega⟩ = 0 :=
  fun j h n => (t_wa m c t r j _).trans (wa_pad m c j h n)

theorem l_wb_neg (c : Dev nD) (t : Fin cfg0.N) (r : Fin 512) : ∀ j (h : Fin 8) (n : Fin 32), (trow m c t r).wb j ⟨128 * h.val + n.val, by omega⟩ = -((aarg m c (gr t r)).uq j ⟨192 * h.val + (160 + n.val), by omega⟩) :=
  fun j h n => (t_wb m c t r j _).trans (wb_neg m c j h n)

theorem l_wb_pos (c : Dev nD) (t : Fin cfg0.N) (r : Fin 512) : ∀ j (h : Fin 8) (n : Fin 32), (trow m c t r).wb j ⟨128 * h.val + (32 + n.val), by omega⟩ = (aarg m c (gr t r)).uq j ⟨192 * h.val + (128 + n.val), by omega⟩ :=
  fun j h n => (t_wb m c t r j _).trans (wb_pos m c j h n)

theorem l_cs_lo (c : Dev nD) (t : Fin cfg0.N) (r : Fin 512) : ∀ k : Fin 32, (trow m c t r).cs ⟨k.val, by omega⟩ = (aarg m c (gr t r)).c k :=
  fun k => (t_cs m c t r _).trans ((cs_lo m c _ k).trans (congrArg (fun p => Ideal.cos (angle p k.val)) (gp_eq t r)))

theorem l_cs_hi (c : Dev nD) (t : Fin cfg0.N) (r : Fin 512) : ∀ k : Fin 32, (trow m c t r).cs ⟨32 + k.val, by omega⟩ = (aarg m c (gr t r)).c k :=
  fun k => (t_cs m c t r _).trans ((cs_hi m c _ k).trans (congrArg (fun p => Ideal.cos (angle p k.val)) (gp_eq t r)))

theorem l_cs_end (c : Dev nD) (t : Fin cfg0.N) (r : Fin 512) : ∀ k : Fin 64, (trow m c t r).cs ⟨64 + k.val, by omega⟩ = 0 :=
  fun k => (t_cs m c t r _).trans (cs_end m c _ k)

theorem l_sn_lo (c : Dev nD) (t : Fin cfg0.N) (r : Fin 512) : ∀ k : Fin 32, (trow m c t r).sn ⟨k.val, by omega⟩ = (aarg m c (gr t r)).s k :=
  fun k => (t_sn m c t r _).trans ((sn_lo m c _ k).trans (congrArg (fun p => Ideal.sin (angle p k.val)) (gp_eq t r)))

theorem l_sn_hi (c : Dev nD) (t : Fin cfg0.N) (r : Fin 512) : ∀ k : Fin 32, (trow m c t r).sn ⟨32 + k.val, by omega⟩ = (aarg m c (gr t r)).s k :=
  fun k => (t_sn m c t r _).trans ((sn_hi m c _ k).trans (congrArg (fun p => Ideal.sin (angle p k.val)) (gp_eq t r)))

theorem l_sn_end (c : Dev nD) (t : Fin cfg0.N) (r : Fin 512) : ∀ k : Fin 64, (trow m c t r).sn ⟨64 + k.val, by omega⟩ = 0 :=
  fun k => (t_sn m c t r _).trans (sn_end m c _ k)

theorem laid (c : Dev nD) (t : Fin cfg0.N) (r : Fin 512) : Laid (trow m c t r) (aarg m c (gr t r)) :=
  ⟨l_x m c t r, l_fq m c t r, l_fk m c t r, l_wkv m c t r, l_wc m c t r, l_wc_pad m c t r, l_wc_neg m c t r, l_wc_pos m c t r, l_wc_end m c t r, l_wa m c t r, l_wa_pad m c t r, l_wb_neg m c t r, l_wb_pos m c t r, l_cs_lo m c t r, l_cs_hi m c t r, l_cs_end m c t r, l_sn_lo m c t r, l_sn_hi m c t r, l_sn_end m c t r⟩

/-! ## The results -/

theorem arr_9 (c : Dev nD) (F : ∀ c i, Fine (aarg m c i)) : (dats m 0 c).arrAt 9 cfg0.N = fun y => aout (aarg m c (y 0)) (y 1) := by
  refine (dats m 0 c).arrAt_eq_of_covers 9 _ (by decide +kernel) fun t hf y => ?_
  blk_simp
  rw [after0_9]
  refine (congrArg (out0_9 (iblk m c 0 t) (iblk m c 1 t) (iblk m c 2 t) (iblk m c 3 t) (iblk m c 4 t) (iblk m c 5 t) (iblk m c 6 t) (iblk m c 7 t) (iblk m c 8 t)) (ix_eta y)).trans ((out9_at _ _ _ _ _ _ _ _ _ (y 0) (y 1)).trans ?_)
  refine (bout_eq (laid m c t (y 0)) (F c _) (y 1)).trans ?_
  refine congrArg₂ (fun i e => aout (aarg m c i) e) (Fin.ext ?_) (Fin.ext ?_)
  · blk_simp [idx_9 t]
    show 512 * t.val + (y 0).val = t.val * 512 + (y 0).val
    omega
  · blk_simp [idx_9 t]

theorem arr_10 (c : Dev nD) : (dats m 0 c).arrAt 10 cfg0.N = fun y => ack (aarg m c (y 0)) (y 1) := by
  refine (dats m 0 c).arrAt_eq_of_covers 10 _ (by decide +kernel) fun t hf y => ?_
  blk_simp
  rw [after0_10]
  refine (congrArg (out0_10 (iblk m c 0 t) (iblk m c 1 t) (iblk m c 2 t) (iblk m c 3 t) (iblk m c 4 t) (iblk m c 5 t) (iblk m c 6 t) (iblk m c 7 t) (iblk m c 8 t)) (ix_eta y)).trans ((out10_at _ _ _ _ _ _ _ _ _ (y 0) (y 1)).trans ?_)
  refine (congrFun (bck_eq (laid m c t (y 0))) (y 1)).trans ?_
  refine congrArg₂ (fun i e => ack (aarg m c i) e) (Fin.ext ?_) (Fin.ext ?_)
  · blk_simp [idx_10 t]
    show 512 * t.val + (y 0).val = t.val * 512 + (y 0).val
    omega
  · blk_simp [idx_10 t]

theorem arr_11 (c : Dev nD) (F : ∀ c i, Fine (aarg m c i)) : (dats m 0 c).arrAt 11 cfg0.N = fun y => akr (aarg m c (y 0)) (y 1) := by
  refine (dats m 0 c).arrAt_eq_of_covers 11 _ (by decide +kernel) fun t hf y => ?_
  blk_simp
  rw [after0_11]
  refine (congrArg (out0_11 (iblk m c 0 t) (iblk m c 1 t) (iblk m c 2 t) (iblk m c 3 t) (iblk m c 4 t) (iblk m c 5 t) (iblk m c 6 t) (iblk m c 7 t) (iblk m c 8 t)) (ix_eta y)).trans ((out11_at _ _ _ _ _ _ _ _ _ (y 0) (y 1)).trans ?_)
  refine ((congrArg (bkr (trow m c t (y 0))) (Fin.ext (by show 0 + (y 1).val = (y 1).val; omega))).trans (bkr_eq (laid m c t (y 0)) (F c _) (y 1))).trans ?_
  refine congrArg₂ (fun i e => akr (aarg m c i) e) (Fin.ext ?_) (Fin.ext ?_)
  · blk_simp [idx_11 t]
    show 512 * t.val + (y 0).val = t.val * 512 + (y 0).val
    omega
  · blk_simp [idx_11 t]

theorem arr_12 (c : Dev nD) (F : ∀ c i, Fine (aarg m c i)) : (dats m 0 c).arrAt 12 cfg0.N = fun y => akrp (aarg m c (y 0)) (y 1) := by
  refine (dats m 0 c).arrAt_eq_of_covers 12 _ (by decide +kernel) fun t hf y => ?_
  blk_simp
  rw [after0_12]
  refine (congrArg (out0_12 (iblk m c 0 t) (iblk m c 1 t) (iblk m c 2 t) (iblk m c 3 t) (iblk m c 4 t) (iblk m c 5 t) (iblk m c 6 t) (iblk m c 7 t) (iblk m c 8 t)) (ix_eta y)).trans ((out12_at _ _ _ _ _ _ _ _ _ (y 0) (y 1)).trans ?_)
  refine (bkrp_eq (laid m c t (y 0)) (F c _) (y 1)).trans ?_
  refine congrArg₂ (fun i e => akrp (aarg m c i) e) (Fin.ext ?_) (Fin.ext ?_)
  · blk_simp [idx_12 t]
    show 512 * t.val + (y 0).val = t.val * 512 + (y 0).val
    omega
  · blk_simp [idx_12 t]

theorem arr_13 (c : Dev nD) : (dats m 0 c).arrAt 13 cfg0.N = fun y => akv (aarg m c (y 0)) (y 1) := by
  refine (dats m 0 c).arrAt_eq_of_covers 13 _ (by decide +kernel) fun t hf y => ?_
  blk_simp
  rw [after0_13]
  refine (congrArg (out0_13 (iblk m c 0 t) (iblk m c 1 t) (iblk m c 2 t) (iblk m c 3 t) (iblk m c 4 t) (iblk m c 5 t) (iblk m c 6 t) (iblk m c 7 t) (iblk m c 8 t)) (ix_eta y)).trans ((out13_at _ _ _ _ _ _ _ _ _ (y 0) (y 1)).trans ?_)
  refine (bkv_eq (laid m c t (y 0)) (y 1)).trans ?_
  refine congrArg₂ (fun i e => akv (aarg m c i) e) (Fin.ext ?_) (Fin.ext ?_)
  · blk_simp [idx_13 t]
    show 512 * t.val + (y 0).val = t.val * 512 + (y 0).val
    omega
  · blk_simp [idx_13 t]

end

end Cert.Kernel7Ideal.Mla

end
-- ==== Proof.MlaAlg.lean ====
module

public import proofs.«01_k».proof.Defs
public import proofs.«01_k».proof.Proof.MlaKer
public import proofs.«01_k».proof.Proof.Gen.Reference7Ideal.Run
public import proofs.«01_k».proof.Proof.Gen.Pre_real_entries
public import Idealize.ShloMosaic.Lib.Quiescent
public import Idealize.ShloMosaic.Lib.ReduceAll

@[expose] public section

set_option maxRecDepth 16384

noncomputable section

namespace Cert.MlaAlg

open Idealize.ShloMosaic Idealize.ShloMosaic.TcCoe Idealize.SL.Sem
open Cert.MlaModel

section Ref

open Cert.Reference7Ideal Cert.Reference7Ideal.Gen Cert.Reference7Ideal.Value

variable (m : (ℓ : Loc nD τ sig) → Buf (Elt Ideal) ℓ)

/-- Row `i` of the reference's arguments, with the weights. -/
def rarg (c : Dev nD) (i : Fin 16384) : Arg :=
  ⟨fun k => m ((c.tc : Thread nD τ).loc main_arg0) (ix2 i k), fun j k => m ((c.tc : Thread nD τ).loc main_arg1) (ix2 j k), fun k => m ((c.tc : Thread nD τ).loc main_arg2) (ix2 0 k), fun j k => m ((c.tc : Thread nD τ).loc main_arg3) (ix2 j k), fun k => m ((c.tc : Thread nD τ).loc main_arg4) (ix2 0 k), fun j k => m ((c.tc : Thread nD τ).loc main_arg5) (ix2 j k), fun k => Ideal.cos (angle (i.val % 2048) k.val), fun k => Ideal.sin (angle (i.val % 2048) k.val)⟩

/-- The reference's normalised latent rows. -/
def ckOut (c : Dev nD) : FVec Ideal S16384x256 .f32 := mulf (mulf (extractStridedSlice S16384x256 ![0, 384] (Host.dotGeneral dot_S16384x1024_S1024x704_S16384x704_1_0_0_1_n_n none (extf .f32 (m ((c.tc : Thread nD τ).loc main_arg0)) bitsLt_bf16_f32) (extf .f32 (extractStridedSlice S1024x704 ![0, 9216] (m ((c.tc : Thread nD τ).loc main_arg1)) slices_S1024x10240_S1024x704_0_9216) bitsLt_bf16_f32)) slices_S16384x704_S16384x256_0_384) (broadcastInDim S16384x256 ![0, 1] bcast_S16384x1_S16384x256_0_1 (Host.rsqrt (addf (Host.divf (broadcastInDim S16384x1 ![0] bcast_S16384_S16384x1_0 (Host.reduceAdd (mulf (extractStridedSlice S16384x256 ![0, 384] (Host.dotGeneral dot_S16384x1024_S1024x704_S16384x704_1_0_0_1_n_n none (extf .f32 (m ((c.tc : Thread nD τ).loc main_arg0)) bitsLt_bf16_f32) (extf .f32 (extractStridedSlice S1024x704 ![0, 9216] (m ((c.tc : Thread nD τ).loc main_arg1)) slices_S1024x10240_S1024x704_0_9216) bitsLt_bf16_f32)) slices_S16384x704_S16384x256_0_384) (extractStridedSlice S16384x256 ![0, 384] (Host.dotGeneral dot_S16384x1024_S1024x704_S16384x704_1_0_0_1_n_n none (extf .f32 (m ((c.tc : Thread nD τ).loc main_arg0)) bitsLt_bf16_f32) (extf .f32 (extractStridedSlice S1024x704 ![0, 9216] (m ((c.tc : Thread nD τ).loc main_arg1)) slices_S1024x10240_S1024x704_0_9216) bitsLt_bf16_f32)) slices_S16384x704_S16384x256_0_384)) (constant S_ .f32 0x00000000#32) reducesTo_S16384x256_S16384_d1 h_S_)) (broadcastInDim S16384x1 ![] bcast_S_S16384x1 (constant S_ .f32 0x43800000#32))) (broadcastInDim S16384x1 ![] bcast_S_S16384x1 (constant S_ .f32 0x358637BD#32)))))) (broadcastInDim S16384x256 ![0, 1] bcast_S1x256_S16384x256_0_1 (m ((c.tc : Thread nD τ).loc main_arg4)))

/-- The reference's expanded latent rows. -/
def kvOut (c : Dev nD) : FVec Ideal S16384x2048 .bf16 := truncf .bf16 (Host.dotGeneral (φ₂ := .f32) dot_S16384x256_S256x2048_S16384x2048_1_0_0_1_n_n none (mulf (mulf (extractStridedSlice S16384x256 ![0, 384] (Host.dotGeneral dot_S16384x1024_S1024x704_S16384x704_1_0_0_1_n_n none (extf .f32 (m ((c.tc : Thread nD τ).loc main_arg0)) bitsLt_bf16_f32) (extf .f32 (extractStridedSlice S1024x704 ![0, 9216] (m ((c.tc : Thread nD τ).loc main_arg1)) slices_S1024x10240_S1024x704_0_9216) bitsLt_bf16_f32)) slices_S16384x704_S16384x256_0_384) (broadcastInDim S16384x256 ![0, 1] bcast_S16384x1_S16384x256_0_1 (Host.rsqrt (addf (Host.divf (broadcastInDim S16384x1 ![0] bcast_S16384_S16384x1_0 (Host.reduceAdd (mulf (extractStridedSlice S16384x256 ![0, 384] (Host.dotGeneral dot_S16384x1024_S1024x704_S16384x704_1_0_0_1_n_n none (extf .f32 (m ((c.tc : Thread nD τ).loc main_arg0)) bitsLt_bf16_f32) (extf .f32 (extractStridedSlice S1024x704 ![0, 9216] (m ((c.tc : Thread nD τ).loc main_arg1)) slices_S1024x10240_S1024x704_0_9216) bitsLt_bf16_f32)) slices_S16384x704_S16384x256_0_384) (extractStridedSlice S16384x256 ![0, 384] (Host.dotGeneral dot_S16384x1024_S1024x704_S16384x704_1_0_0_1_n_n none (extf .f32 (m ((c.tc : Thread nD τ).loc main_arg0)) bitsLt_bf16_f32) (extf .f32 (extractStridedSlice S1024x704 ![0, 9216] (m ((c.tc : Thread nD τ).loc main_arg1)) slices_S1024x10240_S1024x704_0_9216) bitsLt_bf16_f32)) slices_S16384x704_S16384x256_0_384)) (constant S_ .f32 0x00000000#32) reducesTo_S16384x256_S16384_d1 h_S_)) (broadcastInDim S16384x1 ![] bcast_S_S16384x1 (constant S_ .f32 0x43800000#32))) (broadcastInDim S16384x1 ![] bcast_S_S16384x1 (constant S_ .f32 0x358637BD#32)))))) (broadcastInDim S16384x256 ![0, 1] bcast_S1x256_S16384x256_0_1 (m ((c.tc : Thread nD τ).loc main_arg4)))) (m ((c.tc : Thread nD τ).loc main_arg5))) bitsLt_bf16_f32

theorem ck_at (c : Dev nD) (i : Fin 16384) (e : Fin 256) : (ckOut m c (ix2 i e) : EReal) = ack (rarg m c i) e := by
  pointwise [ckOut]
  rfl

theorem kv_at (c : Dev nD) (i : Fin 16384) (e : Fin 2048) : (kvOut m c (ix2 i e) : EReal) = akv (rarg m c i) e := by
  pointwise [kvOut]
  rfl

/-- One entry of a rotation, with the positions written as they are read. -/
def krow (A : Arg) (e : Fin 64) : EReal :=
  if h : e.val < 32 then az A ⟨640 + e.val, by omega⟩ * A.c ⟨e.val, h⟩ - az A ⟨640 + (32 + e.val), by omega⟩ * A.s ⟨e.val, h⟩
  else az A ⟨640 + (32 + (e.val - 32)), by omega⟩ * A.c ⟨e.val - 32, by omega⟩ + az A ⟨640 + (e.val - 32), by omega⟩ * A.s ⟨e.val - 32, by omega⟩

theorem krow_eq (A : Arg) (e : Fin 64) : krow A e = akr A e := by
  have t (a b : Fin 704) (h : a.val = b.val) : az A a = az A b := congrArg (az A) (Fin.ext h)
  unfold krow akr rot
  split
  · rw [t ⟨640 + (32 + e.val), by omega⟩ ⟨640 + (e.val + 32), by omega⟩ (by show 640 + (32 + e.val) = 640 + (e.val + 32); omega)]
  · rw [t ⟨640 + (32 + (e.val - 32)), by omega⟩ ⟨640 + e.val, by omega⟩ (by show 640 + (32 + (e.val - 32)) = 640 + e.val; omega)]

/-- One entry of the queries, with the positions written as they are read. -/
def qrow (A : Arg) (p : Fin 2048) : EReal :=
  if h : p.val % 256 < 192 then
    (if h1 : p.val % 256 < 128 then ah A ⟨p.val / 256 * 192 + p.val % 256, by omega⟩
    else if h2 : p.val % 256 - 128 < 32 then
      ah A ⟨p.val / 256 * 192 + (128 + (p.val % 256 - 128)), by omega⟩ * A.c ⟨p.val % 256 - 128, h2⟩
        - ah A ⟨p.val / 256 * 192 + (128 + (32 + (p.val % 256 - 128))), by omega⟩ * A.s ⟨p.val % 256 - 128, h2⟩
    else
      ah A ⟨p.val / 256 * 192 + (128 + (32 + (p.val % 256 - 128 - 32))), by omega⟩ * A.c ⟨p.val % 256 - 128 - 32, by omega⟩
        + ah A ⟨p.val / 256 * 192 + (128 + (p.val % 256 - 128 - 32)), by omega⟩ * A.s ⟨p.val % 256 - 128 - 32, by omega⟩) * Q
  else FloatOps.sitofp (F := Ideal) FTy.f32 0#32

theorem pad_zero : (FloatOps.sitofp (F := Ideal) FTy.f32 0#32 : EReal) = 0 := by
  show (((0#32 : BitVec 32).toInt : ℝ) : EReal) = 0
  simp

theorem qrow_eq (A : Arg) (p : Fin 2048) : qrow A p = aout A p := by
  have t (a b : Fin 1536) (h : a.val = b.val) : ah A a = ah A b := congrArg (ah A) (Fin.ext h)
  have ep := p.isLt
  unfold qrow aout
  by_cases h : p.val % 256 < 192
  · by_cases h1 : p.val % 256 < 128
    · rw [dif_pos h, dif_pos h1, dif_pos h1]
      exact congrArg (· * Q) (t _ _ (by show p.val / 256 * 192 + p.val % 256 = 192 * (p.val / 256) + p.val % 256; omega))
    · rw [dif_pos h, dif_neg h1, dif_neg h1, dif_pos h]
      refine congrArg (· * Q) ?_
      unfold rot
      by_cases h2 : p.val % 256 - 128 < 32
      · rw [dif_pos h2, dif_pos h2]
        exact congrArg₂ (· - ·)
          (congrArg (· * A.c ⟨p.val % 256 - 128, h2⟩) (t _ _ (by show p.val / 256 * 192 + (128 + (p.val % 256 - 128)) = 192 * (p.val / 256) + (128 + (p.val % 256 - 128)); omega)))
          (congrArg (· * A.s ⟨p.val % 256 - 128, h2⟩) (t _ _ (by show p.val / 256 * 192 + (128 + (32 + (p.val % 256 - 128))) = 192 * (p.val / 256) + (128 + (p.val % 256 - 128 + 32)); omega)))
      · rw [dif_neg h2, dif_neg h2]
        exact congrArg₂ (· + ·)
          (congrArg (· * A.c ⟨p.val % 256 - 128 - 32, by omega⟩) (t _ _ (by show p.val / 256 * 192 + (128 + (32 + (p.val % 256 - 128 - 32))) = 192 * (p.val / 256) + (128 + (p.val % 256 - 128)); omega)))
          (congrArg (· * A.s ⟨p.val % 256 - 128 - 32, by omega⟩) (t _ _ (by show p.val / 256 * 192 + (128 + (p.val % 256 - 128 - 32)) = 192 * (p.val / 256) + (128 + (p.val % 256 - 128 - 32)); omega)))
  · rw [dif_neg h, dif_neg (by omega), dif_neg h]
    exact pad_zero

theorem q_at (c : Dev nD) (i : Fin 16384) (p : Fin 2048) : (res_main_v60 m c (ix2 i p) : EReal) = aout (rarg m c i) p := by
  refine Eq.trans ?_ (qrow_eq (rarg m c i) p)
  pointwise [res_main_v60]
  unfold qrow
  have hi := i.isLt
  have hp := p.isLt
  refine dite_congr (propext ⟨fun h => h.2.2.2, fun h => ⟨by omega, by omega, by omega, h⟩⟩)
    (fun h => congrArg₂ (fun a b : EReal => a * b) (dite_congr rfl (fun h1 => rfl)
      (fun h1 => dite_congr rfl (fun h2 => congrArg₂ (fun a b : EReal => a - b) rfl rfl)
        (fun h2 => congrArg₂ (fun a b : EReal => a + b) rfl rfl))) rfl) (fun h => rfl)

theorem kr_at (c : Dev nD) (i : Fin 16384) (e : Fin 64) : (res_main_v104 m c (ix2 i e) : EReal) = akr (rarg m c i) e := by
  refine Eq.trans ?_ (krow_eq (rarg m c i) e)
  pointwise [res_main_v104]
  rfl

theorem krp_at (c : Dev nD) (i : Fin 16384) (l : Fin 128) : (res_main_v106 m c (ix2 i l) : EReal) = akrp (rarg m c i) l := by
  have e : akrp (rarg m c i) l = if h : l.val < 64 then krow (rarg m c i) ⟨l.val, h⟩ else FloatOps.sitofp (F := Ideal) FTy.f32 0#32 := by
    unfold akrp
    by_cases h : l.val < 64
    · rw [dif_pos h, dif_pos h, krow_eq]
    · rw [dif_neg h, dif_neg h, pad_zero]
  rw [e]
  pointwise [res_main_v106]
  rfl

end Ref

theorem ref_frame : Cert.quiescent_Reference7Ideal (hReference7Ideal := Cert.Reference7Ideal.Gen.facts) := fun m ρ _ =>
  (θ_run Cert.Reference7Ideal.defs _ _).mono (fun r h => ⟨fun c => (h c).2.2.2.2.2, Idealize.ShloMosaic.sem_eq_zero_of_no_sems (by decide) r.2⟩)
    (Cert.Reference7Ideal.Value.run (F := Ideal) m ρ)

theorem ref_frame_pre : Cert.quiescent_Reference7Ideal_pre_real_entries (hReference7Ideal := Cert.Reference7Ideal.Gen.facts)
    (hPre_real_entries := Cert.Pre_real_entries.Gen.facts) := fun m ρ _ =>
  (θ_run Cert.Reference7Ideal.defs _ _).mono (fun r h => ⟨fun c => (h c).2.2.2.2.2, Idealize.ShloMosaic.sem_eq_zero_of_no_sems (by decide) r.2⟩)
    (Cert.Reference7Ideal.Value.run (F := Ideal) m ρ)

/-- An entry whose absolute value lies under infinity is a real number. -/
theorem re_of_lt (x : EReal) (h : Ideal.cmp .olt (max x (-x)) (Ideal.ofBits FTy.f32 0x7F800000#32) = 1#1) : Re x := by
  have ht : Ideal.ofBits FTy.f32 0x7F800000#32 = ⊤ := by simp [Ideal.ofBits, Ideal.ieee]
  rw [ht] at h
  have hlt : max x (-x) < ⊤ := by
    by_contra hn
    have : Ideal.cmp .olt (max x (-x)) ⊤ = 0#1 := by
      show BitVec.ofBool (decide (max x (-x) < ⊤)) = 0#1
      rw [decide_eq_false hn]
      rfl
    rw [this] at h
    exact absurd h (by decide)
  induction x using EReal.rec with
  | bot => simp at hlt
  | coe r => exact ⟨r, rfl⟩
  | top => simp at hlt

instance : Subsingleton (Cert.Pre_real_entries.S_).Idx := ⟨fun a b => funext fun d => d.elim0⟩

theorem and_bits : ∀ a b : BitVec 1, IntOp.andi a b = 1#1 → a = 1#1 ∧ b = 1#1 := by decide

open Cert.Kernel7Ideal Cert.Kernel7Ideal.Mla in
/-- What the precondition says of each row. -/
theorem fine (m : (ℓ : Loc Cert.Kernel7Ideal.nD Cert.Kernel7Ideal.τ Cert.Kernel7Ideal.sig) → Buf (Elt Ideal) ℓ)
    (h : Pre_Kernel7Ideal_real_entries (hPre_real_entries := Cert.Pre_real_entries.Gen.facts) m) (c : Dev Cert.Kernel7Ideal.nD)
    (i : Fin 16384) : Fine (aarg m c i) := by
  have h0 := congrFun (h c) (fun d => d.elim0)
  obtain ⟨h1, e3⟩ := and_bits _ _ h0
  obtain ⟨h2, e2⟩ := and_bits _ _ h1
  obtain ⟨e0, e1⟩ := and_bits _ _ h2
  exact ⟨fun k => re_of_lt _ (Host.reduce_andi_all _ _ _ _ _ e0 (ix2 i k)),
    fun j k => re_of_lt _ (Host.reduce_andi_all _ _ _ _ _ e1 (ix2 j k)),
    fun k => re_of_lt _ (Host.reduce_andi_all _ _ _ _ _ e2 (ix2 0 k)),
    fun j k => re_of_lt _ (Host.reduce_andi_all _ _ _ _ _ e3 (ix2 j k))⟩

open Cert.Kernel7Ideal.Mla in
theorem algebraic : Cert.algebraic_Kernel7Ideal_Reference7Ideal_pre_real_entries (hKernel7Ideal := Cert.Kernel7Ideal.Gen.facts)
    (hReference7Ideal := Cert.Reference7Ideal.Gen.facts) (hPre_real_entries := Cert.Pre_real_entries.Gen.facts) := by
  intro m ρ m' ρ' hpre hagree
  have F := fine m hpre
  have ha : ∀ c i, rarg m' c i = aarg m c i := by
    intro c i
    obtain ⟨h0, h1, h2, h3, h4, h5⟩ := hagree c
    unfold rarg aarg
    rw [h0, h1, h2, h3, h4, h5]
  refine ⟨fun c => (Cert.Kernel7Ideal.Gen.dats m 0 c).arrAt 9 Cert.Kernel7Ideal.cfg0.N, fun c => (Cert.Kernel7Ideal.Gen.dats m 0 c).arrAt 10 Cert.Kernel7Ideal.cfg0.N,
    fun c => (Cert.Kernel7Ideal.Gen.dats m 0 c).arrAt 11 Cert.Kernel7Ideal.cfg0.N, fun c => (Cert.Kernel7Ideal.Gen.dats m 0 c).arrAt 12 Cert.Kernel7Ideal.cfg0.N,
    fun c => (Cert.Kernel7Ideal.Gen.dats m 0 c).arrAt 13 Cert.Kernel7Ideal.cfg0.N, ?_, ?_⟩
  · exact (θ_run Cert.Kernel7Ideal.defs _ _).mono
      (fun r h c => ⟨(h.1 c).1 9, (h.1 c).1 10, (h.1 c).1 11, (h.1 c).1 12, (h.1 c).1 13, h.2 c⟩)
      (θ_run_and (Cert.Kernel7Ideal.Gen.run_main (F := Ideal) m ρ) (Cert.Kernel7Ideal.Gen.unchanged (F := Ideal) m ρ))
  · refine (θ_run Cert.Reference7Ideal.defs _ _).mono
      (fun r h c => ⟨(h c).1.trans ?_, (h c).2.1.trans ?_, (h c).2.2.1.trans ?_, (h c).2.2.2.1.trans ?_, (h c).2.2.2.2.1.trans ?_, (h c).2.2.2.2.2⟩)
      (Cert.Reference7Ideal.Value.run (F := Ideal) m' ρ')
    · refine Eq.trans ?_ (arr_9 m c F).symm
      funext i
      exact (congrArg (Cert.Reference7Ideal.Value.res_main_v60 m' c) (ix_eta i)).trans
        ((q_at m' c (i 0) (i 1)).trans (congrArg (fun A => aout A (i 1)) (ha c (i 0))))
    · refine Eq.trans ?_ (arr_10 m c).symm
      funext i
      exact (congrArg (ckOut m' c) (ix_eta i)).trans
        ((ck_at m' c (i 0) (i 1)).trans (congrArg (fun A => ack A (i 1)) (ha c (i 0))))
    · refine Eq.trans ?_ (arr_11 m c F).symm
      funext i
      exact (congrArg (Cert.Reference7Ideal.Value.res_main_v104 m' c) (ix_eta i)).trans
        ((kr_at m' c (i 0) (i 1)).trans (congrArg (fun A => akr A (i 1)) (ha c (i 0))))
    · refine Eq.trans ?_ (arr_12 m c F).symm
      funext i
      exact (congrArg (Cert.Reference7Ideal.Value.res_main_v106 m' c) (ix_eta i)).trans
        ((krp_at m' c (i 0) (i 1)).trans (congrArg (fun A => akrp A (i 1)) (ha c (i 0))))
    · refine Eq.trans ?_ (arr_13 m c).symm
      funext i
      exact (congrArg (kvOut m' c) (ix_eta i)).trans
        ((kv_at m' c (i 0) (i 1)).trans (congrArg (fun A => akv A (i 1)) (ha c (i 0))))

end Cert.MlaAlg

end
-- ==== Proof.MlaSKer.lean ====
module

public import proofs.«01_k».proof.Proof.MlaKer
public import proofs.«01_k».proof.Proof.Gen.Kernel8Ideal.Frame

@[expose] public section

set_option maxRecDepth 16384

noncomputable section

namespace Cert.Kernel8Ideal.MlaS

open Idealize.ShloMosaic Idealize.ShloMosaic.TcCoe Idealize.SL.Sem
open Cert.Kernel8Ideal.Gen Cert.MlaModel
open Cert.Kernel7Ideal.Mla (brow ix_eta)

/-- The angle of row `i` and frequency `k`: the samples' four positions begin after the past. -/
def sangle (i k : ℕ) : EReal :=
  (Ideal.ofBits FTy.f32 1182793728#32 + (FloatOps.sitofp (F := Ideal) FTy.f32 (BitVec.ofNat 32 (i % 4)) : EReal)) *
    Ideal.pow (Ideal.ofBits FTy.f32 1176256512#32) (Ideal.div (-(FloatOps.sitofp (F := Ideal) FTy.f32 (BitVec.ofNat 32 k) : EReal)) (Ideal.ofBits FTy.f32 1107296256#32))

section

variable (x0 : Vec Ideal S512x1024 .bf16) (x1 : Vec Ideal S1024x896 .bf16) (x2 : Vec Ideal S1x384 .f32) (x3 : Vec Ideal S384x2048 .bf16) (x4 : Vec Ideal S384x1024 .bf16) (x5 : Vec Ideal S1x256 .f32) (x6 : Vec Ideal S512x128 .f32) (x7 : Vec Ideal S512x128 .f32)

/-- A row of the blocks: the samples' call takes no weight for the keys and values. -/
def srow (r : Fin 512) : Blk := brow x0 x1 x2 x3 x4 x5 x6 x7 (fun _ => (0 : EReal)) r

theorem out8_eq (x8 : Vec Ideal Cert.Kernel7Ideal.S256x2048 .bf16) : out0_8 x0 x1 x2 x3 x4 x5 x6 x7 = Cert.Kernel7Ideal.Gen.out0_9 (F := Ideal) x0 x1 x2 x3 x4 x5 x6 x7 x8 := rfl

theorem out9_eq (x8 : Vec Ideal Cert.Kernel7Ideal.S256x2048 .bf16) : out0_9 x0 x1 x2 x3 x4 x5 x6 x7 = Cert.Kernel7Ideal.Gen.out0_10 (F := Ideal) x0 x1 x2 x3 x4 x5 x6 x7 x8 := rfl

theorem out10_eq (x8 : Vec Ideal Cert.Kernel7Ideal.S256x2048 .bf16) : out0_10 x0 x1 x2 x3 x4 x5 x6 x7 = Cert.Kernel7Ideal.Gen.out0_11 (F := Ideal) x0 x1 x2 x3 x4 x5 x6 x7 x8 := rfl

theorem out8_at (r : Fin 512) (p : Fin 2048) : (out0_8 x0 x1 x2 x3 x4 x5 x6 x7 (ix2 r p) : EReal) = bout (srow x0 x1 x2 x3 x4 x5 x6 x7 r) p :=
  (congrFun (out8_eq x0 x1 x2 x3 x4 x5 x6 x7 fun _ => (0 : EReal)) (ix2 r p)).trans (Cert.Kernel7Ideal.Mla.out9_at x0 x1 x2 x3 x4 x5 x6 x7 _ r p)

theorem out9_at (r : Fin 512) (e : Fin 256) : (out0_9 x0 x1 x2 x3 x4 x5 x6 x7 (ix2 r e) : EReal) = bck (srow x0 x1 x2 x3 x4 x5 x6 x7 r) e :=
  (congrFun (out9_eq x0 x1 x2 x3 x4 x5 x6 x7 fun _ => (0 : EReal)) (ix2 r e)).trans (Cert.Kernel7Ideal.Mla.out10_at x0 x1 x2 x3 x4 x5 x6 x7 _ r e)

theorem out10_at (r : Fin 512) (e : Fin 64) : (out0_10 x0 x1 x2 x3 x4 x5 x6 x7 (ix2 r e) : EReal) = bkr (srow x0 x1 x2 x3 x4 x5 x6 x7 r) ⟨0 + e.val, by omega⟩ :=
  (congrFun (out10_eq x0 x1 x2 x3 x4 x5 x6 x7 fun _ => (0 : EReal)) (ix2 r e)).trans (Cert.Kernel7Ideal.Mla.out11_at x0 x1 x2 x3 x4 x5 x6 x7 _ r e)

end

section

variable (m : (ℓ : Loc nD τ sig) → Buf (Elt Ideal) ℓ)

/-! ## What the host prepares -/

theorem wc_at (c : Dev nD) (j : Fin 1024) (k : Fin 704) : (V m c main_v7 (ix2 j (⟨k.val, by omega⟩ : Fin 896)) : EReal) = m ((c.tc : Thread nD τ).loc main_arg1) (ix2 j (⟨9216 + k.val, by omega⟩ : Fin 10240)) := by
  unfold V
  after_reads_at
  after_reads_at

theorem wc_pad (c : Dev nD) (j : Fin 1024) (k : Fin 64) : (V m c main_v7 (ix2 j (⟨704 + k.val, by omega⟩ : Fin 896)) : EReal) = (0 : EReal) := by
  unfold V
  after_reads_at
  after_reads_at

theorem wc_neg (c : Dev nD) (j : Fin 1024) (k : Fin 32) : (V m c main_v7 (ix2 j (⟨768 + k.val, by omega⟩ : Fin 896)) : EReal) = Neg.neg (α := EReal) (m ((c.tc : Thread nD τ).loc main_arg1) (ix2 j (⟨9888 + k.val, by omega⟩ : Fin 10240))) := by
  unfold V
  after_reads_at
  after_reads_at
  rw [dif_neg (show ¬ 768 + k.val < 704 by omega)]
  rw [dif_neg (show ¬ 768 + k.val - 704 < 64 by omega)]
  rw [dif_pos (show 768 + k.val - 704 - 64 < 64 by omega)]
  rw [dif_pos (show 768 + k.val - 704 - 64 < 32 by omega)]
  exact congrArg (fun i => Neg.neg (α := EReal) (m ((c.tc : Thread nD τ).loc main_arg1) (ix2 j i))) (Fin.ext (by show 9216 + (640 + (32 + (768 + k.val - 704 - 64))) = 9888 + k.val; omega))

theorem wc_pos (c : Dev nD) (j : Fin 1024) (k : Fin 32) : (V m c main_v7 (ix2 j (⟨800 + k.val, by omega⟩ : Fin 896)) : EReal) = m ((c.tc : Thread nD τ).loc main_arg1) (ix2 j (⟨9856 + k.val, by omega⟩ : Fin 10240)) := by
  unfold V
  after_reads_at
  after_reads_at
  rw [dif_neg (show ¬ 800 + k.val < 704 by omega)]
  rw [dif_neg (show ¬ 800 + k.val - 704 < 64 by omega)]
  rw [dif_pos (show 800 + k.val - 704 - 64 < 64 by omega)]
  rw [dif_neg (show ¬ 800 + k.val - 704 - 64 < 32 by omega)]
  exact congrArg (fun i => (m ((c.tc : Thread nD τ).loc main_arg1) (ix2 j i))) (Fin.ext (by show 9216 + (640 + (800 + k.val - 704 - 64 - 32)) = 9856 + k.val; omega))

theorem wc_end (c : Dev nD) (j : Fin 1024) (k : Fin 64) : (V m c main_v7 (ix2 j (⟨832 + k.val, by omega⟩ : Fin 896)) : EReal) = (0 : EReal) := by
  unfold V
  after_reads_at
  after_reads_at
  rw [dif_neg (show ¬ 832 + k.val < 704 by omega)]
  rw [dif_neg (show ¬ 832 + k.val - 704 < 64 by omega)]
  rw [dif_neg (show ¬ 832 + k.val - 704 - 64 < 64 by omega)]

theorem wa_at (c : Dev nD) (j : Fin 384) (h : Fin 8) (n : Fin 192) : (V m c main_v13 (ix2 j (⟨256 * h.val + n.val, by omega⟩ : Fin 2048)) : EReal) = m ((c.tc : Thread nD τ).loc main_arg3) (ix2 j (⟨192 * h.val + n.val, by omega⟩ : Fin 1536)) := by
  unfold V
  after_reads_at
  rw [dif_pos (show (256 * h.val + n.val) % 256 < 192 by omega)]
  after_reads_at
  exact congrArg (fun i => m ((c.tc : Thread nD τ).loc main_arg3) (ix2 j i)) (Fin.ext (by show (256 * h.val + n.val) / 256 * 192 + (256 * h.val + n.val) % 256 = 192 * h.val + n.val; omega))

theorem wa_pad (c : Dev nD) (j : Fin 384) (h : Fin 8) (n : Fin 64) : (V m c main_v13 (ix2 j (⟨256 * h.val + (192 + n.val), by omega⟩ : Fin 2048)) : EReal) = (0 : EReal) := by
  unfold V
  after_reads_at
  rw [dif_neg (show ¬ (256 * h.val + (192 + n.val)) % 256 < 192 by omega)]
  after_reads_at

theorem wb_neg (c : Dev nD) (j : Fin 384) (h : Fin 8) (n : Fin 32) : (V m c main_v20 (ix2 j (⟨128 * h.val + n.val, by omega⟩ : Fin 1024)) : EReal) = Neg.neg (α := EReal) (m ((c.tc : Thread nD τ).loc main_arg3) (ix2 j (⟨192 * h.val + (160 + n.val), by omega⟩ : Fin 1536))) := by
  unfold V
  after_reads_at
  rw [dif_pos (show (128 * h.val + n.val) % 128 < 64 by omega)]
  after_reads_at
  rw [dif_pos (show (128 * h.val + n.val) % 128 < 32 by omega)]
  exact congrArg (fun i => Neg.neg (α := EReal) (m ((c.tc : Thread nD τ).loc main_arg3) (ix2 j i))) (Fin.ext (by show (128 * h.val + n.val) / 128 * 192 + (128 + (32 + (128 * h.val + n.val) % 128)) = 192 * h.val + (160 + n.val); omega))

theorem wb_pos (c : Dev nD) (j : Fin 384) (h : Fin 8) (n : Fin 32) : (V m c main_v20 (ix2 j (⟨128 * h.val + (32 + n.val), by omega⟩ : Fin 1024)) : EReal) = m ((c.tc : Thread nD τ).loc main_arg3) (ix2 j (⟨192 * h.val + (128 + n.val), by omega⟩ : Fin 1536)) := by
  unfold V
  after_reads_at
  rw [dif_pos (show (128 * h.val + (32 + n.val)) % 128 < 64 by omega)]
  after_reads_at
  rw [dif_neg (show ¬ (128 * h.val + (32 + n.val)) % 128 < 32 by omega)]
  exact congrArg (fun i => (m ((c.tc : Thread nD τ).loc main_arg3) (ix2 j i) : EReal)) (Fin.ext (by show (128 * h.val + (32 + n.val)) / 128 * 192 + (128 + ((128 * h.val + (32 + n.val)) % 128 - 32)) = 192 * h.val + (128 + n.val); omega))

theorem cs_lo (c : Dev nD) (j : Fin 512) (k : Fin 32) : (V m c main_v41 (ix2 j (⟨k.val, by omega⟩ : Fin 128)) : EReal) = Ideal.cos (sangle j.val k.val) := by
  unfold V
  after_reads_at
  after_reads_at
  rfl

theorem cs_hi (c : Dev nD) (j : Fin 512) (k : Fin 32) : (V m c main_v41 (ix2 j (⟨32 + k.val, by omega⟩ : Fin 128)) : EReal) = Ideal.cos (sangle j.val k.val) := by
  unfold V
  after_reads_at
  after_reads_at
  rfl

theorem cs_end (c : Dev nD) (j : Fin 512) (k : Fin 64) : (V m c main_v41 (ix2 j (⟨64 + k.val, by omega⟩ : Fin 128)) : EReal) = (0 : EReal) := by
  unfold V
  after_reads_at
  after_reads_at
  rw [dif_neg (show ¬ 64 + k.val < 32 by omega)]
  rw [dif_neg (show ¬ 64 + k.val - 32 < 32 by omega)]

theorem sn_lo (c : Dev nD) (j : Fin 512) (k : Fin 32) : (V m c main_v42 (ix2 j (⟨k.val, by omega⟩ : Fin 128)) : EReal) = Ideal.sin (sangle j.val k.val) := by
  unfold V
  after_reads_at
  after_reads_at
  rfl

theorem sn_hi (c : Dev nD) (j : Fin 512) (k : Fin 32) : (V m c main_v42 (ix2 j (⟨32 + k.val, by omega⟩ : Fin 128)) : EReal) = Ideal.sin (sangle j.val k.val) := by
  unfold V
  after_reads_at
  after_reads_at
  rfl

theorem sn_end (c : Dev nD) (j : Fin 512) (k : Fin 64) : (V m c main_v42 (ix2 j (⟨64 + k.val, by omega⟩ : Fin 128)) : EReal) = (0 : EReal) := by
  unfold V
  after_reads_at
  after_reads_at
  rw [dif_neg (show ¬ 64 + k.val < 32 by omega)]
  rw [dif_neg (show ¬ 64 + k.val - 32 < 32 by omega)]

theorem idx_0 (t : Fin cfg0.N) : (cfg0.win 0).index t = ![0, 0] := by revert t; decide +kernel
theorem idx_1 (t : Fin cfg0.N) : (cfg0.win 1).index t = ![0, 0] := by revert t; decide +kernel
theorem idx_2 (t : Fin cfg0.N) : (cfg0.win 2).index t = ![0, 0] := by revert t; decide +kernel
theorem idx_3 (t : Fin cfg0.N) : (cfg0.win 3).index t = ![0, 0] := by revert t; decide +kernel
theorem idx_4 (t : Fin cfg0.N) : (cfg0.win 4).index t = ![0, 0] := by revert t; decide +kernel
theorem idx_5 (t : Fin cfg0.N) : (cfg0.win 5).index t = ![0, 0] := by revert t; decide +kernel
theorem idx_6 (t : Fin cfg0.N) : (cfg0.win 6).index t = ![0, 0] := by revert t; decide +kernel
theorem idx_7 (t : Fin cfg0.N) : (cfg0.win 7).index t = ![0, 0] := by revert t; decide +kernel
theorem idx_8 (t : Fin cfg0.N) : (cfg0.win 8).index t = ![0, 0] := by revert t; decide +kernel
theorem idx_9 (t : Fin cfg0.N) : (cfg0.win 9).index t = ![0, 0] := by revert t; decide +kernel
theorem idx_10 (t : Fin cfg0.N) : (cfg0.win 10).index t = ![0, 0] := by revert t; decide +kernel

theorem iblk_0 (c : Dev nD) (t : Fin cfg0.N) (r : Fin 512) (k : Fin 1024) : iblk m c 0 t (ix2 r k) = m ((c.tc : Thread nD τ).loc main_arg0) (ix2 r k) := by
  rw [← V_main_arg0 m c]
  blk_ext [iblk, idx_0 t]

theorem iblk_1 (c : Dev nD) (t : Fin cfg0.N) (j : Fin 1024) (k : Fin 896) : iblk m c 1 t (ix2 j k) = V m c main_v7 (ix2 j k) := by
  blk_ext [iblk, idx_1 t]

theorem iblk_2 (c : Dev nD) (t : Fin cfg0.N) (k : Fin 384) : iblk m c 2 t (ix2 0 k) = m ((c.tc : Thread nD τ).loc main_arg2) (ix2 0 k) := by
  rw [← V_main_arg2 m c]
  blk_ext [iblk, idx_2 t]

theorem iblk_3 (c : Dev nD) (t : Fin cfg0.N) (j : Fin 384) (k : Fin 2048) : iblk m c 3 t (ix2 j k) = V m c main_v13 (ix2 j k) := by
  blk_ext [iblk, idx_3 t]

theorem iblk_4 (c : Dev nD) (t : Fin cfg0.N) (j : Fin 384) (k : Fin 1024) : iblk m c 4 t (ix2 j k) = V m c main_v20 (ix2 j k) := by
  blk_ext [iblk, idx_4 t]

theorem iblk_5 (c : Dev nD) (t : Fin cfg0.N) (k : Fin 256) : iblk m c 5 t (ix2 0 k) = m ((c.tc : Thread nD τ).loc main_arg4) (ix2 0 k) := by
  rw [← V_main_arg4 m c]
  blk_ext [iblk, idx_5 t]

theorem iblk_6 (c : Dev nD) (t : Fin cfg0.N) (r : Fin 512) (k : Fin 128) : iblk m c 6 t (ix2 r k) = V m c main_v41 (ix2 r k) := by
  blk_ext [iblk, idx_6 t]

theorem iblk_7 (c : Dev nD) (t : Fin cfg0.N) (r : Fin 512) (k : Fin 128) : iblk m c 7 t (ix2 r k) = V m c main_v42 (ix2 r k) := by
  blk_ext [iblk, idx_7 t]

/-- Row `i` of the arguments, with the weights. -/
def aarg (c : Dev nD) (i : Fin 512) : Arg :=
  ⟨fun k => m ((c.tc : Thread nD τ).loc main_arg0) (ix2 i k), fun j k => m ((c.tc : Thread nD τ).loc main_arg1) (ix2 j k), fun k => m ((c.tc : Thread nD τ).loc main_arg2) (ix2 0 k), fun j k => m ((c.tc : Thread nD τ).loc main_arg3) (ix2 j k), fun k => m ((c.tc : Thread nD τ).loc main_arg4) (ix2 0 k), fun _ _ => 0, fun k => Ideal.cos (sangle i.val k.val), fun k => Ideal.sin (sangle i.val k.val)⟩

/-- Row `r` of the blocks of grid point `t`. -/
def trow (c : Dev nD) (t : Fin cfg0.N) (r : Fin 512) : Blk :=
  srow (iblk m c 0 t) (iblk m c 1 t) (iblk m c 2 t) (iblk m c 3 t) (iblk m c 4 t) (iblk m c 5 t) (iblk m c 6 t) (iblk m c 7 t) r

theorem t_wc (c : Dev nD) (t : Fin cfg0.N) (r : Fin 512) (j : Fin 1024) (k : Fin 896) : (trow m c t r).wc j k = V m c main_v7 (ix2 j k) := iblk_1 m c t j k

theorem t_wa (c : Dev nD) (t : Fin cfg0.N) (r : Fin 512) (j : Fin 384) (k : Fin 2048) : (trow m c t r).wa j k = V m c main_v13 (ix2 j k) := iblk_3 m c t j k

theorem t_wb (c : Dev nD) (t : Fin cfg0.N) (r : Fin 512) (j : Fin 384) (k : Fin 1024) : (trow m c t r).wb j k = V m c main_v20 (ix2 j k) := iblk_4 m c t j k

theorem t_cs (c : Dev nD) (t : Fin cfg0.N) (r : Fin 512) (k : Fin 128) : (trow m c t r).cs k = V m c main_v41 (ix2 r k) := iblk_6 m c t r k

theorem t_sn (c : Dev nD) (t : Fin cfg0.N) (r : Fin 512) (k : Fin 128) : (trow m c t r).sn k = V m c main_v42 (ix2 r k) := iblk_7 m c t r k

theorem l_x (c : Dev nD) (t : Fin cfg0.N) (r : Fin 512) : (trow m c t r).x = (aarg m c r).x :=
  funext fun k => iblk_0 m c t r k

theorem l_fq (c : Dev nD) (t : Fin cfg0.N) (r : Fin 512) : (trow m c t r).fq = (aarg m c r).fq :=
  funext fun k => iblk_2 m c t k

theorem l_fk (c : Dev nD) (t : Fin cfg0.N) (r : Fin 512) : (trow m c t r).fk = (aarg m c r).fk :=
  funext fun k => iblk_5 m c t k

theorem l_wc (c : Dev nD) (t : Fin cfg0.N) (r : Fin 512) : ∀ j (k : Fin 704), (trow m c t r).wc j ⟨k.val, by omega⟩ = (aarg m c r).w j ⟨9216 + k.val, by omega⟩ :=
  fun j k => (t_wc m c t r j _).trans (wc_at m c j k)

theorem l_wc_pad (c : Dev nD) (t : Fin cfg0.N) (r : Fin 512) : ∀ j (k : Fin 64), (trow m c t r).wc j ⟨704 + k.val, by omega⟩ = 0 :=
  fun j k => (t_wc m c t r j _).trans (wc_pad m c j k)

theorem l_wc_neg (c : Dev nD) (t : Fin cfg0.N) (r : Fin 512) : ∀ j (k : Fin 32), (trow m c t r).wc j ⟨768 + k.val, by omega⟩ = -((aarg m c r).w j ⟨9888 + k.val, by omega⟩) :=
  fun j k => (t_wc m c t r j _).trans (wc_neg m c j k)

theorem l_wc_pos (c : Dev nD) (t : Fin cfg0.N) (r : Fin 512) : ∀ j (k : Fin 32), (trow m c t r).wc j ⟨800 + k.val, by omega⟩ = (aarg m c r).w j ⟨9856 + k.val, by omega⟩ :=
  fun j k => (t_wc m c t r j _).trans (wc_pos m c j k)

theorem l_wc_end (c : Dev nD) (t : Fin cfg0.N) (r : Fin 512) : ∀ j (k : Fin 64), (trow m c t r).wc j ⟨832 + k.val, by omega⟩ = 0 :=
  fun j k => (t_wc m c t r j _).trans (wc_end m c j k)

theorem l_wa (c : Dev nD) (t : Fin cfg0.N) (r : Fin 512) : ∀ j (h : Fin 8) (n : Fin 192), (trow m c t r).wa j ⟨256 * h.val + n.val, by omega⟩ = (aarg m c r).uq j ⟨192 * h.val + n.val, by omega⟩ :=
  fun j h n => (t_wa m c t r j _).trans (wa_at m c j h n)

theorem l_wa_pad (c : Dev nD) (t : Fin cfg0.N) (r : Fin 512) : ∀ j (h : Fin 8) (n : Fin 64), (trow m c t r).wa j ⟨256 * h.val + (192 + n.val), by omega⟩ = 0 :=
  fun j h n => (t_wa m c t r j _).trans (wa_pad m c j h n)

theorem l_wb_neg (c : Dev nD) (t : Fin cfg0.N) (r : Fin 512) : ∀ j (h : Fin 8) (n : Fin 32), (trow m c t r).wb j ⟨128 * h.val + n.val, by omega⟩ = -((aarg m c r).uq j ⟨192 * h.val + (160 + n.val), by omega⟩) :=
  fun j h n => (t_wb m c t r j _).trans (wb_neg m c j h n)

theorem l_wb_pos (c : Dev nD) (t : Fin cfg0.N) (r : Fin 512) : ∀ j (h : Fin 8) (n : Fin 32), (trow m c t r).wb j ⟨128 * h.val + (32 + n.val), by omega⟩ = (aarg m c r).uq j ⟨192 * h.val + (128 + n.val), by omega⟩ :=
  fun j h n => (t_wb m c t r j _).trans (wb_pos m c j h n)

theorem l_cs_lo (c : Dev nD) (t : Fin cfg0.N) (r : Fin 512) : ∀ k : Fin 32, (trow m c t r).cs ⟨k.val, by omega⟩ = (aarg m c r).c k :=
  fun k => (t_cs m c t r _).trans (cs_lo m c _ k)

theorem l_cs_hi (c : Dev nD) (t : Fin cfg0.N) (r : Fin 512) : ∀ k : Fin 32, (trow m c t r).cs ⟨32 + k.val, by omega⟩ = (aarg m c r).c k :=
  fun k => (t_cs m c t r _).trans (cs_hi m c _ k)

theorem l_cs_end (c : Dev nD) (t : Fin cfg0.N) (r : Fin 512) : ∀ k : Fin 64, (trow m c t r).cs ⟨64 + k.val, by omega⟩ = 0 :=
  fun k => (t_cs m c t r _).trans (cs_end m c _ k)

theorem l_sn_lo (c : Dev nD) (t : Fin cfg0.N) (r : Fin 512) : ∀ k : Fin 32, (trow m c t r).sn ⟨k.val, by omega⟩ = (aarg m c r).s k :=
  fun k => (t_sn m c t r _).trans (sn_lo m c _ k)

theorem l_sn_hi (c : Dev nD) (t : Fin cfg0.N) (r : Fin 512) : ∀ k : Fin 32, (trow m c t r).sn ⟨32 + k.val, by omega⟩ = (aarg m c r).s k :=
  fun k => (t_sn m c t r _).trans (sn_hi m c _ k)

theorem l_sn_end (c : Dev nD) (t : Fin cfg0.N) (r : Fin 512) : ∀ k : Fin 64, (trow m c t r).sn ⟨64 + k.val, by omega⟩ = 0 :=
  fun k => (t_sn m c t r _).trans (sn_end m c _ k)

theorem laid (c : Dev nD) (t : Fin cfg0.N) (r : Fin 512) : Laid (trow m c t r) (aarg m c r) :=
  ⟨l_x m c t r, l_fq m c t r, l_fk m c t r, rfl, l_wc m c t r, l_wc_pad m c t r, l_wc_neg m c t r, l_wc_pos m c t r, l_wc_end m c t r, l_wa m c t r, l_wa_pad m c t r, l_wb_neg m c t r, l_wb_pos m c t r, l_cs_lo m c t r, l_cs_hi m c t r, l_cs_end m c t r, l_sn_lo m c t r, l_sn_hi m c t r, l_sn_end m c t r⟩

/-! ## The results -/

theorem arr_8 (c : Dev nD) (F : ∀ c i, Fine (aarg m c i)) : (dats m 0 c).arrAt 8 cfg0.N = fun y => aout (aarg m c (y 0)) (y 1) := by
  refine (dats m 0 c).arrAt_eq_of_covers 8 _ (by decide +kernel) fun t hf y => ?_
  blk_simp
  rw [after0_8]
  refine (congrArg (out0_8 (iblk m c 0 t) (iblk m c 1 t) (iblk m c 2 t) (iblk m c 3 t) (iblk m c 4 t) (iblk m c 5 t) (iblk m c 6 t) (iblk m c 7 t)) (ix_eta y)).trans ((out8_at _ _ _ _ _ _ _ _ (y 0) (y 1)).trans ?_)
  refine (bout_eq (laid m c t (y 0)) (F c _) (y 1)).trans ?_
  refine congrArg₂ (fun i e => aout (aarg m c i) e) (Fin.ext ?_) (Fin.ext ?_)
  · blk_simp [idx_8 t]
  · blk_simp [idx_8 t]

theorem arr_9 (c : Dev nD) : (dats m 0 c).arrAt 9 cfg0.N = fun y => ack (aarg m c (y 0)) (y 1) := by
  refine (dats m 0 c).arrAt_eq_of_covers 9 _ (by decide +kernel) fun t hf y => ?_
  blk_simp
  rw [after0_9]
  refine (congrArg (out0_9 (iblk m c 0 t) (iblk m c 1 t) (iblk m c 2 t) (iblk m c 3 t) (iblk m c 4 t) (iblk m c 5 t) (iblk m c 6 t) (iblk m c 7 t)) (ix_eta y)).trans ((out9_at _ _ _ _ _ _ _ _ (y 0) (y 1)).trans ?_)
  refine (congrFun (bck_eq (laid m c t (y 0))) (y 1)).trans ?_
  refine congrArg₂ (fun i e => ack (aarg m c i) e) (Fin.ext ?_) (Fin.ext ?_)
  · blk_simp [idx_9 t]
  · blk_simp [idx_9 t]

theorem arr_10 (c : Dev nD) (F : ∀ c i, Fine (aarg m c i)) : (dats m 0 c).arrAt 10 cfg0.N = fun y => akr (aarg m c (y 0)) (y 1) := by
  refine (dats m 0 c).arrAt_eq_of_covers 10 _ (by decide +kernel) fun t hf y => ?_
  blk_simp
  rw [after0_10]
  refine (congrArg (out0_10 (iblk m c 0 t) (iblk m c 1 t) (iblk m c 2 t) (iblk m c 3 t) (iblk m c 4 t) (iblk m c 5 t) (iblk m c 6 t) (iblk m c 7 t)) (ix_eta y)).trans ((out10_at _ _ _ _ _ _ _ _ (y 0) (y 1)).trans ?_)
  refine ((congrArg (bkr (trow m c t (y 0))) (Fin.ext (by show 0 + (y 1).val = (y 1).val; omega))).trans (bkr_eq (laid m c t (y 0)) (F c _) (y 1))).trans ?_
  refine congrArg₂ (fun i e => akr (aarg m c i) e) (Fin.ext ?_) (Fin.ext ?_)
  · blk_simp [idx_10 t]
  · blk_simp [idx_10 t]

end

end Cert.Kernel8Ideal.MlaS

end
-- ==== Proof.MlaSAlg.lean ====
module

public import proofs.«01_k».proof.Defs
public import proofs.«01_k».proof.Proof.MlaAlg
public import proofs.«01_k».proof.Proof.MlaSKer
public import proofs.«01_k».proof.Proof.Gen.Reference8Ideal.Run
public import proofs.«01_k».proof.Proof.Gen.Pre_real_rows
public import Idealize.ShloMosaic.Lib.Quiescent
public import Idealize.ShloMosaic.Lib.ReduceAll

@[expose] public section

set_option maxRecDepth 16384

noncomputable section

namespace Cert.MlaSAlg

open Idealize.ShloMosaic Idealize.ShloMosaic.TcCoe Idealize.SL.Sem
open Cert.MlaModel
open Cert.Kernel8Ideal.MlaS (sangle)
open Cert.MlaAlg (krow krow_eq qrow qrow_eq re_of_lt and_bits)

section Ref

open Cert.Reference8Ideal Cert.Reference8Ideal.Gen Cert.Reference8Ideal.Value

variable (m : (ℓ : Loc nD τ sig) → Buf (Elt Ideal) ℓ)

/-- Row `i` of the reference's arguments, with the weights. -/
def rarg (c : Dev nD) (i : Fin 512) : Arg :=
  ⟨fun k => m ((c.tc : Thread nD τ).loc main_arg0) (ix2 i k), fun j k => m ((c.tc : Thread nD τ).loc main_arg1) (ix2 j k), fun k => m ((c.tc : Thread nD τ).loc main_arg2) (ix2 0 k), fun j k => m ((c.tc : Thread nD τ).loc main_arg3) (ix2 j k), fun k => m ((c.tc : Thread nD τ).loc main_arg4) (ix2 0 k), fun _ _ => 0, fun k => Ideal.cos (sangle i.val k.val), fun k => Ideal.sin (sangle i.val k.val)⟩

/-- The reference's normalised latent rows. -/
def ckOut (c : Dev nD) : FVec Ideal S512x256 .f32 := mulf (mulf (extractStridedSlice S512x256 ![0, 384] (Host.dotGeneral dot_S512x1024_S1024x704_S512x704_1_0_0_1_n_n none (extf .f32 (m ((c.tc : Thread nD τ).loc main_arg0)) bitsLt_bf16_f32) (extf .f32 (extractStridedSlice S1024x704 ![0, 9216] (m ((c.tc : Thread nD τ).loc main_arg1)) slices_S1024x10240_S1024x704_0_9216) bitsLt_bf16_f32)) slices_S512x704_S512x256_0_384) (broadcastInDim S512x256 ![0, 1] bcast_S512x1_S512x256_0_1 (Host.rsqrt (addf (Host.divf (broadcastInDim S512x1 ![0] bcast_S512_S512x1_0 (Host.reduceAdd (mulf (extractStridedSlice S512x256 ![0, 384] (Host.dotGeneral dot_S512x1024_S1024x704_S512x704_1_0_0_1_n_n none (extf .f32 (m ((c.tc : Thread nD τ).loc main_arg0)) bitsLt_bf16_f32) (extf .f32 (extractStridedSlice S1024x704 ![0, 9216] (m ((c.tc : Thread nD τ).loc main_arg1)) slices_S1024x10240_S1024x704_0_9216) bitsLt_bf16_f32)) slices_S512x704_S512x256_0_384) (extractStridedSlice S512x256 ![0, 384] (Host.dotGeneral dot_S512x1024_S1024x704_S512x704_1_0_0_1_n_n none (extf .f32 (m ((c.tc : Thread nD τ).loc main_arg0)) bitsLt_bf16_f32) (extf .f32 (extractStridedSlice S1024x704 ![0, 9216] (m ((c.tc : Thread nD τ).loc main_arg1)) slices_S1024x10240_S1024x704_0_9216) bitsLt_bf16_f32)) slices_S512x704_S512x256_0_384)) (constant S_ .f32 0x00000000#32) reducesTo_S512x256_S512_d1 h_S_)) (broadcastInDim S512x1 ![] bcast_S_S512x1 (constant S_ .f32 0x43800000#32))) (broadcastInDim S512x1 ![] bcast_S_S512x1 (constant S_ .f32 0x358637BD#32)))))) (broadcastInDim S512x256 ![0, 1] bcast_S1x256_S512x256_0_1 (m ((c.tc : Thread nD τ).loc main_arg4)))

theorem ck_at (c : Dev nD) (i : Fin 512) (e : Fin 256) : (ckOut m c (ix2 i e) : EReal) = ack (rarg m c i) e := by
  pointwise [ckOut]
  rfl

theorem q_at (c : Dev nD) (i : Fin 512) (p : Fin 2048) : (res_main_v62 m c (ix2 i p) : EReal) = aout (rarg m c i) p := by
  refine Eq.trans ?_ (qrow_eq (rarg m c i) p)
  pointwise [res_main_v62]
  unfold qrow
  have hi := i.isLt
  have hp := p.isLt
  refine dite_congr (propext ⟨fun h => h.2.2.2, fun h => ⟨by omega, by omega, by omega, h⟩⟩)
    (fun h => congrArg₂ (fun a b : EReal => a * b) (dite_congr rfl (fun h1 => rfl)
      (fun h1 => dite_congr rfl (fun h2 => congrArg₂ (fun a b : EReal => a - b) rfl rfl)
        (fun h2 => congrArg₂ (fun a b : EReal => a + b) rfl rfl))) rfl) (fun h => rfl)

theorem kr_at (c : Dev nD) (i : Fin 512) (e : Fin 64) : (res_main_v106 m c (ix2 i e) : EReal) = akr (rarg m c i) e := by
  refine Eq.trans ?_ (krow_eq (rarg m c i) e)
  pointwise [res_main_v106]
  rfl

end Ref

theorem ref_frame : Cert.quiescent_Reference8Ideal (hReference8Ideal := Cert.Reference8Ideal.Gen.facts) := fun m ρ _ =>
  (θ_run Cert.Reference8Ideal.defs _ _).mono (fun r h => ⟨fun c => (h c).2.2.2, Idealize.ShloMosaic.sem_eq_zero_of_no_sems (by decide) r.2⟩)
    (Cert.Reference8Ideal.Value.run (F := Ideal) m ρ)

theorem ref_frame_pre : Cert.quiescent_Reference8Ideal_pre_real_rows (hReference8Ideal := Cert.Reference8Ideal.Gen.facts)
    (hPre_real_rows := Cert.Pre_real_rows.Gen.facts) := fun m ρ _ =>
  (θ_run Cert.Reference8Ideal.defs _ _).mono (fun r h => ⟨fun c => (h c).2.2.2, Idealize.ShloMosaic.sem_eq_zero_of_no_sems (by decide) r.2⟩)
    (Cert.Reference8Ideal.Value.run (F := Ideal) m ρ)

instance : Subsingleton (Cert.Pre_real_rows.S_).Idx := ⟨fun a b => funext fun d => d.elim0⟩

open Cert.Kernel8Ideal Cert.Kernel8Ideal.MlaS in
/-- What the precondition says of each row. -/
theorem fine (m : (ℓ : Loc Cert.Kernel8Ideal.nD Cert.Kernel8Ideal.τ Cert.Kernel8Ideal.sig) → Buf (Elt Ideal) ℓ)
    (h : Pre_Kernel8Ideal_real_rows (hPre_real_rows := Cert.Pre_real_rows.Gen.facts) m) (c : Dev Cert.Kernel8Ideal.nD)
    (i : Fin 512) : Fine (aarg m c i) := by
  have h0 := congrFun (h c) (fun d => d.elim0)
  obtain ⟨h1, e3⟩ := and_bits _ _ h0
  obtain ⟨h2, e2⟩ := and_bits _ _ h1
  obtain ⟨e0, e1⟩ := and_bits _ _ h2
  exact ⟨fun k => re_of_lt _ (Host.reduce_andi_all _ _ _ _ _ e0 (ix2 i k)),
    fun j k => re_of_lt _ (Host.reduce_andi_all _ _ _ _ _ e1 (ix2 j k)),
    fun k => re_of_lt _ (Host.reduce_andi_all _ _ _ _ _ e2 (ix2 0 k)),
    fun j k => re_of_lt _ (Host.reduce_andi_all _ _ _ _ _ e3 (ix2 j k))⟩

open Cert.Kernel8Ideal.MlaS in
theorem algebraic : Cert.algebraic_Kernel8Ideal_Reference8Ideal_pre_real_rows (hKernel8Ideal := Cert.Kernel8Ideal.Gen.facts)
    (hReference8Ideal := Cert.Reference8Ideal.Gen.facts) (hPre_real_rows := Cert.Pre_real_rows.Gen.facts) := by
  intro m ρ m' ρ' hpre hagree
  have F := fine m hpre
  have ha : ∀ c i, rarg m' c i = aarg m c i := by
    intro c i
    obtain ⟨h0, h1, h2, h3, h4⟩ := hagree c
    unfold rarg aarg
    rw [h0, h1, h2, h3, h4]
  refine ⟨fun c => (Cert.Kernel8Ideal.Gen.dats m 0 c).arrAt 8 Cert.Kernel8Ideal.cfg0.N, fun c => (Cert.Kernel8Ideal.Gen.dats m 0 c).arrAt 9 Cert.Kernel8Ideal.cfg0.N,
    fun c => (Cert.Kernel8Ideal.Gen.dats m 0 c).arrAt 10 Cert.Kernel8Ideal.cfg0.N, ?_, ?_⟩
  · exact (θ_run Cert.Kernel8Ideal.defs _ _).mono
      (fun r h c => ⟨(h.1 c).1 8, (h.1 c).1 9, (h.1 c).1 10, h.2 c⟩)
      (θ_run_and (Cert.Kernel8Ideal.Gen.run_main (F := Ideal) m ρ) (Cert.Kernel8Ideal.Gen.unchanged (F := Ideal) m ρ))
  · refine (θ_run Cert.Reference8Ideal.defs _ _).mono
      (fun r h c => ⟨(h c).1.trans ?_, (h c).2.1.trans ?_, (h c).2.2.1.trans ?_, (h c).2.2.2⟩)
      (Cert.Reference8Ideal.Value.run (F := Ideal) m' ρ')
    · refine Eq.trans ?_ (arr_8 m c F).symm
      funext i
      exact (congrArg (Cert.Reference8Ideal.Value.res_main_v62 m' c) (Cert.Kernel7Ideal.Mla.ix_eta i)).trans
        ((q_at m' c (i 0) (i 1)).trans (congrArg (fun A => aout A (i 1)) (ha c (i 0))))
    · refine Eq.trans ?_ (arr_9 m c).symm
      funext i
      exact (congrArg (ckOut m' c) (Cert.Kernel7Ideal.Mla.ix_eta i)).trans
        ((ck_at m' c (i 0) (i 1)).trans (congrArg (fun A => ack A (i 1)) (ha c (i 0))))
    · refine Eq.trans ?_ (arr_10 m c F).symm
      funext i
      exact (congrArg (Cert.Reference8Ideal.Value.res_main_v106 m' c) (Cert.Kernel7Ideal.Mla.ix_eta i)).trans
        ((kr_at m' c (i 0) (i 1)).trans (congrArg (fun A => akr A (i 1)) (ha c (i 0))))

end Cert.MlaSAlg

end
-- ==== Proof.lean ====
module

public import proofs.«01_k».proof.Defs
public import proofs.«01_k».proof.Proof.KerFrame
public import proofs.«01_k».proof.Proof.RetFrame
public import proofs.«01_k».proof.Proof.Alg
public import proofs.«01_k».proof.Proof.ProjAlg
public import proofs.«01_k».proof.Proof.FinAlg
public import proofs.«01_k».proof.Proof.FinSAlg
public import proofs.«01_k».proof.Proof.ProjSAlg
public import proofs.«01_k».proof.Proof.MlaAlg
public import proofs.«01_k».proof.Proof.MlaSAlg
public import proofs.«01_k».proof.Proof.Gen.Pre_real_entries
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel3
public import proofs.«01_k».proof.Proof.Gen.Kernel3Ideal
public import proofs.«01_k».proof.Proof.Gen.Kernel3.Frame
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Kernel4.Frame
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5Ideal
public import proofs.«01_k».proof.Proof.Gen.Kernel5.Frame
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6Ideal
public import proofs.«01_k».proof.Proof.Gen.Kernel6.Frame
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel7
public import proofs.«01_k».proof.Proof.Gen.Kernel7Ideal
public import proofs.«01_k».proof.Proof.Gen.Kernel7.Frame
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Kernel8
public import proofs.«01_k».proof.Proof.Gen.Kernel8Ideal
public import proofs.«01_k».proof.Proof.Gen.Kernel8.Frame
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Pre_real_rows
public import Idealize.ShloMosaic.Lib.Quiescent

@[expose] public section

open Idealize.ShloMosaic Idealize.ShloMosaic.TcCoe Idealize.SL.Sem

namespace Cert.Proof

theorem claim : Cert.Claim :=
  ⟨Cert.Kernel.Gen.facts, Cert.KernelIdeal.Gen.facts, Cert.ReferenceIdeal.Gen.facts,
   Cert.Kernel3.Gen.facts, Cert.Kernel3Ideal.Gen.facts, Cert.Reference3Ideal.Gen.facts,
   Cert.Kernel4.Gen.facts, Cert.Kernel4Ideal.Gen.facts, Cert.Reference4Ideal.Gen.facts,
   Cert.Kernel5.Gen.facts, Cert.Kernel5Ideal.Gen.facts, Cert.Reference5Ideal.Gen.facts,
   Cert.Kernel6.Gen.facts, Cert.Kernel6Ideal.Gen.facts, Cert.Reference6Ideal.Gen.facts,
   Cert.Kernel7.Gen.facts, Cert.Kernel7Ideal.Gen.facts, Cert.Reference7Ideal.Gen.facts,
   Cert.Kernel8.Gen.facts, Cert.Kernel8Ideal.Gen.facts, Cert.Reference8Ideal.Gen.facts,
   Cert.Pre_real_entries.Gen.facts, Cert.Pre_real_rows.Gen.facts,
   Cert.RetAlg.ker_frame, fun m ρ _ => Cert.KernelIdeal.Ret.frame m ρ, Cert.RetAlg.ref_frame,
   fun m ρ _ => Cert.Kernel3.Gen.frame m ρ, fun m ρ _ => Cert.Kernel3Ideal.Gen.frame m ρ, Cert.ProjAlg.ref_frame,
   fun m ρ _ => Cert.Kernel4.Gen.frame m ρ, fun m ρ _ => Cert.Kernel4Ideal.Gen.frame m ρ, Cert.FinAlg.ref_frame,
   fun m ρ _ => Cert.Kernel5.Gen.frame m ρ, fun m ρ _ => Cert.Kernel5Ideal.Gen.frame m ρ, Cert.FinSAlg.ref_frame,
   fun m ρ _ => Cert.Kernel6.Gen.frame m ρ, fun m ρ _ => Cert.Kernel6Ideal.Gen.frame m ρ, Cert.ProjSAlg.ref_frame,
   fun m ρ _ => Cert.Kernel7.Gen.frame m ρ, fun m ρ _ => Cert.Kernel7Ideal.Gen.frame m ρ, fun m ρ _ => Cert.Kernel7Ideal.Gen.frame m ρ, Cert.MlaAlg.ref_frame, Cert.MlaAlg.ref_frame_pre,
   fun m ρ _ => Cert.Kernel8.Gen.frame m ρ, fun m ρ _ => Cert.Kernel8Ideal.Gen.frame m ρ, fun m ρ _ => Cert.Kernel8Ideal.Gen.frame m ρ, Cert.MlaSAlg.ref_frame, Cert.MlaSAlg.ref_frame_pre,
   trivial, Cert.RetAlg.algebraic, trivial, Cert.ProjAlg.algebraic,
   trivial, Cert.FinAlg.algebraic,
   trivial, Cert.FinSAlg.algebraic,
   trivial, Cert.ProjSAlg.algebraic,
   trivial, Cert.MlaAlg.algebraic,
   trivial, Cert.MlaSAlg.algebraic⟩

end Cert.Proof
